-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v34_3)) (v1 : (c : Dev Cert.Kernel4Ideal.nD) → Buf (Elt Ideal) ((c.tc : Thread Cert.Kernel4Ideal.nD Cert.Kernel4Ideal.τ).loc Cert.Kernel4Ideal.main_v34_4)) (v2 : (c : Dev Cert.Kernel4Ideal.nD) → Buf (Elt Ideal) ((c.tc : Thread Cert.Kernel4Ideal.nD Cert.Kernel4Ideal.τ).loc Cert.Kernel4Ideal.main_v34_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_3) = v0 c
          ∧ r.2.mem ((c.tc : Thread Cert.Kernel4Ideal.nD Cert.Kernel4Ideal.τ).loc Cert.Kernel4Ideal.main_v34_4) = v1 c
          ∧ r.2.mem ((c.tc : Thread Cert.Kernel4Ideal.nD Cert.Kernel4Ideal.τ).loc Cert.Kernel4Ideal.main_v34_5) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S2x8x8192x128 : Shape := ⟨4, ![2, 8, 8192, 128]⟩
abbrev S36 : Shape := ⟨1, ![36]⟩
abbrev S16384x512 : Shape := ⟨2, ![16384, 512]⟩
abbrev S1x2x1024x128 : Shape := ⟨4, ![1, 2, 1024, 128]⟩
abbrev S1 : Shape := ⟨1, ![1]⟩
abbrev S1024x128 : Shape := ⟨2, ![1024, 128]⟩
abbrev S2x1024x128 : Shape := ⟨3, ![2, 1024, 128]⟩
abbrev S1x1x1024x128 : Shape := ⟨4, ![1, 1, 1024, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩
abbrev S1x1x256x128 : Shape := ⟨4, ![1, 1, 256, 128]⟩
abbrev S256x128 : Shape := ⟨2, ![256, 128]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩

abbrev nBuf : Space → Nat
  | .hbm => 4
  | .vmem => 10
  | .smem => 2
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x8x8192x128, .bf16⟩
  | .hbm, ⟨3, _⟩ => ⟨S16384x512, .f32⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x1024x128, .bf16⟩
  | .local _ .vmem, ⟨3, _⟩ => ⟨S1x2x1024x128, .bf16⟩
  | .local _ .vmem, ⟨4, _⟩ => ⟨S1x2x1024x128, .bf16⟩
  | .local _ .vmem, ⟨5, _⟩ => ⟨S1x2x1024x128, .bf16⟩
  | .local _ .vmem, ⟨6, _⟩ => ⟨S1024x128, .f32⟩
  | .local _ .vmem, ⟨7, _⟩ => ⟨S1024x128, .f32⟩
  | .local _ .vmem, ⟨8, _⟩ => ⟨S2x1024x128, .f32⟩
  | .local _ .vmem, ⟨9, _⟩ => ⟨S2x1024x128, .f32⟩
  | .local _ .smem, ⟨0, _⟩ => ⟨S36, .i32⟩
  | .local _ .smem, ⟨1, _⟩ => ⟨S36, .i32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  let c0_i32_0 : BitVec 32 := 0#32
  ![arg0.toNat, arg1.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  let c0_i32_0 : BitVec 32 := 0#32
  ![arg0.toNat, arg1.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  let c0_i32_0 : BitVec 32 := 0#32
  ![arg0.toNat, arg1.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x8192x128 : Shape := ⟨4, ![2, 8, 8192, 128]⟩
abbrev S2x8x8192x8192 : Shape := ⟨4, ![2, 8, 8192, 8192]⟩
abbrev S8192 : Shape := ⟨1, ![8192]⟩
abbrev S1x1x1x8192 : Shape := ⟨4, ![1, 1, 1, 8192]⟩
abbrev S1x1x8192x1 : Shape := ⟨4, ![1, 1, 8192, 1]⟩
abbrev S1x1x8192x8192 : Shape := ⟨4, ![1, 1, 8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x8192x64 : Shape := ⟨4, ![2, 8, 8192, 64]⟩
abbrev S2x8192x8x64 : Shape := ⟨4, ![2, 8192, 8, 64]⟩
abbrev S16384x512 : Shape := ⟨2, ![16384, 512]⟩

abbrev nBuf : Space → Nat
  | .hbm => 34
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x8x8192x128, .bf16⟩
  | .hbm, ⟨3, _⟩ => ⟨S2x8x8192x128, .f32⟩
  | .hbm, ⟨4, _⟩ => ⟨S2x8x8192x128, .f32⟩
  | .hbm, ⟨5, _⟩ => ⟨S2x8x8192x128, .f32⟩
  | .hbm, ⟨6, _⟩ => ⟨S2x8x8192x8192, .f32⟩
  | .hbm, ⟨7, _⟩ => ⟨S8192, .i32⟩
  | .hbm, ⟨8, _⟩ => ⟨S1x1x1x8192, .i32⟩
  | .hbm, ⟨9, _⟩ => ⟨S1x1x8192x1, .i32⟩
  | .hbm, ⟨10, _⟩ => ⟨S1x1x8192x8192, .i32⟩
  | .hbm, ⟨11, _⟩ => ⟨S1x1x8192x8192, .i32⟩
  | .hbm, ⟨12, _⟩ => ⟨S1x1x8192x8192, .i1⟩
  | .hbm, ⟨13, _⟩ => ⟨S_, .f32⟩
  | .hbm, ⟨14, _⟩ => ⟨S_, .f32⟩
  | .hbm, ⟨15, _⟩ => ⟨S2x8x8192x8192, .i1⟩
  | .hbm, ⟨16, _⟩ => ⟨S2x8x8192x8192, .f32⟩
  | .hbm, ⟨17, _⟩ => ⟨S2x8x8192x8192, .f32⟩
  | .hbm, ⟨18, _⟩ => ⟨S_, .f32⟩
  | .hbm, ⟨19, _⟩ => ⟨S2x8x8192, .f32⟩
  | .hbm, ⟨20, _⟩ => ⟨S2x8x8192x1, .f32⟩
  | .hbm, ⟨21, _⟩ => ⟨S2x8x8192x8192, .f32⟩
  | .hbm, ⟨22, _⟩ => ⟨S2x8x8192x8192, .f32⟩
  | .hbm, ⟨23, _⟩ => ⟨S_, .f32⟩
  | .hbm, ⟨24, _⟩ => ⟨S2x8x8192x8192, .f32⟩
  | .hbm, ⟨25, _⟩ => ⟨S2x8x8192x8192, .f32⟩
  | .hbm, ⟨26, _⟩ => ⟨S2x8x8192x64, .f32⟩
  | .hbm, ⟨27, _⟩ => ⟨S2x8x8192x64, .f32⟩
  | .hbm, ⟨28, _⟩ => ⟨S2x8x8192x1, .f32⟩
  | .hbm, ⟨29, _⟩ => ⟨S2x8x8192x1, .f32⟩
  | .hbm, ⟨30, _⟩ => ⟨S2x8x8192x64, .f32⟩
  | .hbm, ⟨31, _⟩ => ⟨S2x8x8192x64, .f32⟩
  | .hbm, ⟨32, _⟩ => ⟨S2x8192x8x64, .f32⟩
  | .hbm, ⟨33, _⟩ => ⟨S16384x512, .f32⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel2.lean ====
abbrev S16384x512 : Shape := ⟨2, ![16384, 512]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S1024x512 : Shape := ⟨2, ![1024, 512]⟩
abbrev S1x1x1024 : Shape := ⟨3, ![1, 1, 1024]⟩
abbrev S512x1024 : Shape := ⟨2, ![512, 1024]⟩
abbrev S1x1024x1024 : Shape := ⟨3, ![1, 1024, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S4x1024x4096, .bf16⟩
  | .hbm, ⟨12, _⟩ => ⟨S4x4096x1024, .bf16⟩
  | .hbm, ⟨13, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .bf16⟩
  | .local _ .vmem, ⟨27, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference2Ideal.lean ====
abbrev S16384x512 : Shape := ⟨2, ![16384, 512]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S4x1024x4096, .bf16⟩
  | .hbm, ⟨12, _⟩ => ⟨S4x4096x1024, .bf16⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1, .f32⟩
  | .hbm, ⟨48, _⟩ => ⟨S2x8192x1024, .f32⟩
  | .hbm, ⟨49, _⟩ => ⟨S2x8192x1024, .f32⟩
  | .hbm, ⟨50, _⟩ => ⟨S1x1x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S1x1024x4096, .bf16⟩
  | .hbm, ⟨61, _⟩ => ⟨S1024x4096, .bf16⟩
  | .hbm, ⟨62, _⟩ => ⟨S1024x4096, .f32⟩
  | .hbm, ⟨63, _⟩ => ⟨S2x8192x4096, .f32⟩
  | .hbm, ⟨64, _⟩ => ⟨S_, .f32⟩
  | .hbm, ⟨65, _⟩ => ⟨S2x8192x4096, .f32⟩
  | .hbm, ⟨66, _⟩ => ⟨S2x8192x4096, .f32⟩
  | .hbm, ⟨67, _⟩ => ⟨S2x8192x4096, .f32⟩
  | .hbm, ⟨68, _⟩ => ⟨S1x4096x1024, .bf16⟩
  | .hbm, ⟨69, _⟩ => ⟨S4096x1024, .bf16⟩
  | .hbm, ⟨70, _⟩ => ⟨S4096x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Kernel3.lean ====
abbrev S16384x1024 : Shape := ⟨2, ![16384, 1024]⟩
abbrev S2x1x1024 : Shape := ⟨3, ![2, 1, 1024]⟩
abbrev S1x1024 : Shape := ⟨2, ![1, 1024]⟩
abbrev S1024x3840 : Shape := ⟨2, ![1024, 3840]⟩
abbrev S16384x3840 : Shape := ⟨2, ![16384, 3840]⟩
abbrev S1024x1024 : Shape := ⟨2, ![1024, 1024]⟩
abbrev S1x1x1024 : Shape := ⟨3, ![1, 1, 1024]⟩
abbrev S1024x1280 : Shape := ⟨2, ![1024, 1280]⟩
abbrev S256x1024 : Shape := ⟨2, ![256, 1024]⟩
abbrev S256 : Shape := ⟨1, ![256]⟩
abbrev S256x1 : Shape := ⟨2, ![256, 1]⟩
abbrev S256x1280 : Shape := ⟨2, ![256, 1280]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x3840, .bf16⟩
  | .hbm, ⟨5, _⟩ => ⟨S16384x3840, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1024x1280, .f32⟩
  | .local _ .vmem, ⟨10, _⟩ => ⟨S1024x1280, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x1024 : Shape := ⟨2, ![16384, 1024]⟩
abbrev S2x1x1024 : Shape := ⟨3, ![2, 1, 1024]⟩
abbrev S1x1024 : Shape := ⟨2, ![1, 1024]⟩
abbrev S1024x3840 : Shape := ⟨2, ![1024, 3840]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3840 : Shape := ⟨3, ![2, 8192, 3840]⟩
abbrev S16384x3840 : Shape := ⟨2, ![16384, 3840]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x3840, .bf16⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S1024x3840, .f32⟩
  | .hbm, ⟨30, _⟩ => ⟨S2x8192x3840, .f32⟩
  | .hbm, ⟨31, _⟩ => ⟨S16384x3840, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel4.lean ====
abbrev S16384x3840 : Shape := ⟨2, ![16384, 3840]⟩
abbrev S1x128 : Shape := ⟨2, ![1, 128]⟩
abbrev S384 : Shape := ⟨1, ![384]⟩
abbrev S2048 : Shape := ⟨1, ![2048]⟩
abbrev S_ : Shape := ⟨0, ![]⟩
abbrev S384x1 : Shape := ⟨2, ![384, 1]⟩
abbrev S1x2048 : Shape := ⟨2, ![1, 2048]⟩
abbrev S384x2048 : Shape := ⟨2, ![384, 2048]⟩
abbrev S2x8x8192x128 : Shape := ⟨4, ![2, 8, 8192, 128]⟩
abbrev S2x512x8192 : Shape := ⟨3, ![2, 512, 8192]⟩
abbrev S2x8x8192 : Shape := ⟨3, ![2, 8, 8192]⟩
abbrev S512x512 : Shape := ⟨2, ![512, 512]⟩
abbrev S512x128 : Shape := ⟨2, ![512, 128]⟩
abbrev S1x8x512x128 : Shape := ⟨4, ![1, 8, 512, 128]⟩
abbrev S1x512x512 : Shape := ⟨3, ![1, 512, 512]⟩
abbrev S1x8x512 : Shape := ⟨3, ![1, 8, 512]⟩
abbrev S128x512 : Shape := ⟨2, ![128, 512]⟩
abbrev S8x512 : Shape := ⟨2, ![8, 512]⟩
abbrev S512x384 : Shape := ⟨2, ![512, 384]⟩
abbrev S512x2048 : Shape := ⟨2, ![512, 2048]⟩
abbrev S1x128x512 : Shape := ⟨3, ![1, 128, 512]⟩
abbrev S1x1x512x128 : Shape := ⟨4, ![1, 1, 512, 128]⟩

abbrev nBuf : Space → Nat
  | .hbm => 165
  | .vmem => 23
  | .smem => 0
  | _ => 0

abbrev hbmTy0_0 (i : Nat) : BufTy := match i % 128 with
  | 0 => ⟨S16384x3840, .f32⟩
  | 1 => ⟨S1x128, .f32⟩
  | 2 => ⟨S384, .i32⟩
  | 3 => ⟨S2048, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S384, .i32⟩
  | 11 => ⟨S384, .i32⟩
  | 12 => ⟨S_, .i32⟩
  | 13 => ⟨S384, .i32⟩
  | 14 => ⟨S384, .i1⟩
  | 15 => ⟨S_, .i32⟩
  | 16 => ⟨S384, .i32⟩
  | 17 => ⟨S384, .i1⟩
  | 18 => ⟨S_, .i32⟩
  | 19 => ⟨S_, .i1⟩
  | 20 => ⟨S384, .i1⟩
  | 21 => ⟨S384, .i1⟩
  | 22 => ⟨S384, .i1⟩
  | 23 => ⟨S384, .i32⟩
  | 24 => ⟨S384, .i32⟩
  | 25 => ⟨S384, .i32⟩
  | 26 => ⟨S384x1, .i32⟩
  | 27 => ⟨S_, .i32⟩
  | 28 => ⟨S_, .i32⟩
  | 29 => ⟨S2048, .i32⟩
  | 30 => ⟨S2048, .i32⟩
  | 31 => ⟨S2048, .i32⟩
  | 32 => ⟨S_, .i32⟩
  | 33 => ⟨S2048, .i32⟩
  | 34 => ⟨S2048, .i1⟩
  | 35 => ⟨S2048, .i32⟩
  | 36 => ⟨S2048, .i32⟩
  | 37 => ⟨S_, .i32⟩
  | 38 => ⟨S2048, .i32⟩
  | 39 => ⟨S2048, .i1⟩
  | 40 => ⟨S2048, .i1⟩
  | 41 => ⟨S_, .i32⟩
  | 42 => ⟨S2048, .i32⟩
  | 43 => ⟨S2048, .i32⟩
  | 44 => ⟨S2048, .i32⟩
  | 45 => ⟨S_, .i32⟩
  | 46 => ⟨S2048, .i32⟩
  | 47 => ⟨S2048, .i32⟩
  | 48 => ⟨S1x2048, .i32⟩
  | 49 => ⟨S384x2048, .i32⟩
  | 50 => ⟨S384x2048, .i32⟩
  | 51 => ⟨S384x2048, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i1⟩
  | 66 => ⟨S_, .i32⟩
  | 67 => ⟨S_, .i1⟩
  | 68 => ⟨S2048, .i1⟩
  | 69 => ⟨S2048, .i1⟩
  | 70 => ⟨S2048, .i1⟩
  | 71 => ⟨S2048, .i32⟩
  | 72 => ⟨S2048, .i32⟩
  | 73 => ⟨S2048, .i32⟩
  | 74 => ⟨S1x2048, .i32⟩
  | 75 => ⟨S_, .i32⟩
  | 76 => ⟨S_, .i32⟩
  | 77 => ⟨S384, .i32⟩
  | 78 => ⟨S384, .i32⟩
  | 79 => ⟨S384, .i32⟩
  | 80 => ⟨S_, .i32⟩
  | 81 => ⟨S384, .i32⟩
  | 82 => ⟨S384, .i1⟩
  | 83 => ⟨S384, .i32⟩
  | 84 => ⟨S384, .i32⟩
  | 85 => ⟨S_, .i32⟩
  | 86 => ⟨S384, .i32⟩
  | 87 => ⟨S384, .i1⟩
  | 88 => ⟨S384, .i1⟩
  | 89 => ⟨S_, .i32⟩
  | 90 => ⟨S384, .i32⟩
  | 91 => ⟨S384, .i32⟩
  | 92 => ⟨S384, .i32⟩
  | 93 => ⟨S_, .i32⟩
  | 94 => ⟨S384, .i32⟩
  | 95 => ⟨S384, .i32⟩
  | 96 => ⟨S384x1, .i32⟩
  | 97 => ⟨S384x2048, .i32⟩
  | 98 => ⟨S384x2048, .i32⟩
  | 99 => ⟨S384x2048, .i1⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S2048, .i32⟩
  | 107 => ⟨S2048, .i32⟩
  | 108 => ⟨S_, .i32⟩
  | 109 => ⟨S2048, .i32⟩
  | 110 => ⟨S2048, .i1⟩
  | 111 => ⟨S_, .i32⟩
  | 112 => ⟨S2048, .i32⟩
  | 113 => ⟨S2048, .i1⟩
  | 114 => ⟨S_, .i32⟩
  | 115 => ⟨S_, .i1⟩
  | 116 => ⟨S2048, .i1⟩
  | 117 => ⟨S2048, .i1⟩
  | 118 => ⟨S2048, .i1⟩
  | 119 => ⟨S2048, .i32⟩
  | 120 => ⟨S2048, .i32⟩
  | 121 => ⟨S2048, .i32⟩
  | 122 => ⟨S1x2048, .i32⟩
  | 123 => ⟨S_, .i32⟩
  | 124 => ⟨S_, .i32⟩
  | 125 => ⟨S384, .i32⟩
  | 126 => ⟨S384, .i32⟩
  | 127 => ⟨S384, .i32⟩
  | _ => ⟨S16384x3840, .f32⟩

abbrev hbmTy0_1 (i : Nat) : BufTy := match i % 128 with
  | 0 => ⟨S_, .i32⟩
  | 1 => ⟨S384, .i32⟩
  | 2 => ⟨S384, .i1⟩
  | 3 => ⟨S384, .i32⟩
  | 4 => ⟨S384, .i32⟩
  | 5 => ⟨S_, .i32⟩
  | 6 => ⟨S384, .i32⟩
  | 7 => ⟨S384, .i1⟩
  | 8 => ⟨S384, .i1⟩
  | 9 => ⟨S_, .i32⟩
  | 10 => ⟨S384, .i32⟩
  | 11 => ⟨S384, .i32⟩
  | 12 => ⟨S384, .i32⟩
  | 13 => ⟨S_, .i32⟩
  | 14 => ⟨S384, .i32⟩
  | 15 => ⟨S384, .i32⟩
  | 16 => ⟨S384x1, .i32⟩
  | 17 => ⟨S384x2048, .i32⟩
  | 18 => ⟨S384x2048, .i32⟩
  | 19 => ⟨S384x2048, .i1⟩
  | 20 => ⟨S384x2048, .i1⟩
  | 21 => ⟨S384x2048, .i1⟩
  | 22 => ⟨S_, .f32⟩
  | 23 => ⟨S_, .f32⟩
  | 24 => ⟨S384x2048, .f32⟩
  | 25 => ⟨S384x2048, .f32⟩
  | 26 => ⟨S384x2048, .f32⟩
  | 27 => ⟨S_, .f32⟩
  | 28 => ⟨S384x2048, .f32⟩
  | 29 => ⟨S384x2048, .f32⟩
  | 30 => ⟨S384x2048, .bf16⟩
  | 31 => ⟨S2x8x8192x128, .bf16⟩
  | 32 => ⟨S2x8x8192x128, .bf16⟩
  | 33 => ⟨S2x8x8192x128, .bf16⟩
  | 34 => ⟨S2x512x8192, .f32⟩
  | 35 => ⟨S2x512x8192, .f32⟩
  | 36 => ⟨S2x8x8192, .f32⟩
  | _ => ⟨S16384x3840, .f32⟩

abbrev hbmTy (i : Nat) : BufTy := match i / 128 with
  | 0 => hbmTy0_0 i
  | 1 => hbmTy0_1 i
  | _ => ⟨S16384x3840, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S384x2048, .bf16⟩
  | .local _ .vmem, ⟨10, _⟩ => ⟨S1x8x512x128, .bf16⟩
  | .local _ .vmem, ⟨11, _⟩ => ⟨S1x8x512x128, .bf16⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x8x512, .f32⟩
  | .local _ .vmem, ⟨21, _⟩ => ⟨S1x8x512, .f32⟩
  | .local _ .vmem, ⟨22, _⟩ => ⟨S1x128, .f32⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_c_2 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v11 : Ref sig .tc := ⟨.hbm, 73, rfl⟩
abbrev main_v12 : Ref sig .tc := ⟨.hbm, 74, rfl⟩
abbrev main_c_3 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v13 : Ref sig .tc := ⟨.hbm, 92, rfl⟩
abbrev main_c_4 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_c_5 : Ref sig .tc := ⟨.hbm, 100, rfl⟩
abbrev main_call4_v0 : Ref sig .tc := ⟨.hbm, 101, rfl⟩
abbrev main_call4_c : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_1 : Ref sig .tc := ⟨.hbm, 108, rfl⟩
abbrev main_call4_v5 : Ref sig .tc := ⟨.hbm, 109, rfl⟩
abbrev main_call4_v6 : Ref sig .tc := ⟨.hbm, 110, rfl⟩
abbrev main_call4_c_2 : Ref sig .tc := ⟨.hbm, 111, rfl⟩
abbrev main_call4_v7 : Ref sig .tc := ⟨.hbm, 112, rfl⟩
abbrev main_call4_v8 : Ref sig .tc := ⟨.hbm, 113, rfl⟩
abbrev main_call4_c_3 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_v20 : Ref sig .tc := ⟨.hbm, 121, rfl⟩
abbrev main_v21 : Ref sig .tc := ⟨.hbm, 122, rfl⟩
abbrev main_c_6 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_c : Ref sig .tc := ⟨.hbm, 133, rfl⟩
abbrev main_call5_v9 : Ref sig .tc := ⟨.hbm, 134, rfl⟩
abbrev main_call5_v10 : Ref sig .tc := ⟨.hbm, 135, rfl⟩
abbrev main_call5_v11 : Ref sig .tc := ⟨.hbm, 136, rfl⟩
abbrev main_call5_c_0 : Ref sig .tc := ⟨.hbm, 137, rfl⟩
abbrev main_call5_v12 : Ref sig .tc := ⟨.hbm, 138, rfl⟩
abbrev main_call5_v13 : Ref sig .tc := ⟨.hbm, 139, rfl⟩
abbrev main_v22 : Ref sig .tc := ⟨.hbm, 140, rfl⟩
abbrev main_c_7 : Ref sig .tc := ⟨.hbm, 141, rfl⟩
abbrev main_v23 : Ref sig .tc := ⟨.hbm, 142, rfl⟩
abbrev main_v24 : Ref sig .tc := ⟨.hbm, 143, rfl⟩
abbrev main_v25 : Ref sig .tc := ⟨.hbm, 144, rfl⟩
abbrev main_v26 : Ref sig .tc := ⟨.hbm, 145, rfl⟩
abbrev main_v27 : Ref sig .tc := ⟨.hbm, 146, rfl⟩
abbrev main_v28 : Ref sig .tc := ⟨.hbm, 147, rfl⟩
abbrev main_v29 : Ref sig .tc := ⟨.hbm, 148, rfl⟩
abbrev main_v30 : Ref sig .tc := ⟨.hbm, 149, rfl⟩
abbrev main_cst : Ref sig .tc := ⟨.hbm, 150, rfl⟩
abbrev main_cst_8 : Ref sig .tc := ⟨.hbm, 151, rfl⟩
abbrev main_call6_v0 : Ref sig .tc := ⟨.hbm, 152, rfl⟩
abbrev main_call6_v1 : Ref sig .tc := ⟨.hbm, 153, rfl⟩
abbrev main_v31 : Ref sig .tc := ⟨.hbm, 154, rfl⟩
abbrev main_cst_9 : Ref sig .tc := ⟨.hbm, 155, rfl⟩
abbrev main_call7_v0 : Ref sig .tc := ⟨.hbm, 156, rfl⟩
abbrev main_v32 : Ref sig .tc := ⟨.hbm, 157, rfl⟩
abbrev main_v33 : Ref sig .tc := ⟨.hbm, 158, rfl⟩
abbrev main_v34_0 : Ref sig .tc := ⟨.hbm, 159, rfl⟩
abbrev main_v34_1 : Ref sig .tc := ⟨.hbm, 160, rfl⟩
abbrev main_v34_2 : Ref sig .tc := ⟨.hbm, 161, rfl⟩
abbrev main_v34_3 : Ref sig .tc := ⟨.hbm, 162, rfl⟩
abbrev main_v34_4 : Ref sig .tc := ⟨.hbm, 163, rfl⟩
abbrev main_v34_5 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c28_i32 : BitVec 32 := 28#32
  let c0_i32 : BitVec 32 := 0#32
  ![v1.toNat, c28_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S16384x3840 : Shape := ⟨2, ![16384, 3840]⟩
abbrev S1x128 : Shape := ⟨2, ![1, 128]⟩
abbrev S2x8192x3840 : Shape := ⟨3, ![2, 8192, 3840]⟩
abbrev S2x8192x512 : Shape := ⟨3, ![2, 8192, 512]⟩
abbrev S2x8192x8 : Shape := ⟨3, ![2, 8192, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S2x512x8192 : Shape := ⟨3, ![2, 512, 8192]⟩
abbrev S2x8x8192 : Shape := ⟨3, ![2, 8, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16384x3840, .f32⟩
  | .hbm, ⟨1, _⟩ => ⟨S1x128, .f32⟩
  | .hbm, ⟨2, _⟩ => ⟨S2x8192x3840, .f32⟩
  | .hbm, ⟨3, _⟩ => ⟨S2x8192x512, .f32⟩
  | .hbm, ⟨4, _⟩ => ⟨S2x8192x512, .f32⟩
  | .hbm, ⟨5, _⟩ => ⟨S2x8192x8, .f32⟩
  | .hbm, ⟨6, _⟩ => ⟨S1x8, .f32⟩
  | .hbm, ⟨7, _⟩ => ⟨S8, .f32⟩
  | .hbm, ⟨8, _⟩ => ⟨S1x1x8, .f32⟩
  | .hbm, ⟨9, _⟩ => ⟨S2x8192x8, .f32⟩
  | .hbm, ⟨10, _⟩ => ⟨S2x8192x8, .f32⟩
  | .hbm, ⟨11, _⟩ => ⟨S2x8192x8, .f32⟩
  | .hbm, ⟨12, _⟩ => ⟨S_, .f32⟩
  | .hbm, ⟨13, _⟩ => ⟨S2x8192x8, .f32⟩
  | .hbm, ⟨14, _⟩ => ⟨S2x8192x8, .f32⟩
  | .hbm, ⟨15, _⟩ => ⟨S2x8192x8, .f32⟩
  | .hbm, ⟨16, _⟩ => ⟨S2x8192x8, .f32⟩
  | .hbm, ⟨17, _⟩ => ⟨S2x8192x8, .i1⟩
  | .hbm, ⟨18, _⟩ => ⟨S2x8192x8, .f32⟩
  | .hbm, ⟨19, _⟩ => ⟨S2x8192x8, .f32⟩
  | .hbm, ⟨20, _⟩ => ⟨S2x8192x8, .f32⟩
  | .hbm, ⟨21, _⟩ => ⟨S2x8192x8, .f32⟩
  | .hbm, ⟨22, _⟩ => ⟨S2x8192x8, .f32⟩
  | .hbm, ⟨23, _⟩ => ⟨S2x8192x8, .f32⟩
  | .hbm, ⟨24, _⟩ => ⟨S2x8192x8, .f32⟩
  | .hbm, ⟨25, _⟩ => ⟨S2x8192x8, .f32⟩
  | .hbm, ⟨26, _⟩ => ⟨S2x8192x8, .f32⟩
  | .hbm, ⟨27, _⟩ => ⟨S2x512x8192, .f32⟩
  | .hbm, ⟨28, _⟩ => ⟨S2x512x8192, .f32⟩
  | .hbm, ⟨29, _⟩ => ⟨S2x8x8192, .f32⟩
  | _, _ => ⟨S16384x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩

abbrev nD : Nat := 1
abbrev τ : Topo := Topo.v7x

variable {F : FTy → Type} [FloatOps F]
-- ==== Kernel5.lean ====
abbrev S256x3840 : Shape := ⟨2, ![256, 3840]⟩
abbrev S1x128 : Shape := ⟨2, ![1, 128]⟩
abbrev S256x8 : Shape := ⟨2, ![256, 8]⟩
abbrev S256x128 : Shape := ⟨2, ![256, 128]⟩

abbrev nBuf : Space → Nat
  | .hbm => 3
  | .vmem => 3
  | .smem => 0
  | _ => 0

abbrev bufTy : (tb : Table) → Fin (tcTables nBuf tb) → BufTy
  | .hbm, ⟨0, _⟩ => ⟨S256x3840, .f32⟩
  | .hbm, ⟨1, _⟩ => ⟨S1x128, .f32⟩
  | .hbm, ⟨2, _⟩ => ⟨S256x8, .f32⟩
  | .local _ .vmem, ⟨0, _⟩ => ⟨S256x128, .f32⟩
  | .local _ .vmem, ⟨1, _⟩ => ⟨S1x128, .f32⟩
  | .local _ .vmem, ⟨2, _⟩ => ⟨S256x8, .f32⟩
  | _, _ => ⟨S256x3840, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c28_i32 : BitVec 32 := 28#32
  let c0_i32_0 : BitVec 32 := 0#32
  ![c0_i32.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S256x3840 : Shape := ⟨2, ![256, 3840]⟩
abbrev S1x128 : Shape := ⟨2, ![1, 128]⟩
abbrev S256x8 : Shape := ⟨2, ![256, 8]⟩
abbrev S1x8 : Shape := ⟨2, ![1, 8]⟩
abbrev S8 : Shape := ⟨1, ![8]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S256x3840, .f32⟩
  | .hbm, ⟨1, _⟩ => ⟨S1x128, .f32⟩
  | .hbm, ⟨2, _⟩ => ⟨S256x8, .f32⟩
  | .hbm, ⟨3, _⟩ => ⟨S1x8, .f32⟩
  | .hbm, ⟨4, _⟩ => ⟨S8, .f32⟩
  | .hbm, ⟨5, _⟩ => ⟨S1x8, .f32⟩
  | .hbm, ⟨6, _⟩ => ⟨S256x8, .f32⟩
  | .hbm, ⟨7, _⟩ => ⟨S256x8, .f32⟩
  | .hbm, ⟨8, _⟩ => ⟨S256x8, .f32⟩
  | .hbm, ⟨9, _⟩ => ⟨S_, .f32⟩
  | .hbm, ⟨10, _⟩ => ⟨S256x8, .f32⟩
  | .hbm, ⟨11, _⟩ => ⟨S256x8, .f32⟩
  | .hbm, ⟨12, _⟩ => ⟨S256x8, .f32⟩
  | .hbm, ⟨13, _⟩ => ⟨S256x8, .f32⟩
  | .hbm, ⟨14, _⟩ => ⟨S256x8, .i1⟩
  | .hbm, ⟨15, _⟩ => ⟨S256x8, .f32⟩
  | .hbm, ⟨16, _⟩ => ⟨S256x8, .f32⟩
  | .hbm, ⟨17, _⟩ => ⟨S256x8, .f32⟩
  | .hbm, ⟨18, _⟩ => ⟨S256x8, .f32⟩
  | .hbm, ⟨19, _⟩ => ⟨S256x8, .f32⟩
  | .hbm, ⟨20, _⟩ => ⟨S256x8, .f32⟩
  | .hbm, ⟨21, _⟩ => ⟨S256x8, .f32⟩
  | .hbm, ⟨22, _⟩ => ⟨S256x8, .f32⟩
  | .hbm, ⟨23, _⟩ => ⟨S256x8, .f32⟩
  | _, _ => ⟨S256x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩

abbrev nD : Nat := 1
abbrev τ : Topo := Topo.v7x

variable {F : FTy → Type} [FloatOps F]
-- ==== Kernel6.lean ====
abbrev S256x1024 : Shape := ⟨2, ![256, 1024]⟩
abbrev S1x256x1024 : Shape := ⟨3, ![1, 256, 1024]⟩
abbrev S1x1024 : Shape := ⟨2, ![1, 1024]⟩
abbrev S1024x3840 : Shape := ⟨2, ![1024, 3840]⟩
abbrev S256x3840 : Shape := ⟨2, ![256, 3840]⟩
abbrev S1024x1280 : Shape := ⟨2, ![1024, 1280]⟩
abbrev S256x1280 : Shape := ⟨2, ![256, 1280]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x1024, .f32⟩
  | .hbm, ⟨4, _⟩ => ⟨S1024x3840, .bf16⟩
  | .hbm, ⟨5, _⟩ => ⟨S256x3840, .f32⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1024, .f32⟩
  | .local _ .vmem, ⟨4, _⟩ => ⟨S1024x1280, .bf16⟩
  | .local _ .vmem, ⟨5, _⟩ => ⟨S1024x1280, .bf16⟩
  | .local _ .vmem, ⟨6, _⟩ => ⟨S256x1280, .f32⟩
  | .local _ .vmem, ⟨7, _⟩ => ⟨S256x1280, .f32⟩
  | .local _ .vmem, ⟨8, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S256x1024 : Shape := ⟨2, ![256, 1024]⟩
abbrev S1x256x1024 : Shape := ⟨3, ![1, 256, 1024]⟩
abbrev S1x1024 : Shape := ⟨2, ![1, 1024]⟩
abbrev S1024x3840 : Shape := ⟨2, ![1024, 3840]⟩
abbrev S_ : Shape := ⟨0, ![]⟩
abbrev S256 : Shape := ⟨1, ![256]⟩
abbrev S256x1 : Shape := ⟨2, ![256, 1]⟩
abbrev S256x3840 : Shape := ⟨2, ![256, 3840]⟩

abbrev nBuf : Space → Nat
  | .hbm => 29
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x1024, .f32⟩
  | .hbm, ⟨4, _⟩ => ⟨S1024x3840, .bf16⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S1024x3840, .f32⟩
  | .hbm, ⟨28, _⟩ => ⟨S256x3840, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel7.lean ====
abbrev S256x2816 : Shape := ⟨2, ![256, 2816]⟩
abbrev S1x512 : Shape := ⟨2, ![1, 512]⟩
abbrev S8x8x8 : Shape := ⟨3, ![8, 8, 8]⟩
abbrev S8x8 : Shape := ⟨2, ![8, 8]⟩
abbrev S8x8x64 : Shape := ⟨3, ![8, 8, 64]⟩
abbrev S8x512 : Shape := ⟨2, ![8, 512]⟩
abbrev S256x512 : Shape := ⟨2, ![256, 512]⟩
abbrev S32x512 : Shape := ⟨2, ![32, 512]⟩
abbrev S32 : Shape := ⟨1, ![32]⟩
abbrev S32x1 : Shape := ⟨2, ![32, 1]⟩
abbrev S8x128 : Shape := ⟨2, ![8, 128]⟩
abbrev S1x8x8 : Shape := ⟨3, ![1, 8, 8]⟩
abbrev S16x8 : Shape := ⟨2, ![16, 8]⟩
abbrev S16x128 : Shape := ⟨2, ![16, 128]⟩

abbrev nBuf : Space → Nat
  | .hbm => 9
  | .vmem => 12
  | .smem => 0
  | _ => 0

abbrev bufTy : (tb : Table) → Fin (tcTables nBuf tb) → BufTy
  | .hbm, ⟨0, _⟩ => ⟨S256x2816, .f32⟩
  | .hbm, ⟨1, _⟩ => ⟨S1x512, .f32⟩
  | .hbm, ⟨2, _⟩ => ⟨S1x512, .f32⟩
  | .hbm, ⟨3, _⟩ => ⟨S8x8x8, .f32⟩
  | .hbm, ⟨4, _⟩ => ⟨S8x8, .f32⟩
  | .hbm, ⟨5, _⟩ => ⟨S8x8x64, .f32⟩
  | .hbm, ⟨6, _⟩ => ⟨S8x512, .f32⟩
  | .hbm, ⟨7, _⟩ => ⟨S256x512, .f32⟩
  | .hbm, ⟨8, _⟩ => ⟨S256x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S1x512, .f32⟩
  | .local _ .vmem, ⟨5, _⟩ => ⟨S1x512, .f32⟩
  | .local _ .vmem, ⟨6, _⟩ => ⟨S8x8x8, .f32⟩
  | .local _ .vmem, ⟨7, _⟩ => ⟨S8x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | _, _ => ⟨S256x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S256x2816 : Shape := ⟨2, ![256, 2816]⟩
abbrev S1x512 : Shape := ⟨2, ![1, 512]⟩
abbrev S8x8x8 : Shape := ⟨3, ![8, 8, 8]⟩
abbrev S8x8 : Shape := ⟨2, ![8, 8]⟩
abbrev S256x512 : Shape := ⟨2, ![256, 512]⟩
abbrev S_ : Shape := ⟨0, ![]⟩
abbrev S256 : Shape := ⟨1, ![256]⟩
abbrev S256x1 : Shape := ⟨2, ![256, 1]⟩

abbrev nBuf : Space → Nat
  | .hbm => 33
  | .vmem => 0
  | .smem => 0
  | _ => 0

abbrev bufTy : (tb : Table) → Fin (tcTables nBuf tb) → BufTy
  | .hbm, ⟨0, _⟩ => ⟨S256x2816, .f32⟩
  | .hbm, ⟨1, _⟩ => ⟨S1x512, .f32⟩
  | .hbm, ⟨2, _⟩ => ⟨S1x512, .f32⟩
  | .hbm, ⟨3, _⟩ => ⟨S8x8x8, .f32⟩
  | .hbm, ⟨4, _⟩ => ⟨S8x8, .f32⟩
  | .hbm, ⟨5, _⟩ => ⟨S256x512, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x512, .f32⟩
  | .hbm, ⟨22, _⟩ => ⟨S256x512, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S256x512, .f32⟩
  | _, _ => ⟨S256x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel8.lean ====
abbrev S256x512 : Shape := ⟨2, ![256, 512]⟩
abbrev S256x1024 : Shape := ⟨2, ![256, 1024]⟩
abbrev S1x256x1024 : Shape := ⟨3, ![1, 256, 1024]⟩
abbrev S1x1024 : Shape := ⟨2, ![1, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S1x1024x1024 : Shape := ⟨3, ![1, 1024, 1024]⟩
abbrev S256 : Shape := ⟨1, ![256]⟩
abbrev S256x1 : Shape := ⟨2, ![256, 1]⟩

abbrev nBuf : Space → Nat
  | .hbm => 14
  | .vmem => 20
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S4x1024x4096, .bf16⟩
  | .hbm, ⟨12, _⟩ => ⟨S4x4096x1024, .bf16⟩
  | .hbm, ⟨13, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem12_1 : DmaSem sig := 13
abbrev cc0_sem13_0 : DmaSem sig := 14
abbrev cc0_sem13_1 : DmaSem sig := 15
abbrev cc0_sem14_0 : DmaSem sig := 16

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== Reference8Ideal.lean ====
abbrev S256x512 : Shape := ⟨2, ![256, 512]⟩
abbrev S256x1024 : Shape := ⟨2, ![256, 1024]⟩
abbrev S1x256x1024 : Shape := ⟨3, ![1, 256, 1024]⟩
abbrev S1x1024 : Shape := ⟨2, ![1, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S_ : Shape := ⟨0, ![]⟩
abbrev S256 : Shape := ⟨1, ![256]⟩
abbrev S256x1 : Shape := ⟨2, ![256, 1]⟩
abbrev S1x1024x4096 : Shape := ⟨3, ![1, 1024, 4096]⟩
abbrev S1024x4096 : Shape := ⟨2, ![1024, 4096]⟩
abbrev S256x4096 : Shape := ⟨2, ![256, 4096]⟩
abbrev S1x4096x1024 : Shape := ⟨3, ![1, 4096, 1024]⟩
abbrev S4096x1024 : Shape := ⟨2, ![4096, 1024]⟩

abbrev nBuf : Space → Nat
  | .hbm => 86
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S4x1024x4096, .bf16⟩
  | .hbm, ⟨12, _⟩ => ⟨S4x4096x1024, .bf16⟩
  | .hbm, ⟨13, _⟩ => ⟨S256x1024, .f32⟩
  | .hbm, ⟨14, _⟩ => ⟨S1024x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S_, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S1x1024x4096, .bf16⟩
  | .hbm, ⟨57, _⟩ => ⟨S1024x4096, .bf16⟩
  | .hbm, ⟨58, _⟩ => ⟨S1024x4096, .f32⟩
  | .hbm, ⟨59, _⟩ => ⟨S256x4096, .f32⟩
  | .hbm, ⟨60, _⟩ => ⟨S_, .f32⟩
  | .hbm, ⟨61, _⟩ => ⟨S256x4096, .f32⟩
  | .hbm, ⟨62, _⟩ => ⟨S256x4096, .f32⟩
  | .hbm, ⟨63, _⟩ => ⟨S256x4096, .f32⟩
  | .hbm, ⟨64, _⟩ => ⟨S1x4096x1024, .bf16⟩
  | .hbm, ⟨65, _⟩ => ⟨S4096x1024, .bf16⟩
  | .hbm, ⟨66, _⟩ => ⟨S4096x1024, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S_, .f32⟩
  | .hbm, ⟨71, _⟩ => ⟨S256, .f32⟩
  | .hbm, ⟨72, _⟩ => ⟨S256x1, .f32⟩
  | .hbm, ⟨73, _⟩ => ⟨S_, .f32⟩
  | .hbm, ⟨74, _⟩ => ⟨S256x1, .f32⟩
  | .hbm, ⟨75, _⟩ => ⟨S256x1, .f32⟩
  | .hbm, ⟨76, _⟩ => ⟨S_, .f32⟩
  | .hbm, ⟨77, _⟩ => ⟨S256x1, .f32⟩
  | .hbm, ⟨78, _⟩ => ⟨S256x1, .f32⟩
  | .hbm, ⟨79, _⟩ => ⟨S256x1, .f32⟩
  | .hbm, ⟨80, _⟩ => ⟨S256x1024, .f32⟩
  | .hbm, ⟨81, _⟩ => ⟨S256x1024, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_cst : Ref sig .tc := ⟨.hbm, 60, rfl⟩
abbrev main_call0_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.AttnITables.lean ====
/- The two index tables the attention kernel reads (the pairs of query block and key block, row by row of a lower triangle), as closed forms. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]
local notation "𝕄" => MT nD τ sig Unit (Elt F) ℕ (UR sig nD τ) ℕ

/-- The tables and scratches the kernel is handed, whole, at their literal types. -/
abbrev tbM0_0 : Memref sig .tc .smem S36 .i32 := Memref.whole main_c
abbrev tbM0_1 : Memref sig .tc .smem S36 .i32 := Memref.whole main_c_0
abbrev scM0_0 : Memref sig .tc .vmem S2x1024x128 .f32 := Memref.whole cc0_scratch0
abbrev scM0_1 : Memref sig .tc .vmem S2x1024x128 .f32 := Memref.whole cc0_scratch1

/-- The query block's index read from the first table at grid point `i`, and the key block's from the second. -/
abbrev wI (i : grid0.Coords) (T0 : S36.Idx → Elt F .i32) : Elt F .i32 :=
  View.readAt (Elt F) (tbM0_0).view (Rect.unit (s := S36) (k0_off1 i) S1.size (k0_off1_inb i)).toLoadRect T0 (Shape.Idx.first (numel1_S1.symm ▸ Nat.one_pos))
abbrev wJ (i : grid0.Coords) (T1 : S36.Idx → Elt F .i32) : Elt F .i32 :=
  View.readAt (Elt F) (tbM0_1).view (Rect.unit (s := S36) (k0_off1 i) S1.size (k0_off1_inb i)).toLoadRect T1 (Shape.Idx.first (numel1_S1.symm ▸ Nat.one_pos))
/-- The body's first decision: the key block is the first one. -/
abbrev CZ (i : grid0.Coords) (T1 : S36.Idx → Elt F .i32) : Prop := (Scalar.cmpi .ne (Scalar.extui (Scalar.cmpi .eq (wJ F i T1) 0#32)) 0#32) = 1#1
/-- The body's second decision: the key block is before the query block. -/
abbrev CL (i : grid0.Coords) (T0 : S36.Idx → Elt F .i32) (T1 : S36.Idx → Elt F .i32) : Prop :=
  (Scalar.cmpi .ne (Scalar.extui (Scalar.cmpi .slt (wJ F i T1) (wI F i T0))) 0#32) = 1#1

/-! ## The two tables -/

/-- The first table: the query block of each pair. -/
def pinT_0 : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- The second table: the key block of each pair. -/
def pinT_1 : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

set_option backward.proofsInPublic true in
/-- The contents of the two tables. -/
def pfN : pre0.Contents (Elt F) := fun | ⟨0, _⟩ => pinT_0 | ⟨1, _⟩ => pinT_1 | ⟨_ + 2, h⟩ => absurd h (by simp)
/-- A window's blocks inside its array, entry by entry (the proofs below put together each entry's bound). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Attn

end
-- ==== Proof.AttnIRuns.lean ====
/- The body run once for each of the four ways its branches can go. -/
module

public import proofs.«01_k».proof.Proof.Gen.KernelIdeal.Skeleton
public import proofs.«01_k».proof.Proof.AttnITables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-! ## The body on each of its four ways, on arbitrary staging buffers -/

/-- One staging buffer of output window 3, through which its contents are stated (`View.read_writes_of_cover`). -/
abbrev VO0_3 : View sig .tc .vmem S1024x128 .f32 := (Memref.whole cc0_stg3_0 : Memref sig .tc .vmem S1024x128 .f32).view

set_option backward.proofsInPublic true in
set_option maxHeartbeats 8000000 in
/-- Way A (first key block and diagonal: the scratches are reset, the diagonal block is attended, the output is stored): what the body leaves in the output and the scratches, with the proof
    that it runs from the inputs' blocks, the tables and the scratches to there. -/
noncomputable def kernelRun0_A (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (hc0 : CZ F i T1) (hc1 : ¬(CL F i T0 T1)) (k0_h3 : k0_cond3 (wI F i T0) (wJ F i T1) = 1#1) :
    Σ' (out0 : List (View.Piece (Elt F) S1024x128 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_fox_flash i tbM0_0 (Memref.isWhole_whole _) tbM0_1 (Memref.isWhole_whole _) arg5 harg5 arg6 harg6 arg7 harg7 arg8 harg8 scM0_0 (Memref.isWhole_whole _) scM0_1 (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_fox_flash_eq_skeleton]; unfold cc0_fox_flash_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- What way A stores fills the output's block. -/
theorem cover0_A_3 (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (hc0 : CZ F i T1) (hc1 : ¬(CL F i T0 T1)) (k0_h3 : k0_cond3 (wI F i T0) (wJ F i T1) = 1#1) (y : S1024x128.Idx) :
    ∃ pc ∈ (kernelRun0_A c i arg5 harg5 arg6 harg6 arg7 harg7 arg8 harg8 T0 T1 x0 x1 x2 hc0 hc1 k0_h3).1, y ∈ pc.1.set :=
  View.cover_of_tiledL (kernelRun0_A c i arg5 harg5 arg6 harg6 arg7 harg7 arg8 harg8 T0 T1 x0 x1 x2 hc0 hc1 k0_h3).1 S1024x128.size (by sl_kernel_rfl) y

/-- What way A leaves in the output's buffer. -/
def out0_A_3 (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (hc0 : CZ F i T1) (hc1 : ¬(CL F i T0 T1)) (k0_h3 : k0_cond3 (wI F i T0) (wJ F i T1) = 1#1) : (S1024x128.Idx → Elt F .f32) :=
  VO0_3.read (Elt F) (VO0_3.writes (Elt F) VO0_3.junk (kernelRun0_A c i arg5 harg5 arg6 harg6 arg7 harg7 arg8 harg8 T0 T1 x0 x1 x2 hc0 hc1 k0_h3).1)

set_option backward.proofsInPublic true in
set_option maxHeartbeats 8000000 in
/-- Way B (first key block before the diagonal: the scratches are reset and the whole block is attended): what the body leaves in the output and the scratches, with the proof
    that it runs from the inputs' blocks, the tables and the scratches to there. -/
noncomputable def kernelRun0_B (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (hc0 : CZ F i T1) (hc1 : CL F i T0 T1) (k0_h3 : ¬(k0_cond3 (wI F i T0) (wJ F i T1) = 1#1)) :
    Σ' (out0 : Buf (Elt F) ((c : Thread nD τ).loc cc0_scratch0)), { out1 : Buf (Elt F) ((c : Thread nD τ).loc cc0_scratch1) //
      ∀ (y3 : (S1024x128.Idx → Elt F .f32)) (xa0 : Buf (Elt F) ((c : Thread nD τ).loc cc0_scratch0)) (xa1 : Buf (Elt F) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ owns (c : Thread nD τ) arg8 fullShare y3
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ owns (c : Thread nD τ) arg8 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_fox_flash i tbM0_0 (Memref.isWhole_whole _) tbM0_1 (Memref.isWhole_whole _) arg5 harg5 arg6 harg6 arg7 harg7 arg8 harg8 scM0_0 (Memref.isWhole_whole _) scM0_1 (Memref.isWhole_whole _)) K } :=
  ⟨_, _, fun (y3 : (S1024x128.Idx → Elt F .f32)) (xa0 : Buf (Elt F) ((c : Thread nD τ).loc cc0_scratch0)) (xa1 : Buf (Elt F) ((c : Thread nD τ).loc cc0_scratch1)) K => by
    unfold owns
    rw [cc0_fox_flash_eq_skeleton]; unfold cc0_fox_flash_skel
    iintro ⟨H0, H1, H2, HT0, HT1, ⟨%f3, %hf3, HO3⟩, HS0, HS1, Hk⟩
    obtain rfl := harg8.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg8.read_unread _
      iexact HO3
    isplitl [HS0]; · iexact HS0
    iexact HS1⟩

set_option backward.proofsInPublic true in
set_option maxHeartbeats 8000000 in
/-- Way C (a later key block on the diagonal: the diagonal block is attended, the output is stored): what the body leaves in the output and the scratches, with the proof
    that it runs from the inputs' blocks, the tables and the scratches to there. -/
noncomputable def kernelRun0_C (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (xa0 : Buf (Elt F) ((c : Thread nD τ).loc cc0_scratch0)) (xa1 : Buf (Elt F) ((c : Thread nD τ).loc cc0_scratch1)) (hc0 : ¬(CZ F i T1)) (hc1 : ¬(CL F i T0 T1)) (k0_h3 : k0_cond3 (wI F i T0) (wJ F i T1) = 1#1) :
    Σ' (out0 : List (View.Piece (Elt F) S1024x128 .f32)) (out1 : Buf (Elt F) ((c : Thread nD τ).loc cc0_scratch0)), { out2 : Buf (Elt F) ((c : Thread nD τ).loc cc0_scratch1) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_fox_flash i tbM0_0 (Memref.isWhole_whole _) tbM0_1 (Memref.isWhole_whole _) arg5 harg5 arg6 harg6 arg7 harg7 arg8 harg8 scM0_0 (Memref.isWhole_whole _) scM0_1 (Memref.isWhole_whole _)) K } :=
  ⟨_, _, _, fun K => by
    unfold owns
    rw [cc0_fox_flash_eq_skeleton]; unfold cc0_fox_flash_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- What way C stores fills the output's block. -/
theorem cover0_C_3 (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (xa0 : Buf (Elt F) ((c : Thread nD τ).loc cc0_scratch0)) (xa1 : Buf (Elt F) ((c : Thread nD τ).loc cc0_scratch1)) (hc0 : ¬(CZ F i T1)) (hc1 : ¬(CL F i T0 T1)) (k0_h3 : k0_cond3 (wI F i T0) (wJ F i T1) = 1#1) (y : S1024x128.Idx) :
    ∃ pc ∈ (kernelRun0_C c i arg5 harg5 arg6 harg6 arg7 harg7 arg8 harg8 T0 T1 x0 x1 x2 xa0 xa1 hc0 hc1 k0_h3).1, y ∈ pc.1.set :=
  View.cover_of_tiledL (kernelRun0_C c i arg5 harg5 arg6 harg6 arg7 harg7 arg8 harg8 T0 T1 x0 x1 x2 xa0 xa1 hc0 hc1 k0_h3).1 S1024x128.size (by sl_kernel_rfl) y

/-- What way C leaves in the output's buffer. -/
def out0_C_3 (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (xa0 : Buf (Elt F) ((c : Thread nD τ).loc cc0_scratch0)) (xa1 : Buf (Elt F) ((c : Thread nD τ).loc cc0_scratch1)) (hc0 : ¬(CZ F i T1)) (hc1 : ¬(CL F i T0 T1)) (k0_h3 : k0_cond3 (wI F i T0) (wJ F i T1) = 1#1) : (S1024x128.Idx → Elt F .f32) :=
  VO0_3.read (Elt F) (VO0_3.writes (Elt F) VO0_3.junk (kernelRun0_C c i arg5 harg5 arg6 harg6 arg7 harg7 arg8 harg8 T0 T1 x0 x1 x2 xa0 xa1 hc0 hc1 k0_h3).1)

set_option backward.proofsInPublic true in
set_option maxHeartbeats 8000000 in
/-- Way D (a later key block before the diagonal: the whole block is attended): what the body leaves in the output and the scratches, with the proof
    that it runs from the inputs' blocks, the tables and the scratches to there. -/
noncomputable def kernelRun0_D (c : Dev nD) (i : grid0.Coords) (arg5 : Memref sig .tc .vmem S1x2x1024x128 .bf16) (harg5 : arg5.IsWhole) (arg6 : Memref sig .tc .vmem S1x2x1024x128 .bf16) (harg6 : arg6.IsWhole) (arg7 : Memref sig .tc .vmem S1x2x1024x128 .bf16) (harg7 : arg7.IsWhole) (arg8 : Memref sig .tc .vmem S1024x128 .f32) (harg8 : arg8.IsWhole) (T0 : (S36.Idx → Elt F .i32)) (T1 : (S36.Idx → Elt F .i32))
     (x0 : (S1x2x1024x128.Idx → Elt F .bf16)) (x1 : (S1x2x1024x128.Idx → Elt F .bf16)) (x2 : (S1x2x1024x128.Idx → Elt F .bf16)) (xa0 : Buf (Elt F) ((c : Thread nD τ).loc cc0_scratch0)) (xa1 : Buf (Elt F) ((c : Thread nD τ).loc cc0_scratch1)) (hc0 : ¬(CZ F i T1)) (hc1 : CL F i T0 T1) (k0_h3 : ¬(k0_cond3 (wI F i T0) (wJ F i T1) = 1#1)) :
    Σ' (out0 : Buf (Elt F) ((c : Thread nD τ).loc cc0_scratch0)), { out1 : Buf (Elt F) ((c : Thread nD τ).loc cc0_scratch1) //
      ∀ (y3 : (S1024x128.Idx → Elt F .f32)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ owns (c : Thread nD τ) arg8 fullShare y3
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ owns (c : Thread nD τ) arg8 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_fox_flash i tbM0_0 (Memref.isWhole_whole _) tbM0_1 (Memref.isWhole_whole _) arg5 harg5 arg6 harg6 arg7 harg7 arg8 harg8 scM0_0 (Memref.isWhole_whole _) scM0_1 (Memref.isWhole_whole _)) K } :=
  ⟨_, _, fun (y3 : (S1024x128.Idx → Elt F .f32)) K => by
    unfold owns
    rw [cc0_fox_flash_eq_skeleton]; unfold cc0_fox_flash_skel
    iintro ⟨H0, H1, H2, HT0, HT1, ⟨%f3, %hf3, HO3⟩, HS0, HS1, Hk⟩
    obtain rfl := harg8.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg8.read_unread _
      iexact HO3
    isplitl [HS0]; · iexact HS0
    iexact HS1⟩

end Cert.KernelIdeal.Attn

end
-- ==== Proof.AttnIOk.lean ====
/- At those tables every block lies inside its array. -/
module

public import proofs.«01_k».proof.Proof.AttnITables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]
local notation "𝕄" => MT nD τ sig Unit (Elt F) ℕ (UR sig nD τ) ℕ

theorem ok_pfN_0_0_inb : ∀ i : grid0.Coords, ∀ a, (cc0_transform_0 k0_off1_inb numel1_S1 (pfN F) i a + 1) * S1x2x1024x128.size a ≤ S2x8x8192x128.size a := of_decide_eq_true (by sl_kernel_rfl)
theorem ok_pfN_0_0 : (∀ i : grid0.Coords, ∃ h : (∀ a, (cc0_transform_0 k0_off1_inb numel1_S1 (pfN F) i a + 1) * S1x2x1024x128.size a ≤ S2x8x8192x128.size a), EltTy.bits .bf16 = 32 ∨ (Rect.block (s := S2x8x8192x128) S1x2x1024x128.size (cc0_transform_0 k0_off1_inb numel1_S1 (pfN F) i) h).WholeWords (EltTy.packing .bf16)) := fun i => ⟨ok_pfN_0_0_inb F i, .inr (Affine.block_words_dvd (s := S2x8x8192x128) (p := EltTy.packing .bf16) (by decide) (by decide))⟩
theorem ok_pfN_0_1_inb : ∀ i : grid0.Coords, ∀ a, (cc0_transform_1 k0_off1_inb numel1_S1 (pfN F) i a + 1) * S1x2x1024x128.size a ≤ S2x8x8192x128.size a := of_decide_eq_true (by sl_kernel_rfl)
theorem ok_pfN_0_1 : (∀ i : grid0.Coords, ∃ h : (∀ a, (cc0_transform_1 k0_off1_inb numel1_S1 (pfN F) i a + 1) * S1x2x1024x128.size a ≤ S2x8x8192x128.size a), EltTy.bits .bf16 = 32 ∨ (Rect.block (s := S2x8x8192x128) S1x2x1024x128.size (cc0_transform_1 k0_off1_inb numel1_S1 (pfN F) i) h).WholeWords (EltTy.packing .bf16)) := fun i => ⟨ok_pfN_0_1_inb F i, .inr (Affine.block_words_dvd (s := S2x8x8192x128) (p := EltTy.packing .bf16) (by decide) (by decide))⟩
theorem ok_pfN_0_2_inb : ∀ i : grid0.Coords, ∀ a, (cc0_transform_2 k0_off1_inb numel1_S1 (pfN F) i a + 1) * S1x2x1024x128.size a ≤ S2x8x8192x128.size a := of_decide_eq_true (by sl_kernel_rfl)
theorem ok_pfN_0_2 : (∀ i : grid0.Coords, ∃ h : (∀ a, (cc0_transform_2 k0_off1_inb numel1_S1 (pfN F) i a + 1) * S1x2x1024x128.size a ≤ S2x8x8192x128.size a), EltTy.bits .bf16 = 32 ∨ (Rect.block (s := S2x8x8192x128) S1x2x1024x128.size (cc0_transform_2 k0_off1_inb numel1_S1 (pfN F) i) h).WholeWords (EltTy.packing .bf16)) := fun i => ⟨ok_pfN_0_2_inb F i, .inr (Affine.block_words_dvd (s := S2x8x8192x128) (p := EltTy.packing .bf16) (by decide) (by decide))⟩
theorem ok_pfN_0_3_inb : ∀ i : grid0.Coords, ∀ a, (cc0_transform_3 k0_off1_inb numel1_S1 (pfN F) i a + 1) * S1024x128.size a ≤ S16384x512.size a := of_decide_eq_true (by sl_kernel_rfl)
theorem ok_pfN_0_3 : (∀ i : grid0.Coords, ∃ h : (∀ a, (cc0_transform_3 k0_off1_inb numel1_S1 (pfN F) i a + 1) * S1024x128.size a ≤ S16384x512.size a), EltTy.bits .f32 = 32 ∨ (Rect.block (s := S16384x512) S1024x128.size (cc0_transform_3 k0_off1_inb numel1_S1 (pfN F) i) h).WholeWords (EltTy.packing .f32)) := fun i => ⟨ok_pfN_0_3_inb F i, .inl rfl⟩
theorem ok_pfN_0 : ok0 (F := F) (pfN F) := ⟨ok_pfN_0_0 F, ok_pfN_0_1 F, ok_pfN_0_2 F, ok_pfN_0_3 F⟩

end Cert.KernelIdeal.Attn

end
-- ==== Proof.AttnICfg.lean ====
/- The pipeline at those tables: a point's coordinates, staging buffers and blocks, and which branch its body takes. -/
module

public import proofs.«01_k».proof.Proof.AttnIOk

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]
local notation "𝕄" => MT nD τ sig Unit (Elt F) ℕ (UR sig nD τ) ℕ

/-- At the two tables every block of every window lies inside its array. -/
theorem ok_pfN : ok0 (F := F) (pfN F) := ok_pfN_0 F

/-- The tables as admissible contents, and the pipeline of 288 points at them. -/
def adm : (pcfg0 (F := F)).Adm := ⟨pfN F, ok_pfN F⟩
abbrev cfgA : Pipeline.Cfg sig Λ₀ := cfg0 (F := F) (adm F)
abbrev pcs : Fin 1 → Pipeline.Cfg sig Λ₀ := Pipeline.pin (pcfgs (F := F)) fun _ => adm F

variable (m : (ℓ : Loc nD τ sig) → Buf (Elt F) ℓ) (ρ : Dev nD → PrngReg)

/-! ## A point's coordinates, words and staging memrefs -/

/-- Point `t`'s coordinates. -/
abbrev crd (t : Fin (cfgA F).N) : (cfgA F).grid.Coords := (cfgA F).grid.coords t

/-- Each window's current staging memref at point `t`, spelled as the pipeline passes it, and its wholeness. -/
abbrev ms0_0 (t : Fin (cfgA F).N) : Memref sig .tc .vmem S1x2x1024x128 .bf16 := spec0_0.stage ((cfgA F).slots t (0 : Fin 4))
abbrev hs0_0 (t : Fin (cfgA F).N) : (ms0_0 F t).IsWhole := hstage0_0 (((cfgA F).slots t (0 : Fin 4)).cast nbuf0_0)
abbrev ms0_1 (t : Fin (cfgA F).N) : Memref sig .tc .vmem S1x2x1024x128 .bf16 := spec0_1.stage ((cfgA F).slots t (1 : Fin 4))
abbrev hs0_1 (t : Fin (cfgA F).N) : (ms0_1 F t).IsWhole := hstage0_1 (((cfgA F).slots t (1 : Fin 4)).cast nbuf0_1)
abbrev ms0_2 (t : Fin (cfgA F).N) : Memref sig .tc .vmem S1x2x1024x128 .bf16 := spec0_2.stage ((cfgA F).slots t (2 : Fin 4))
abbrev hs0_2 (t : Fin (cfgA F).N) : (ms0_2 F t).IsWhole := hstage0_2 (((cfgA F).slots t (2 : Fin 4)).cast nbuf0_2)
abbrev ms0_3 (t : Fin (cfgA F).N) : Memref sig .tc .vmem S1024x128 .f32 := spec0_3.stage ((cfgA F).slots t (3 : Fin 4))
abbrev hs0_3 (t : Fin (cfgA F).N) : (ms0_3 F t).IsWhole := hstage0_3 (((cfgA F).slots t (3 : Fin 4)).cast nbuf0_3)

/-! ## The windows' blocks -/

/-- Window `w`'s block at point `t`, read off its array at launch. -/
def iblk (c : Dev nD) (w : Fin (cfgA F).W) (t : Fin (cfgA F).N) : (((cfgA F).win w).xblock (crd F t)).Idx → Elt F ((cfgA F).win w).elt :=
  (((cfgA F).win w).blk t).view.read (Elt F) ((s₀ m ρ).mem (((cfgA F).win w).arr.view.loc (c : Thread nD τ)))

/-! ## Which way the body's branches go at a point -/

abbrev P0_0 (t : Fin (cfgA F).N) : Prop := CZ F (crd F t) pinT_1
abbrev P0_1 (t : Fin (cfgA F).N) : Prop := CL F (crd F t) pinT_0 pinT_1

/-- Whether scratch 0 (`cc0_scratch0`) holds nothing a point has determined, before position `n`: until a path that stores it
    whole first (A, B) has run. -/
def sfresh0_0 : ℕ → Bool
  | 0 => true
  | n + 1 => if h : n < (cfgA F).N then (if P0_0 F ⟨n, h⟩ then (if P0_1 F ⟨n, h⟩ then false else false) else (if P0_1 F ⟨n, h⟩ then sfresh0_0 n else sfresh0_0 n)) else true

/-- In closed form: this holds before the first point only. -/
def sfirst0_0 : ℕ := 0
def sfrTab0_0 : ℕ → Bool := fun n => decide (n ≤ sfirst0_0)

/-- Whether scratch 1 (`cc0_scratch1`) holds nothing a point has determined, before position `n`: until a path that stores it
    whole first (A, B) has run. -/
def sfresh0_1 : ℕ → Bool
  | 0 => true
  | n + 1 => if h : n < (cfgA F).N then (if P0_0 F ⟨n, h⟩ then (if P0_1 F ⟨n, h⟩ then false else false) else (if P0_1 F ⟨n, h⟩ then sfresh0_1 n else sfresh0_1 n)) else true

/-- In closed form: this holds before the first point only. -/
def sfirst0_1 : ℕ := 0
def sfrTab0_1 : ℕ → Bool := fun n => decide (n ≤ sfirst0_1)

set_option backward.proofsInPublic true in
/-- Whether the output's buffer holds nothing determined before each position: nothing was stored into it since its last write-back.
    The answers stand in a bit mask, bit `n` for position `n + 1`. -/
def frMask0_3 : ℕ := 0xffffffffffffffffffffffffffffffffffffffffffffffffffffffffffffffffffffffff
/-- The same, with the answer before the first point. -/
def frTab0_3 : ℕ → Bool
  | 0 => true
  | n + 1 => (frMask0_3).testBit n

end Cert.KernelIdeal.Attn

end
-- ==== Proof.AttnIFacts.lean ====
/- What has to be decided at each grid point, as one statement. -/
module

public import proofs.«01_k».proof.Proof.AttnICfg

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]
local notation "𝕄" => MT nD τ sig Unit (Elt F) ℕ (UR sig nD τ) ℕ
variable (m : (ℓ : Loc nD τ sig) → Buf (Elt F) ℓ) (ρ : Dev nD → PrngReg)

/-! ## Every fact about a point as one proposition -/

/-- What is decided at point `t`: that the masks above step as the pipeline does, and for each of the four ways through the body that its
    conditions and its write-backs are as expected at its points. -/
abbrev FactsAt (t : Fin (cfgA F).N) : Prop :=
  (sfrTab0_0 (t.val + 1) = (if P0_0 F t then (if P0_1 F t then false else false) else (if P0_1 F t then sfrTab0_0 t.val else sfrTab0_0 t.val)))
  ∧ (sfrTab0_1 (t.val + 1) = (if P0_0 F t then (if P0_1 F t then false else false) else (if P0_1 F t then sfrTab0_1 t.val else sfrTab0_1 t.val)))
  ∧ (frTab0_3 (t.val + 1) = (((cfgA F).win (3 : Fin 4)).flush t || ((cfgA F).idle (3 : Fin 4) ((cfgA F).grid.coords t) && frTab0_3 t.val)))
  ∧ (P0_0 F t → ¬P0_1 F t → (CZ F (crd F t) pinT_1) ∧ ((¬(CL F (crd F t) pinT_0 pinT_1)) ∧ ((k0_cond3 (wI F (crd F t) pinT_0) (wJ F (crd F t) pinT_1) = 1#1) ∧ (True))))
  ∧ (P0_0 F t → ¬P0_1 F t → (cfgA F).idle (3 : Fin 4) ((cfgA F).grid.coords t) = false ∧ ((cfgA F).win (3 : Fin 4)).flush t = true ∧ frTab0_3 t.val = true ∧ sfrTab0_0 (t.val + 1) = false ∧ sfrTab0_1 (t.val + 1) = false)
  ∧ (P0_0 F t → P0_1 F t → (CZ F (crd F t) pinT_1) ∧ ((CL F (crd F t) pinT_0 pinT_1) ∧ ((¬(k0_cond3 (wI F (crd F t) pinT_0) (wJ F (crd F t) pinT_1) = 1#1)) ∧ (True))))
  ∧ (P0_0 F t → P0_1 F t → (cfgA F).idle (3 : Fin 4) ((cfgA F).grid.coords t) = true ∧ ((cfgA F).win (3 : Fin 4)).flush t = false ∧ frTab0_3 t.val = true ∧ sfrTab0_0 t.val = false ∧ sfrTab0_0 (t.val + 1) = false ∧ sfrTab0_1 t.val = false ∧ sfrTab0_1 (t.val + 1) = false)
  ∧ (¬P0_0 F t → ¬P0_1 F t → (¬(CZ F (crd F t) pinT_1)) ∧ ((¬(CL F (crd F t) pinT_0 pinT_1)) ∧ ((k0_cond3 (wI F (crd F t) pinT_0) (wJ F (crd F t) pinT_1) = 1#1) ∧ (True))))
  ∧ (¬P0_0 F t → ¬P0_1 F t → (cfgA F).idle (3 : Fin 4) ((cfgA F).grid.coords t) = false ∧ ((cfgA F).win (3 : Fin 4)).flush t = true ∧ frTab0_3 t.val = true ∧ sfrTab0_0 t.val = false ∧ sfrTab0_0 (t.val + 1) = false ∧ sfrTab0_1 t.val = false ∧ sfrTab0_1 (t.val + 1) = false)
  ∧ (¬P0_0 F t → P0_1 F t → (¬(CZ F (crd F t) pinT_1)) ∧ ((CL F (crd F t) pinT_0 pinT_1) ∧ ((¬(k0_cond3 (wI F (crd F t) pinT_0) (wJ F (crd F t) pinT_1) = 1#1)) ∧ (True))))
  ∧ (¬P0_0 F t → P0_1 F t → (cfgA F).idle (3 : Fin 4) ((cfgA F).grid.coords t) = true ∧ ((cfgA F).win (3 : Fin 4)).flush t = false ∧ frTab0_3 t.val = true ∧ sfrTab0_0 t.val = false ∧ sfrTab0_0 (t.val + 1) = false ∧ sfrTab0_1 t.val = false ∧ sfrTab0_1 (t.val + 1) = false)

set_option synthInstance.maxSize 65536 in
instance FactsAt.dec (t : Fin (cfgA F).N) : Decidable (FactsAt F t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

end Cert.KernelIdeal.Attn

end
-- ==== Proof.AttnIDecide.lean ====
/- The per-point statement holds at each of the 288 points. -/
module

public import proofs.«01_k».proof.Proof.AttnIFacts

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]
local notation "𝕄" => MT nD τ sig Unit (Elt F) ℕ (UR sig nD τ) ℕ

theorem allFacts_0_0 : ∀ t : Fin (cfgA F).N, 0 ≤ t.val → t.val < 36 → FactsAt F t := of_decide_eq_true (by sl_kernel_rfl)
theorem allFacts_0_1 : ∀ t : Fin (cfgA F).N, 36 ≤ t.val → t.val < 72 → FactsAt F t := of_decide_eq_true (by sl_kernel_rfl)
theorem allFacts_0_2 : ∀ t : Fin (cfgA F).N, 72 ≤ t.val → t.val < 108 → FactsAt F t := of_decide_eq_true (by sl_kernel_rfl)
theorem allFacts_0_3 : ∀ t : Fin (cfgA F).N, 108 ≤ t.val → t.val < 144 → FactsAt F t := of_decide_eq_true (by sl_kernel_rfl)
theorem allFacts_0_4 : ∀ t : Fin (cfgA F).N, 144 ≤ t.val → t.val < 180 → FactsAt F t := of_decide_eq_true (by sl_kernel_rfl)
theorem allFacts_0_5 : ∀ t : Fin (cfgA F).N, 180 ≤ t.val → t.val < 216 → FactsAt F t := of_decide_eq_true (by sl_kernel_rfl)
theorem allFacts_0_6 : ∀ t : Fin (cfgA F).N, 216 ≤ t.val → t.val < 252 → FactsAt F t := of_decide_eq_true (by sl_kernel_rfl)
theorem allFacts_0_7 : ∀ t : Fin (cfgA F).N, 252 ≤ t.val → t.val < 288 → FactsAt F t := of_decide_eq_true (by sl_kernel_rfl)
theorem allFacts_0 : ∀ t : Fin (cfgA F).N, FactsAt F t := fun t => by
  have h0 : 0 ≤ t.val := Nat.zero_le _
  rcases Nat.lt_or_ge t.val 36 with h1 | h1; · exact allFacts_0_0 F t h0 h1
  rcases Nat.lt_or_ge t.val 72 with h2 | h2; · exact allFacts_0_1 F t h1 h2
  rcases Nat.lt_or_ge t.val 108 with h3 | h3; · exact allFacts_0_2 F t h2 h3
  rcases Nat.lt_or_ge t.val 144 with h4 | h4; · exact allFacts_0_3 F t h3 h4
  rcases Nat.lt_or_ge t.val 180 with h5 | h5; · exact allFacts_0_4 F t h4 h5
  rcases Nat.lt_or_ge t.val 216 with h6 | h6; · exact allFacts_0_5 F t h5 h6
  rcases Nat.lt_or_ge t.val 252 with h7 | h7; · exact allFacts_0_6 F t h6 h7
  exact allFacts_0_7 F t h7 t.isLt

end Cert.KernelIdeal.Attn

end
-- ==== Proof.AttnIFrame.lean ====
/- The attention kernel runs to the end: what its buffers hold point by point, and the launch. -/
module

public import proofs.«01_k».proof.Proof.AttnIRuns
public import proofs.«01_k».proof.Proof.AttnIDecide
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]
local notation "𝕄" => MT nD τ sig Unit (Elt F) ℕ (UR sig nD τ) ℕ

/-- The proof's resource algebra: the rounds library's, for the pipeline's staging cells, embedded whole. -/
abbrev EP : Emb (UR sig nD τ) 𝕄 := emb₁

variable (m : (ℓ : Loc nD τ sig) → Buf (Elt F) ℓ) (ρ : Dev nD → PrngReg)

/-- What is decided of each point, at every point. -/
theorem allFacts : ∀ t : Fin (cfgA F).N, FactsAt F t := allFacts_0 F

/-! ## The decided facts one by one -/

theorem sfrTab0_0_step : ∀ (t : Fin (cfgA F).N), sfrTab0_0 (t.val + 1) = (if P0_0 F t then (if P0_1 F t then false else false) else (if P0_1 F t then sfrTab0_0 t.val else sfrTab0_0 t.val)) := fun t => (allFacts F t).1
theorem sfresh0_0_eq : ∀ n, n ≤ (cfgA F).N → sfresh0_0 F n = sfrTab0_0 n
  | 0, _ => by simp only [sfresh0_0, sfrTab0_0, Nat.zero_le, decide_true]
  | n + 1, h => by simp only [sfresh0_0, dif_pos (show n < (cfgA F).N from h), sfresh0_0_eq n (Nat.le_of_lt h), sfrTab0_0_step F ⟨n, h⟩]
theorem sfreshF0_0 (t : Fin (cfgA F).N) : sfresh0_0 F t.val = sfrTab0_0 t.val := sfresh0_0_eq F t.val (Nat.le_of_lt t.isLt)
theorem sfreshS0_0 (t : Fin (cfgA F).N) : sfresh0_0 F (t.val + 1) = sfrTab0_0 (t.val + 1) := sfresh0_0_eq F (t.val + 1) t.isLt

theorem sfrTab0_1_step : ∀ (t : Fin (cfgA F).N), sfrTab0_1 (t.val + 1) = (if P0_0 F t then (if P0_1 F t then false else false) else (if P0_1 F t then sfrTab0_1 t.val else sfrTab0_1 t.val)) := fun t => (allFacts F t).2.1
theorem sfresh0_1_eq : ∀ n, n ≤ (cfgA F).N → sfresh0_1 F n = sfrTab0_1 n
  | 0, _ => by simp only [sfresh0_1, sfrTab0_1, Nat.zero_le, decide_true]
  | n + 1, h => by simp only [sfresh0_1, dif_pos (show n < (cfgA F).N from h), sfresh0_1_eq n (Nat.le_of_lt h), sfrTab0_1_step F ⟨n, h⟩]
theorem sfreshF0_1 (t : Fin (cfgA F).N) : sfresh0_1 F t.val = sfrTab0_1 t.val := sfresh0_1_eq F t.val (Nat.le_of_lt t.isLt)
theorem sfreshS0_1 (t : Fin (cfgA F).N) : sfresh0_1 F (t.val + 1) = sfrTab0_1 (t.val + 1) := sfresh0_1_eq F (t.val + 1) t.isLt

theorem frTab0_3_step : ∀ (t : Fin (cfgA F).N),
    frTab0_3 (t.val + 1) = (((cfgA F).win (3 : Fin 4)).flush t || ((cfgA F).idle (3 : Fin 4) ((cfgA F).grid.coords t) && frTab0_3 t.val)) := fun t => (allFacts F t).2.2.1
theorem freshF0_3 (t : Fin (cfgA F).N) : (cfgA F).fresh (3 : Fin 4) t.val = frTab0_3 t.val :=
  Pipeline.Cfg.fresh_tab (cfgA F) (3 : Fin 4) frTab0_3 rfl (frTab0_3_step F) t.val (Nat.le_of_lt t.isLt)

/-- At a point of way A, its conditions hold of the words that the body reads there. -/
theorem hyps0_A : ∀ (t : Fin (cfgA F).N), P0_0 F t → ¬P0_1 F t →
    (CZ F (crd F t) pinT_1) ∧ ((¬(CL F (crd F t) pinT_0 pinT_1)) ∧ ((k0_cond3 (wI F (crd F t) pinT_0) (wJ F (crd F t) pinT_1) = 1#1) ∧ (True))) := fun t => (allFacts F t).2.2.2.1

theorem hypsR0_A : ∀ (t : Fin (cfgA F).N), P0_0 F t → ¬P0_1 F t →
    (CZ F (crd F t) pinT_1) ∧ ((¬(CL F (crd F t) pinT_0 pinT_1)) ∧ ((k0_cond3 (wI F (crd F t) pinT_0) (wJ F (crd F t) pinT_1) = 1#1) ∧ (True))) := hyps0_A F

/-- At a point of way A: what is written back, and which buffers hold nothing determined. -/
theorem sched0_A : ∀ (t : Fin (cfgA F).N), P0_0 F t → ¬P0_1 F t →
    (cfgA F).idle (3 : Fin 4) ((cfgA F).grid.coords t) = false ∧ ((cfgA F).win (3 : Fin 4)).flush t = true ∧ (cfgA F).fresh (3 : Fin 4) t.val = true ∧ sfresh0_0 F (t.val + 1) = false ∧ sfresh0_1 F (t.val + 1) = false := by
  intro t; rw [freshF0_3 F t, sfreshS0_0 F t, sfreshS0_1 F t]; exact (allFacts F t).2.2.2.2.1

/-- At a point of way B, its conditions hold of the words that the body reads there. -/
theorem hyps0_B : ∀ (t : Fin (cfgA F).N), P0_0 F t → P0_1 F t →
    (CZ F (crd F t) pinT_1) ∧ ((CL F (crd F t) pinT_0 pinT_1) ∧ ((¬(k0_cond3 (wI F (crd F t) pinT_0) (wJ F (crd F t) pinT_1) = 1#1)) ∧ (True))) := fun t => (allFacts F t).2.2.2.2.2.1

theorem hypsR0_B : ∀ (t : Fin (cfgA F).N), P0_0 F t → P0_1 F t →
    (CZ F (crd F t) pinT_1) ∧ ((CL F (crd F t) pinT_0 pinT_1) ∧ ((¬(k0_cond3 (wI F (crd F t) pinT_0) (wJ F (crd F t) pinT_1) = 1#1)) ∧ (True))) := hyps0_B F

/-- At a point of way B: what is written back, and which buffers hold nothing determined. -/
theorem sched0_B : ∀ (t : Fin (cfgA F).N), P0_0 F t → P0_1 F t →
    (cfgA F).idle (3 : Fin 4) ((cfgA F).grid.coords t) = true ∧ ((cfgA F).win (3 : Fin 4)).flush t = false ∧ (cfgA F).fresh (3 : Fin 4) t.val = true ∧ sfresh0_0 F t.val = false ∧ sfresh0_0 F (t.val + 1) = false ∧ sfresh0_1 F t.val = false ∧ sfresh0_1 F (t.val + 1) = false := by
  intro t; rw [freshF0_3 F t, sfreshF0_0 F t, sfreshS0_0 F t, sfreshF0_1 F t, sfreshS0_1 F t]; exact (allFacts F t).2.2.2.2.2.2.1

/-- At a point of way C, its conditions hold of the words that the body reads there. -/
theorem hyps0_C : ∀ (t : Fin (cfgA F).N), ¬P0_0 F t → ¬P0_1 F t →
    (¬(CZ F (crd F t) pinT_1)) ∧ ((¬(CL F (crd F t) pinT_0 pinT_1)) ∧ ((k0_cond3 (wI F (crd F t) pinT_0) (wJ F (crd F t) pinT_1) = 1#1) ∧ (True))) := fun t => (allFacts F t).2.2.2.2.2.2.2.1

theorem hypsR0_C : ∀ (t : Fin (cfgA F).N), ¬P0_0 F t → ¬P0_1 F t →
    (¬(CZ F (crd F t) pinT_1)) ∧ ((¬(CL F (crd F t) pinT_0 pinT_1)) ∧ ((k0_cond3 (wI F (crd F t) pinT_0) (wJ F (crd F t) pinT_1) = 1#1) ∧ (True))) := hyps0_C F

/-- At a point of way C: what is written back, and which buffers hold nothing determined. -/
theorem sched0_C : ∀ (t : Fin (cfgA F).N), ¬P0_0 F t → ¬P0_1 F t →
    (cfgA F).idle (3 : Fin 4) ((cfgA F).grid.coords t) = false ∧ ((cfgA F).win (3 : Fin 4)).flush t = true ∧ (cfgA F).fresh (3 : Fin 4) t.val = true ∧ sfresh0_0 F t.val = false ∧ sfresh0_0 F (t.val + 1) = false ∧ sfresh0_1 F t.val = false ∧ sfresh0_1 F (t.val + 1) = false := by
  intro t; rw [freshF0_3 F t, sfreshF0_0 F t, sfreshS0_0 F t, sfreshF0_1 F t, sfreshS0_1 F t]; exact (allFacts F t).2.2.2.2.2.2.2.2.1

/-- At a point of way D, its conditions hold of the words that the body reads there. -/
theorem hyps0_D : ∀ (t : Fin (cfgA F).N), ¬P0_0 F t → P0_1 F t →
    (¬(CZ F (crd F t) pinT_1)) ∧ ((CL F (crd F t) pinT_0 pinT_1) ∧ ((¬(k0_cond3 (wI F (crd F t) pinT_0) (wJ F (crd F t) pinT_1) = 1#1)) ∧ (True))) := fun t => (allFacts F t).2.2.2.2.2.2.2.2.2.1

theorem hypsR0_D : ∀ (t : Fin (cfgA F).N), ¬P0_0 F t → P0_1 F t →
    (¬(CZ F (crd F t) pinT_1)) ∧ ((CL F (crd F t) pinT_0 pinT_1) ∧ ((¬(k0_cond3 (wI F (crd F t) pinT_0) (wJ F (crd F t) pinT_1) = 1#1)) ∧ (True))) := hyps0_D F

/-- At a point of way D: what is written back, and which buffers hold nothing determined. -/
theorem sched0_D : ∀ (t : Fin (cfgA F).N), ¬P0_0 F t → P0_1 F t →
    (cfgA F).idle (3 : Fin 4) ((cfgA F).grid.coords t) = true ∧ ((cfgA F).win (3 : Fin 4)).flush t = false ∧ (cfgA F).fresh (3 : Fin 4) t.val = true ∧ sfresh0_0 F t.val = false ∧ sfresh0_0 F (t.val + 1) = false ∧ sfresh0_1 F t.val = false ∧ sfresh0_1 F (t.val + 1) = false := by
  intro t; rw [freshF0_3 F t, sfreshF0_0 F t, sfreshS0_0 F t, sfreshF0_1 F t, sfreshS0_1 F t]; exact (allFacts F t).2.2.2.2.2.2.2.2.2.2

/-! ## What the outputs and scratches hold after each point -/

/-- A float type is inhabited (by the word 0 decoded). -/
instance inhF32 : Inhabited (F .f32) := Elt.inhabited F .f32

/-- One step: what the output's buffer and the two scratches hold after the body at point `t`, from what they held before. -/
def step0 (c : Dev nD) (t : Fin (cfgA F).N) (prev : (S1024x128.Idx → Elt F .f32) × Buf (Elt F) ((c : Thread nD τ).loc cc0_scratch0) × Buf (Elt F) ((c : Thread nD τ).loc cc0_scratch1)) : (S1024x128.Idx → Elt F .f32) × Buf (Elt F) ((c : Thread nD τ).loc cc0_scratch0) × Buf (Elt F) ((c : Thread nD τ).loc cc0_scratch1) :=
  if q0 : P0_0 F t then
    if q1 : P0_1 F t then
      ((if (cfgA F).fresh (3 : Fin 4) t.val then default else prev.1), (kernelRun0_B c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_B F t q0 q1).1 (hypsR0_B F t q0 q1).2.1 (hypsR0_B F t q0 q1).2.2.1).1, (kernelRun0_B c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_B F t q0 q1).1 (hypsR0_B F t q0 q1).2.1 (hypsR0_B F t q0 q1).2.2.1).2.1)
    else
      (out0_A_3 c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_A F t q0 q1).1 (hypsR0_A F t q0 q1).2.1 (hypsR0_A F t q0 q1).2.2.1, (kernelRun0_A c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_A F t q0 q1).1 (hypsR0_A F t q0 q1).2.1 (hypsR0_A F t q0 q1).2.2.1).2.1, (kernelRun0_A c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_A F t q0 q1).1 (hypsR0_A F t q0 q1).2.1 (hypsR0_A F t q0 q1).2.2.1).2.2.1)
  else
    if q1 : P0_1 F t then
      ((if (cfgA F).fresh (3 : Fin 4) t.val then default else prev.1), (kernelRun0_D c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_D F t q0 q1).1 (hypsR0_D F t q0 q1).2.1 (hypsR0_D F t q0 q1).2.2.1).1, (kernelRun0_D c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_D F t q0 q1).1 (hypsR0_D F t q0 q1).2.1 (hypsR0_D F t q0 q1).2.2.1).2.1)
    else
      (out0_C_3 c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_C F t q0 q1).1 (hypsR0_C F t q0 q1).2.1 (hypsR0_C F t q0 q1).2.2.1, (kernelRun0_C c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_C F t q0 q1).1 (hypsR0_C F t q0 q1).2.1 (hypsR0_C F t q0 q1).2.2.1).2.1, (kernelRun0_C c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_C F t q0 q1).1 (hypsR0_C F t q0 q1).2.1 (hypsR0_C F t q0 q1).2.2.1).2.2.1)

/-- What they hold after position `n`. -/
def traj0 (c : Dev nD) : (n : ℕ) → n < (cfgA F).N → (S1024x128.Idx → Elt F .f32) × Buf (Elt F) ((c : Thread nD τ).loc cc0_scratch0) × Buf (Elt F) ((c : Thread nD τ).loc cc0_scratch1)
  | 0, h => step0 F m ρ c ⟨0, h⟩ (default, default, default)
  | n + 1, h => step0 F m ρ c ⟨n + 1, h⟩ (traj0 c n (Nat.lt_of_succ_lt h))

/-- What they held before point `t` (nothing determined before the first). -/
def prev0 (c : Dev nD) (t : Fin (cfgA F).N) : (S1024x128.Idx → Elt F .f32) × Buf (Elt F) ((c : Thread nD τ).loc cc0_scratch0) × Buf (Elt F) ((c : Thread nD τ).loc cc0_scratch1) :=
  if h : t.val = 0 then (default, default, default) else traj0 F m ρ c (t.val - 1) (by omega)

theorem traj0_eq (c : Dev nD) (t : Fin (cfgA F).N) : traj0 F m ρ c t.val t.isLt = step0 F m ρ c t (prev0 F m ρ c t) := by
  obtain ⟨n, hn⟩ := t
  cases n with
  | zero => rfl
  | succ n => unfold prev0; simp only [Nat.add_one_ne_zero, dif_neg, not_false_eq_true]; rfl

/-- One step at a point of way A. -/
theorem step0_A (c : Dev nD) (t : Fin (cfgA F).N) (prev : (S1024x128.Idx → Elt F .f32) × Buf (Elt F) ((c : Thread nD τ).loc cc0_scratch0) × Buf (Elt F) ((c : Thread nD τ).loc cc0_scratch1)) (q0 : P0_0 F t) (q1 : ¬P0_1 F t) :
    step0 F m ρ c t prev = (out0_A_3 c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_A F t q0 q1).1 (hypsR0_A F t q0 q1).2.1 (hypsR0_A F t q0 q1).2.2.1, (kernelRun0_A c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_A F t q0 q1).1 (hypsR0_A F t q0 q1).2.1 (hypsR0_A F t q0 q1).2.2.1).2.1, (kernelRun0_A c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_A F t q0 q1).1 (hypsR0_A F t q0 q1).2.1 (hypsR0_A F t q0 q1).2.2.1).2.2.1) := by
  unfold step0; simp only [dif_pos q0, dif_neg q1]

/-- One step at a point of way B. -/
theorem step0_B (c : Dev nD) (t : Fin (cfgA F).N) (prev : (S1024x128.Idx → Elt F .f32) × Buf (Elt F) ((c : Thread nD τ).loc cc0_scratch0) × Buf (Elt F) ((c : Thread nD τ).loc cc0_scratch1)) (q0 : P0_0 F t) (q1 : P0_1 F t) :
    step0 F m ρ c t prev = ((if (cfgA F).fresh (3 : Fin 4) t.val then default else prev.1), (kernelRun0_B c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_B F t q0 q1).1 (hypsR0_B F t q0 q1).2.1 (hypsR0_B F t q0 q1).2.2.1).1, (kernelRun0_B c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) (hypsR0_B F t q0 q1).1 (hypsR0_B F t q0 q1).2.1 (hypsR0_B F t q0 q1).2.2.1).2.1) := by
  unfold step0; simp only [dif_pos q0, dif_pos q1]

/-- One step at a point of way C. -/
theorem step0_C (c : Dev nD) (t : Fin (cfgA F).N) (prev : (S1024x128.Idx → Elt F .f32) × Buf (Elt F) ((c : Thread nD τ).loc cc0_scratch0) × Buf (Elt F) ((c : Thread nD τ).loc cc0_scratch1)) (q0 : ¬P0_0 F t) (q1 : ¬P0_1 F t) :
    step0 F m ρ c t prev = (out0_C_3 c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_C F t q0 q1).1 (hypsR0_C F t q0 q1).2.1 (hypsR0_C F t q0 q1).2.2.1, (kernelRun0_C c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_C F t q0 q1).1 (hypsR0_C F t q0 q1).2.1 (hypsR0_C F t q0 q1).2.2.1).2.1, (kernelRun0_C c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_C F t q0 q1).1 (hypsR0_C F t q0 q1).2.1 (hypsR0_C F t q0 q1).2.2.1).2.2.1) := by
  unfold step0; simp only [dif_neg q0, dif_neg q1]

/-- One step at a point of way D. -/
theorem step0_D (c : Dev nD) (t : Fin (cfgA F).N) (prev : (S1024x128.Idx → Elt F .f32) × Buf (Elt F) ((c : Thread nD τ).loc cc0_scratch0) × Buf (Elt F) ((c : Thread nD τ).loc cc0_scratch1)) (q0 : ¬P0_0 F t) (q1 : P0_1 F t) :
    step0 F m ρ c t prev = ((if (cfgA F).fresh (3 : Fin 4) t.val then default else prev.1), (kernelRun0_D c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_D F t q0 q1).1 (hypsR0_D F t q0 q1).2.1 (hypsR0_D F t q0 q1).2.2.1).1, (kernelRun0_D c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) prev.2.1 prev.2.2 (hypsR0_D F t q0 q1).1 (hypsR0_D F t q0 q1).2.1 (hypsR0_D F t q0 q1).2.2.1).2.1) := by
  unfold step0; simp only [dif_neg q0, dif_pos q1]

/-! ## The pipeline's proof data -/

/-- What they held before position `t`. -/
def prev0T (c : Dev nD) (t : Fin ((cfgA F).N + 1)) : (S1024x128.Idx → Elt F .f32) × Buf (Elt F) ((c : Thread nD τ).loc cc0_scratch0) × Buf (Elt F) ((c : Thread nD τ).loc cc0_scratch1) :=
  if h : t.val = 0 then (default, default, default) else traj0 F m ρ c (t.val - 1) (by omega)

theorem prev0T_castSucc (c : Dev nD) (t : Fin (cfgA F).N) : prev0T F m ρ c t.castSucc = prev0 F m ρ c t := by
  unfold prev0T prev0; simp only [Fin.val_castSucc]
theorem prev0T_succ (c : Dev nD) (t : Fin (cfgA F).N) : prev0T F m ρ c t.succ = traj0 F m ρ c t.val t.isLt := by
  unfold prev0T; simp only [Fin.val_succ, Nat.add_one_ne_zero, ↓reduceDIte, Nat.add_one_sub_one]

/-- The invariant before point `t`: the scratches hold what the steps before left, and the body owns its halves of the tables. -/
def Phi (m : (ℓ : Loc nD τ sig) → Buf (Elt F) ℓ) (ρ : Dev nD → PrngReg) (c : Dev nD) (t : Fin ((cfgA F).N + 1)) : sProp 𝕄 :=
  iprop((∃ a, ⌜sfresh0_0 F t.val = false → a = (prev0T F m ρ c t).2.1⌝ ∗ (scM0_0.view.loc (c : Thread nD τ) ↦{fullShare} a)) ∗ (∃ a, ⌜sfresh0_1 F t.val = false → a = (prev0T F m ρ c t).2.2⌝ ∗ (scM0_1.view.loc (c : Thread nD τ) ↦{fullShare} a)) ∗ (tbM0_0.view.loc (c : Thread nD τ) ↦{fullShare.right} pinT_0) ∗ (tbM0_1.view.loc (c : Thread nD τ) ↦{fullShare.right} pinT_1))

/-- The proof data of the one pipeline on core `c`. -/
def dats (_ : Fin 1) (c : Dev nD) : Dat τ (Elt F) Unit ℕ (UR sig nD τ) ℕ (cfgA F) c where
  A w := (s₀ m ρ).mem (((cfgA F).win w).arr.view.loc (c : Thread nD τ))
  after w t := match w with
    | ⟨0, _⟩ => iblk F m ρ c (0 : Fin 4) t
    | ⟨1, _⟩ => iblk F m ρ c (1 : Fin 4) t
    | ⟨2, _⟩ => iblk F m ρ c (2 : Fin 4) t
    | ⟨3, _⟩ => (traj0 F m ρ c t.val t.isLt).1
  Φ t := Phi F m ρ c t
  q _ := fullShare
  owed _ := 0

theorem after0_0 (c : Dev nD) (t : Fin (cfgA F).N) : (dats F m ρ 0 c).after (0 : Fin 4) t = iblk F m ρ c (0 : Fin 4) t := rfl
theorem after0_1 (c : Dev nD) (t : Fin (cfgA F).N) : (dats F m ρ 0 c).after (1 : Fin 4) t = iblk F m ρ c (1 : Fin 4) t := rfl
theorem after0_2 (c : Dev nD) (t : Fin (cfgA F).N) : (dats F m ρ 0 c).after (2 : Fin 4) t = iblk F m ρ c (2 : Fin 4) t := rfl
theorem after0_3 (c : Dev nD) (t : Fin (cfgA F).N) : (dats F m ρ 0 c).after (3 : Fin 4) t = (traj0 F m ρ c t.val t.isLt).1 := rfl

/-! ## What each window's staging buffer holds when the body runs -/

/-- Input window 0 holds its block, fetched there or not. -/
theorem before0_0 (c : Dev nD) (t : Fin (cfgA F).N) (d) : (dats F m ρ 0 c).before (0 : Fin 4) t d = iblk F m ρ c (0 : Fin 4) t :=
  ((dats F m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA F).N) (d) : (dats F m ρ 0 c).before (1 : Fin 4) t d = iblk F m ρ c (1 : Fin 4) t :=
  ((dats F m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA F).N) (d) : (dats F m ρ 0 c).before (2 : Fin 4) t d = iblk F m ρ c (2 : Fin 4) t :=
  ((dats F m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA F).N) (ht : t.val ≠ 0), (cfgA F).idle (3 : Fin 4) ((cfgA F).grid.coords t) = true → (cfgA F).fresh (3 : Fin 4) t.val = false →
    (dats F m ρ 0 c).after (3 : Fin 4) t = (dats F m ρ 0 c).after (3 : Fin 4) ⟨t.val - 1, by omega⟩ := by
  intro t ht hi hf
  rw [after0_3, after0_3, traj0_eq]
  by_cases q0 : P0_0 F t
  · by_cases q1 : P0_1 F t
    · rw [step0_B F m ρ c t _ q0 q1]
      simp only [hf, Bool.false_eq_true, ↓reduceIte]
      unfold prev0; rw [dif_neg ht]
    · obtain ⟨i3, -, -, -, -⟩ := sched0_A F t q0 q1
      rw [i3] at hi; exact absurd hi (by decide)
  · by_cases q1 : P0_1 F t
    · rw [step0_D F m ρ c t _ q0 q1]
      simp only [hf, Bool.false_eq_true, ↓reduceIte]
      unfold prev0; rw [dif_neg ht]
    · obtain ⟨i3, -, -, -, -, -, -⟩ := sched0_C F t q0 q1
      rw [i3] at hi; exact absurd hi (by decide)

/-- What the output's buffer holds when the body runs at `t`. -/
theorem before0_3 (c : Dev nD) (t : Fin (cfgA F).N) (d) :
    (dats F m ρ 0 c).before (3 : Fin 4) t d = if (cfgA F).fresh (3 : Fin 4) t.val then d else (prev0 F m ρ c t).1 := by
  rw [(dats F m ρ 0 c).before_out_traj (3 : Fin 4) rfl (fun _ _ => rfl) (hcarry0_3 F m ρ c) t.val t rfl d]
  by_cases hf : (cfgA F).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by the way it takes -/

/-- The body at point `t` on its staging memrefs, as the pipeline calls it. -/
abbrev bodyAt0 (t : Fin (cfgA F).N) : Prog (TpuEff nD τ sig (Elt F) Λ₀ .tc) PUnit :=
  cc0_fox_flash (crd F t) (Memref.whole main_c) (Memref.isWhole_whole _) (Memref.whole main_c_0) (Memref.isWhole_whole _) (ms0_0 F t) (hs0_0 F t) (ms0_1 F t) (hs0_1 F t) (ms0_2 F t) (hs0_2 F t) (ms0_3 F t) (hs0_3 F t) (Memref.whole cc0_scratch0) (Memref.isWhole_whole _) (Memref.whole cc0_scratch1) (Memref.isWhole_whole _)

set_option maxHeartbeats 4000000 in
/-- The body at point `t` does what the proof data says: by cases on the way it takes there, by that way's run. -/
theorem sound_body (c : Dev nD) (t : Fin (cfgA F).N) :
    iprop((dats F m ρ 0 c).Φ t.castSucc ∗ (dats F m ρ 0 c).owesAt () t.castSucc
        ∗ (∃ d, owns (c : Thread nD τ) (ms0_0 F t) fullShare ((dats F m ρ 0 c).before (0 : Fin 4) t d))
        ∗ (∃ d, owns (c : Thread nD τ) (ms0_1 F t) fullShare ((dats F m ρ 0 c).before (1 : Fin 4) t d))
        ∗ (∃ d, owns (c : Thread nD τ) (ms0_2 F t) fullShare ((dats F m ρ 0 c).before (2 : Fin 4) t d))
        ∗ (∃ d, owns (c : Thread nD τ) (ms0_3 F t) fullShare ((dats F m ρ 0 c).before (3 : Fin 4) t d)))
      ⊢ wp frame (wpE (defs₀ (F := F)) Variants.none c none) Set.univ (bodyAt0 F t) fun _ =>
          iprop((dats F m ρ 0 c).Φ t.succ ∗ (dats F m ρ 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats F m ρ 0 c).before w t d))
                  | true => owns (c : Thread nD τ) (((cfgA F).win w).stage ((cfgA F).slots t w)) fullShare ((dats F m ρ 0 c).after w t)
                | false => owns (c : Thread nD τ) (((cfgA F).win w).stage ((cfgA F).slots t w)) fullShare ((dats F m ρ 0 c).after w t)) := by
  rw [bigSep_W0]
  by_cases q0 : P0_0 F t
  · by_cases q1 : P0_1 F t
    · obtain ⟨i3, f3, fr3, sf0, sfn0, sf1, sfn1⟩ := sched0_B F t q0 q1
      have F0 := hypsR0_B F t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_B F m ρ c t _ q0 q1]
      unfold Phi; simp only [prev0T_castSucc, prev0T_succ, traj0_eq, step0_B F m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_B c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) hc0 hc1 k0_h3).2.2 _ a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1⟩ := sched0_A F t q0 q1
      have F0 := hypsR0_A F t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_A F m ρ c t _ q0 q1]
      unfold Phi; simp only [prev0T_castSucc, prev0T_succ, traj0_eq, step0_A F m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) hc0 hc1 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 F t
    · obtain ⟨i3, f3, fr3, sf0, sfn0, sf1, sfn1⟩ := sched0_D F t q0 q1
      have F0 := hypsR0_D F t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_D F m ρ c t _ q0 q1]
      unfold Phi; simp only [prev0T_castSucc, prev0T_succ, traj0_eq, step0_D F m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_D c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) _ _ hc0 hc1 k0_h3).2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1⟩ := sched0_C F t q0 q1
      have F0 := hypsR0_C F t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats F m ρ 0 c).Φ t.succ = Phi F m ρ c t.succ from rfl, show (dats F m ρ 0 c).Φ t.castSucc = Phi F m ρ c t.castSucc from rfl,
        show (dats F m ρ 0 c).owesAt () t.succ = (dats F m ρ 0 c).owesAt () t.castSucc from rfl]
      try rewrite [traj0_eq, step0_C F m ρ c t _ q0 q1]
      unfold Phi; simp only [prev0T_castSucc, prev0T_succ, traj0_eq, step0_C F m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_C c (crd F t) (ms0_0 F t) (hs0_0 F t) (ms0_1 F t) (hs0_1 F t) (ms0_2 F t) (hs0_2 F t) (ms0_3 F t) (hs0_3 F t) pinT_0 pinT_1 (iblk F m ρ c (0 : Fin 4) t) (iblk F m ρ c (1 : Fin 4) t) (iblk F m ρ c (2 : Fin 4) t) _ _ hc0 hc1 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _)

/-- The library's body obligation, at every point. -/
theorem body_obligation (c : Dev nD) : BodyObligation (dats F m ρ 0 c) (defs₀ (F := F)) Variants.none () Set.univ := fun t => by
  rw [bigSep_W0]
  exact sound_body F m ρ c t

/-! ## The launch -/

/-- The rounds library's launch element. -/
def u₀ : UR sig nD τ :=
  initOf (Pipeline.cells (pcs F) ((launch0 (F := F)).cellOf_inj fun _ => adm F))
    (Pipeline.launchToks (pcs F) ((launch0 (F := F)).cellOf_inj fun _ => adm F))

theorem share_eq (c : Dev nD) (w : Fin (cfgA F).W) : (dats F m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm F).1 ∗ Pipeline.scopedRest spec0 c) ⊢ (dats F m ρ 0 c).Φ 0 := by
  rw [prefHeld_eq, scopedRest0_eq, show (dats F m ρ 0 c).Φ 0 = Phi F m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 F 0 = true from rfl)) Bool.false_ne_true
  isplitl [HS1]
  · iexists a1; isplitr; swap
    · iexact HS1
    · ipureintro; intro h; exact absurd (h.symm.trans (show sfresh0_1 F 0 = true from rfl)) Bool.false_ne_true
  isplitl [HT0]
  · iexact HT0
  iexact HT1

/-- at the last point it gives the scratch buffers back (`hout`), the tables let go. -/
theorem phiN_exit (c : Dev nD) : (dats F m ρ 0 c).Φ (Fin.last (cfgA F).N) ⊢ iprop(BI.emp ∗ Pipeline.scopedRest spec0 c) := by
  rw [scopedRest0_eq, show (dats F m ρ 0 c).Φ (Fin.last (cfgA F).N) = Phi F m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- At the end: every array at what the library computes, every table at what the pipeline ran at. -/
def QC : PUnit × MemSt nD τ sig (Elt F) → Prop := fun r =>
  ∀ c : Dev nD, (∀ w : Fin (cfgA F).W, r.2.mem (((cfgA F).win w).arr.view.loc (c : Thread nD τ)) = (dats F m ρ 0 c).arrAt w (cfgA F).N)
    ∧ ∀ j, r.2.mem ((c : Thread nD τ).loc (pre0.ref j)) = (adm F).1 j

/-- What the buffers hold when the region is entered: the two constants in the tables, everything else as at launch. -/
def V (c : Dev nD) (b : Ref sig .tc) : Buf (Elt F) ((c : Thread nD τ).loc b) :=
  StableHlo.after (hostOps0 (F := F)) (fun b => m (c, b)) b

/-- The two host operations write the tables only. -/
theorem V_of_ne (c : Dev nD) (b : Ref sig .tc) (h : b ∉ [main_c, main_c_0]) : V F m c b = m ((c : Thread nD τ).loc b) :=
  StableHlo.after_of_writes_sub (W := [main_c, main_c_0]) _ _ ⟨by simp [StableHlo.nullary], by simp [StableHlo.nullary]⟩ h

/-- So the windows' arrays are as at launch. -/
theorem V_arr (c : Dev nD) (w : Fin 4) : V F m c (Pipeline.arrRef spec0 w) = m ((c : Thread nD τ).loc (Pipeline.arrRef spec0 w)) :=
  V_of_ne F m c _ (by fin_cases w <;> decide)

/-- The first constant is the first table. -/
theorem lit0_eq : (fun i => lit0 (S36.rowMajor i)) = pinT_0 := by
  funext i; revert i; decide +kernel
/-- The second constant is the second table. -/
theorem lit1_eq : (fun i => lit1 (S36.rowMajor i)) = pinT_1 := by
  funext i; revert i; decide +kernel

theorem V_pre (c : Dev nD) (j : Fin 2) : V F m c (pre0.ref j) = (adm F).1 j := by
  fin_cases j
  · refine Eq.trans (b := (fun i => lit0 (S36.rowMajor i))) ?_ lit0_eq
    unfold V; simp [StableHlo.after_cons]; rfl
  · refine Eq.trans (b := (fun i => lit1 (S36.rowMajor i))) ?_ lit1_eq
    unfold V; simp [StableHlo.after_cons]; rfl

set_option backward.isDefEq.respectTransparency.types false in
set_option maxHeartbeats 4000000 in
/-- From any memory with zero counters the program terminates, with each array at the computed contents and every semaphore counter at zero. -/
theorem run_main_quiescent : θ_run (defs (F := F)) (onTc (τ := τ) (main (F := F))) (s₀ m ρ) (fun r => QC F m ρ r ∧ r.2.sem = fun _ => 0) :=
  Pipeline.θ_run_region_noSem_pf_quiescent pcfgs (fun _ => adm F) (dats F m ρ) () ((launch0 (F := F)).cellOf_inj fun _ => adm F) (0 : Fin 1)
    (launch0 (F := F)).win.to₀ (launch0 (F := F)).pre (EP F) defs₀ Variants.none m ρ main
    (hbody := fun c => (body_obligation F m ρ c).loose) (hne := (launch0 (F := F)).block_pos)
    (harr := (launch0 (F := F)).arr_whole) (hstage := (launch0 (F := F)).stage_whole) (howed := fun _ _ => rfl)
    (u₀ := u₀ F) (hu₀ := .rfl)
    (V := V F m)
    (hmain := Pipeline.hmainP_prefix pcfgs 0 defs₀ Variants.none m main hostOps0 hostOps0_sub ⟨rfl, rfl⟩ main_chain)
    (hsplit := fun c => Pipeline.arrays_split (pcs F) (dats F m ρ) 0 (launch0 (F := F)).win.arr_inj c (launch0 (F := F)).arr_whole
      (share_eq F m ρ c) _ _ fun w => (V_arr F m c w).symm)
    (hpf := V_pre F m)
    (X := fun _ => iprop(emp)) (Y := fun _ => iprop(emp)) (Z := fun _ => iprop(emp))
    (hX := fun c => by rw [unscopedRestP0_eq]; iintro -; isplitr <;> iempintro)
    (hin := phi0_intro F m ρ)
    (hout := phiN_exit F m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := F)) (onTc (τ := τ) (main (F := F))) (s₀ m ρ) (QC F m ρ) :=
  (θ_run defs _ _).mono (fun _ h => h.1) (run_main_quiescent F m ρ)

/-- The attention kernel terminates without a fault, leaves its arguments as they were, and returns every semaphore to zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 (0 : Fin 4)).trans ((dats F m ρ 0 c).arrAt_in (0 : Fin 4) rfl _), ((h.1 c).1 (1 : Fin 4)).trans ((dats F m ρ 0 c).arrAt_in (1 : Fin 4) rfl _), ((h.1 c).1 (2 : Fin 4)).trans ((dats F m ρ 0 c).arrAt_in (2 : Fin 4) rfl _)⟩, h.2⟩) (run_main_quiescent F m ρ)

end Cert.KernelIdeal.Attn

end
-- ==== Proof.ProjValue.lean ====
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Proj

open Cert.Kernel3Ideal Cert.Kernel3Ideal.Gen Cert.Kernel3Ideal.Value Idealize.ShloMosaic Idealize.ShloMosaic.TcCoe Idealize.SL.Sem
open Idealize.ShloMosaic.Pipeline (Dat)

variable (m : (ℓ : Loc nD τ sig) → Buf (Elt Ideal) ℓ)

/-- The block of each window at point `t`: the rows' block is `t / 3`, the batch is `t / 24`, the columns' block is
    `t % 3`. -/
theorem idx : ∀ t : Fin cfg0.N, win0_0.index t = ![t.val / 3, 0] ∧ win0_1.index t = ![t.val / 24, 0, 0] ∧ win0_2.index t = ![t.val / 24, 0, 0]
    ∧ win0_3.index t = ![0, 0] ∧ win0_4.index t = ![0, t.val % 3] :=
  (by decide +kernel : ∀ t : Fin grid0.N, _)

/-- One normalised and modulated row: `x · rsqrt(mean x² + ε) · g · (1 + c) + s`, at lane `k`. -/
def modRow (x g c s : Fin 1024 → EReal) (k : Fin 1024) : EReal :=
  x k * Ideal.rsqrt (Ideal.div (∑ j : Fin 1024, x j * x j) (Ideal.ofBits FTy.f32 1149239296#32) + Ideal.ofBits FTy.f32 897988541#32) * g k * (1 + c k) + s k

/-- The modulated activations of row `R`, from the argument arrays: batch `R / 8192` scales and shifts. -/
def H (c : Dev nD) (R : Fin 16384) (k : Fin 1024) : EReal :=
  modRow (fun k => m ((c : Thread nD τ).loc main_arg0) (ix2 R k)) (fun k => m ((c : Thread nD τ).loc main_arg3) (ix2 0 k))
    (fun k => m ((c : Thread nD τ).loc main_arg1) (ix3 ⟨R.val / 8192, by omega⟩ 0 k)) (fun k => m ((c : Thread nD τ).loc main_arg2) (ix3 ⟨R.val / 8192, by omega⟩ 0 k)) k

/-- The first column block's point leaves the modulated rows in the carried scratch. -/
theorem resetH (c : Dev nD) (t : Fin cfg0.N) (acc : Vec Ideal S1024x1280 .f32 × Vec Ideal S1024x1024 .bf16) (ht : t.val % 3 = 0) (y : S1024x1024.Idx)
    (R : Fin 16384) (hR : R.val = t.val / 3 * 1024 + (y 0).val) :
    (stAt0 m c t.val t.isLt acc).2 y = H m c R (y 1) := by
  have hN : t.val < 48 := lt_of_lt_of_eq t.isLt N_0
  rw [stAt0_A m c t acc ht (by omega)]
  dsimp only
  frame_out
  canon_tiles x h
  all_goals (open_payloads; pointwise [H, modRow]; blk_point [iblk, V, idx t])

/-- The first column block's point leaves the modulated rows times its block of the weights in the output block. -/
theorem resetO (c : Dev nD) (t : Fin cfg0.N) (acc : Vec Ideal S1024x1280 .f32 × Vec Ideal S1024x1024 .bf16) (ht : t.val % 3 = 0) (y : S1024x1280.Idx)
    (R : Fin 16384) (hR : R.val = t.val / 3 * 1024 + (y 0).val) (C : Fin 3840) (hC : C.val = t.val % 3 * 1280 + (y 1).val) :
    (stAt0 m c t.val t.isLt acc).1 y = ∑ k : Fin 1024, H m c R k * m ((c : Thread nD τ).loc main_arg4) (ix2 k C) := by
  have hN : t.val < 48 := lt_of_lt_of_eq t.isLt N_0
  rw [stAt0_A m c t acc ht (by omega)]
  dsimp only
  frame_out
  canon_tiles x h
  all_goals (open_payloads; pointwise [H, modRow]; blk_point [iblk, V, idx t])

/-- A later column block's point multiplies the carried rows. -/
theorem stepO (c : Dev nD) (t : Fin cfg0.N) (acc : Vec Ideal S1024x1280 .f32 × Vec Ideal S1024x1024 .bf16) (ht : ¬t.val % 3 = 0) (y : S1024x1280.Idx)
    (C : Fin 3840) (hC : C.val = t.val % 3 * 1280 + (y 1).val) :
    (stAt0 m c t.val t.isLt acc).1 y = ∑ k : Fin 1024, acc.2 (ix2 (y 0) k) * m ((c : Thread nD τ).loc main_arg4) (ix2 k C) := by
  have hN : t.val < 48 := lt_of_lt_of_eq t.isLt N_0
  rw [stAt0_B m c t acc ht (by omega)]
  dsimp only
  frame_out
  rw [(Memref.isWhole_whole cc0_scratch0).read_unread]
  pointwise [k0_pay4]
  blk_point [iblk, V, idx t]

/-- A later column block's point keeps the carried rows. -/
theorem stepH (c : Dev nD) (t : Fin cfg0.N) (acc : Vec Ideal S1024x1280 .f32 × Vec Ideal S1024x1024 .bf16) (ht : ¬t.val % 3 = 0) :
    (stAt0 m c t.val t.isLt acc).2 = acc.2 := by
  have hN : t.val < 48 := lt_of_lt_of_eq t.isLt N_0
  rw [stAt0_B m c t acc ht (by omega)]
  rfl

/-- What a point leaves, given that the point before left the rows of the same row block. -/
def Inv (c : Dev nD) (n : ℕ) (v : Vec Ideal S1024x1280 .f32 × Vec Ideal S1024x1024 .bf16) : Prop :=
  (∀ (y : S1024x1024.Idx) (R : Fin 16384), R.val = n / 3 * 1024 + (y 0).val → v.2 y = H m c R (y 1))
    ∧ ∀ (y : S1024x1280.Idx) (R : Fin 16384) (C : Fin 3840), R.val = n / 3 * 1024 + (y 0).val → C.val = n % 3 * 1280 + (y 1).val →
      v.1 y = ∑ k : Fin 1024, H m c R k * m ((c : Thread nD τ).loc main_arg4) (ix2 k C)

theorem inv_step (c : Dev nD) (n : ℕ) (hn : n < cfg0.N) (acc : Vec Ideal S1024x1280 .f32 × Vec Ideal S1024x1024 .bf16)
    (h : ¬n % 3 = 0 → Inv m c (n - 1) acc) : Inv m c n (stAt0 m c n hn acc) := by
  by_cases ht : n % 3 = 0
  · exact ⟨fun y R hR => resetH m c ⟨n, hn⟩ acc ht y R hR, fun y R C hR hC => resetO m c ⟨n, hn⟩ acc ht y R hR C hC⟩
  · have hd : (n - 1) / 3 = n / 3 := by omega
    have ih := (h ht).1
    rw [hd] at ih
    refine ⟨fun y R hR => ?_, fun y R C hR hC => ?_⟩
    · rw [stepH m c ⟨n, hn⟩ acc ht]; exact ih y R hR
    · rw [stepO m c ⟨n, hn⟩ acc ht y C hC]
      refine Finset.sum_congr rfl fun k _ => ?_
      rw [ih (ix2 (y 0) k) R hR]
      rfl

theorem inv (c : Dev nD) : ∀ (n : ℕ) (h : 0 + n < cfg0.N),
    Inv m c (0 + n) (Pipeline.accAt (fun n h => stAt0 m c n h junk0) (stAt0 m c) 0 n h)
  | 0, h => inv_step m c (0 + 0) h _ fun h => absurd rfl h
  | n + 1, h => by
    rw [Pipeline.accAt_succ]
    exact inv_step m c (0 + (n + 1)) h _ fun _ => inv c n (Nat.lt_of_succ_lt h)

/-- THE RESULT of the projection: each modulated row times the weights. -/
theorem out_eq (c : Dev nD) (i : S16384x3840.Idx) :
    G5 m c i = ∑ k : Fin 1024, H m c (i 0) k * m ((c : Thread nD τ).loc main_arg4) (ix2 k (i 1)) := by
  have h0 : (i 0).val < 16384 := (i 0).isLt
  have h1 : (i 1).val < 3840 := (i 1).isLt
  have hp : pt5Of i < cfg0.N := lt_of_lt_of_eq (by show 3 * ((i 0).val / 1024 - 0) + 1 * ((i 1).val / 1280 - 0) < 48; omega) N_0.symm
  unfold G5
  rw [dif_pos hp]
  refine (inv m c (pt5Of i) (by omega)).2 (loc5Of i) (i 0) (i 1) ?_ ?_
  · show (i 0).val = (0 + (3 * ((i 0).val / 1024 - 0) + 1 * ((i 1).val / 1280 - 0))) / 3 * 1024 + (i 0).val % 1024
    omega
  · show (i 1).val = (0 + (3 * ((i 0).val / 1024 - 0) + 1 * ((i 1).val / 1280 - 0))) % 3 * 1280 + (i 1).val % 1280
    omega

end Cert.Proj

end
-- ==== Proof.ProjAlg.lean ====
module

public import proofs.«01_k».proof.Defs
public import proofs.«01_k».proof.Proof.ProjValue
public import proofs.«01_k».proof.Proof.Gen.Reference3Ideal.Run
public import Idealize.ShloMosaic.Lib.Claim

@[expose] public section

set_option maxRecDepth 16384

noncomputable section

namespace Cert.Proj.Ref

open Cert.Reference3Ideal Cert.Reference3Ideal.Gen Idealize.ShloMosaic Idealize.ShloMosaic.TcCoe Idealize.SL.Sem

/-- The reference's result as a function of its arguments. -/
abbrev REF (X : FVec Ideal S16384x1024 .f32) (C S : FVec Ideal S2x1x1024 .f32) (G : FVec Ideal S1x1024 .f32) (W : FVec Ideal S1024x3840 .bf16) : FVec Ideal S16384x3840 .f32 :=
  shapeCast _ (Host.dotGeneral dot_S2x8192x1024_S1024x3840_S2x8192x3840_2_0_01_1_n_n none (addf (mulf (mulf (mulf (shapeCast _ (X) shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ (X) shapeCasts_S16384x1024_S2x8192x1024) (shapeCast _ (X) shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![1, 2] bcast_S1x1024_S1x1x1024_1_2 (G)))) (broadcastInDim S2x8192x1024 ![0, 1, 2] bcast_S2x1x1024_S2x8192x1024_0_1_2 (addf (broadcastInDim S2x1x1024 ![] bcast_S_S2x1x1024 (constant S_ .f32 0x3F800000#32)) (C)))) (broadcastInDim S2x8192x1024 ![0, 1, 2] bcast_S2x1x1024_S2x8192x1024_0_1_2 (S))) (extf .f32 (W) bitsLt_bf16_f32)) shapeCasts_S2x8192x3840_S16384x3840

/-- The reference's result at an entry: the modulated row times the weights. -/
theorem ref_eq (X : FVec Ideal S16384x1024 .f32) (C S : FVec Ideal S2x1x1024 .f32) (G : FVec Ideal S1x1024 .f32) (W : FVec Ideal S1024x3840 .bf16) (i : S16384x3840.Idx)
    (hb : (i 0).val / 8192 < 2) :
    REF X C S G W i = ∑ k : Fin 1024, Cert.Proj.modRow (fun k => X (ix2 (i 0) k)) (fun k => G (ix2 0 k)) (fun k => C (ix3 ⟨(i 0).val / 8192, hb⟩ 0 k)) (fun k => S (ix3 ⟨(i 0).val / 8192, hb⟩ 0 k)) k * W (ix2 k (i 1)) := by
  pointwise [REF, Cert.Proj.modRow]

end Cert.Proj.Ref

namespace Cert.Proj

open Idealize.ShloMosaic

/-- The projection and its reference give equal results. -/
theorem algebraic : Cert.algebraic_Kernel3Ideal_Reference3Ideal := by
  pair_intro
  · run_from Cert.Kernel3Ideal.Value.run m g
  · run_from Cert.Reference3Ideal.Value.run m' g'
    funext i
    have h0 : (i 0).val < 16384 := (i 0).isLt
    exact (Ref.ref_eq _ _ _ _ _ i (by omega)).trans (out_eq m c i).symm

end Cert.Proj

end
-- ==== Proof.MlpRows.lean ====
module

public import proofs.«01_k».proof.Proof.Gen.Kernel2Ideal.Value
public import Idealize.ShloMosaic.Lib.Pipeline.ValueKit

@[expose] public section

set_option maxRecDepth 16384

noncomputable section

namespace Cert.Mlp

open Cert.Kernel2Ideal Cert.Kernel2Ideal.Gen Cert.Kernel2Ideal.Value Idealize.ShloMosaic Idealize.ShloMosaic.TcCoe Idealize.SL.Sem
open Idealize.ShloMosaic.Pipeline (Dat)

/-- The root-mean-square normalisation of a row `x` with the weights `g`, at lane `k`. -/
def rmsRow (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- The squared-ReLU layer over `n` hidden features: up projection, `max 0` squared, down projection. -/
def mlpRow {n : ℕ} (x : Fin 1024 → EReal) (wu : Fin 1024 → Fin n → EReal) (wd : Fin n → Fin 1024 → EReal) (k : Fin 1024) : EReal :=
  ∑ f : Fin n, max (∑ e : Fin 1024, x e * wu e f) 0 * max (∑ e : Fin 1024, x e * wu e f) 0 * wd f k

/-- The residual row after the mixer: the two halves of the heads through the output projection, normalised, gated, added. -/
def x1Row (a : Fin 512 → EReal) (wa : Fin 512 → Fin 1024 → EReal) (b : Fin 512 → EReal) (wb : Fin 512 → Fin 1024 → EReal) (x gt g : Fin 1024 → EReal)
    (k : Fin 1024) : EReal :=
  x k + gt k * rmsRow (fun k => (∑ e : Fin 512, a e * wa e k) + ∑ e : Fin 512, b e * wb e k) g k

/-- The normalised and modulated row. -/
def xmRow (x g sc sh : Fin 1024 → EReal) (k : Fin 1024) : EReal := rmsRow x g k * (1 + sc k) + sh k

/-- The layer's output row: the residual plus the gated normalised row `y`. -/
def outRow (x gt y g : Fin 1024 → EReal) (k : Fin 1024) : EReal := x k + gt k * rmsRow y g k

/-! ## What each stored value is, row by row -/

/-- Row part 0: the residual row. -/
theorem x1_0 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) :
    k0_pay4 v0 v1 v2 v3 v4 v5 v6 y = x1Row (fun e => v0 (ix2 (y 0) e)) (fun e k => v1 (ix2 e k)) (fun e => v2 (ix2 (y 0) e)) (fun e k => v3 (ix2 e k)) (fun k => v4 (ix2 (y 0) k)) (fun k => v5 (ix3 0 0 k)) (fun k => v6 (ix2 0 k)) (y 1) := by
  pointwise [k0_pay4, x1Row, rmsRow]

/-- Row part 0: the residual row, as it is stored. -/
theorem x1s_0 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) : k0_pay5 v0 v1 v2 v3 v4 v5 v6 y = k0_pay4 v0 v1 v2 v3 v4 v5 v6 y := by
  pointwise [k0_pay5]

/-- Row part 0: the modulated row over the residual row. -/
theorem xm_0 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (g : Vec Ideal S1x1024 .f32) (sc sh : Vec Ideal S1x1x1024 .f32) (y : S256x1024.Idx) :
    k0_pay7 (k0_pay4 v0 v1 v2 v3 v4 v5 v6) g (k0_pay6 v0 v1 v2 v3 v4 v5 v6) sc sh y = xmRow (fun k => k0_pay4 v0 v1 v2 v3 v4 v5 v6 (ix2 (y 0) k)) (fun k => g (ix2 0 k)) (fun k => sc (ix3 0 0 k)) (fun k => sh (ix3 0 0 k)) (y 1) := by
  pointwise [k0_pay7, k0_pay6, xmRow, rmsRow]

/-- Row part 0: the modulated row, as it is stored. -/
theorem xms_0 (x : FVec Ideal S256x1024 .f32) (s : FVec Ideal S256 .f32) (g : Vec Ideal S1x1024 .f32) (sc sh : Vec Ideal S1x1x1024 .f32) (y : S256x1024.Idx) : k0_pay8 x g s sc sh y = k0_pay7 x g s sc sh y := by
  pointwise [k0_pay8]

/-- Row part 0: the first hidden block over the modulated row. -/
theorem ac_0 (x : FVec Ideal S256x1024 .f32) (s : FVec Ideal S256 .f32) (g : Vec Ideal S1x1024 .f32) (sc sh : Vec Ideal S1x1x1024 .f32) (wu wd : Vec Ideal S1x1024x1024 .bf16) (y : S256x1024.Idx) :
    k0_pay9 x g s sc sh wu wd y = mlpRow (n := 1024) (fun e => k0_pay7 x g s sc sh (ix2 (y 0) e)) (fun e f => wu (ix3 0 e f)) (fun f k => wd (ix3 0 f k)) (y 1) := by
  pointwise [k0_pay9, mlpRow]

/-- Row part 1: the residual row. -/
theorem x1_1 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) :
    k0_pay10 v0 v1 v2 v3 v4 v5 v6 y = x1Row (fun e => v0 (ix2 (y 0) e)) (fun e k => v1 (ix2 e k)) (fun e => v2 (ix2 (y 0) e)) (fun e k => v3 (ix2 e k)) (fun k => v4 (ix2 (y 0) k)) (fun k => v5 (ix3 0 0 k)) (fun k => v6 (ix2 0 k)) (y 1) := by
  pointwise [k0_pay10, x1Row, rmsRow]

/-- Row part 1: the residual row, as it is stored. -/
theorem x1s_1 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) : k0_pay11 v0 v1 v2 v3 v4 v5 v6 y = k0_pay10 v0 v1 v2 v3 v4 v5 v6 y := by
  pointwise [k0_pay11]

/-- Row part 1: the modulated row over the residual row. -/
theorem xm_1 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (g : Vec Ideal S1x1024 .f32) (sc sh : Vec Ideal S1x1x1024 .f32) (y : S256x1024.Idx) :
    k0_pay13 (k0_pay10 v0 v1 v2 v3 v4 v5 v6) g (k0_pay12 v0 v1 v2 v3 v4 v5 v6) sc sh y = xmRow (fun k => k0_pay10 v0 v1 v2 v3 v4 v5 v6 (ix2 (y 0) k)) (fun k => g (ix2 0 k)) (fun k => sc (ix3 0 0 k)) (fun k => sh (ix3 0 0 k)) (y 1) := by
  pointwise [k0_pay13, k0_pay12, xmRow, rmsRow]

/-- Row part 1: the modulated row, as it is stored. -/
theorem xms_1 (x : FVec Ideal S256x1024 .f32) (s : FVec Ideal S256x1024 .f32) (g : Vec Ideal S1x1024 .f32) (sc sh : Vec Ideal S1x1x1024 .f32) (y : S256x1024.Idx) : k0_pay14 x g s sc sh y = k0_pay13 x g s sc sh y := by
  pointwise [k0_pay14]

/-- Row part 1: the first hidden block over the modulated row. -/
theorem ac_1 (x : FVec Ideal S256x1024 .f32) (s : FVec Ideal S256x1024 .f32) (g : Vec Ideal S1x1024 .f32) (sc sh : Vec Ideal S1x1x1024 .f32) (wu wd : Vec Ideal S1x1024x1024 .bf16) (y : S256x1024.Idx) :
    k0_pay15 x g s sc sh wu wd y = mlpRow (n := 1024) (fun e => k0_pay13 x g s sc sh (ix2 (y 0) e)) (fun e f => wu (ix3 0 e f)) (fun f k => wd (ix3 0 f k)) (y 1) := by
  pointwise [k0_pay15, mlpRow]

/-- Row part 1: the first hidden block's part, as it is stored. -/
theorem acs_1 (x : FVec Ideal S256x1024 .f32) (y : S256x1024.Idx) : k0_pay16 x y = x y := by
  pointwise [k0_pay16]

/-- Row part 2: the residual row. -/
theorem x1_2 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) :
    k0_pay17 v0 v1 v2 v3 v4 v5 v6 y = x1Row (fun e => v0 (ix2 (y 0) e)) (fun e k => v1 (ix2 e k)) (fun e => v2 (ix2 (y 0) e)) (fun e k => v3 (ix2 e k)) (fun k => v4 (ix2 (y 0) k)) (fun k => v5 (ix3 0 0 k)) (fun k => v6 (ix2 0 k)) (y 1) := by
  pointwise [k0_pay17, x1Row, rmsRow]

/-- Row part 2: the residual row, as it is stored. -/
theorem x1s_2 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) : k0_pay18 v0 v1 v2 v3 v4 v5 v6 y = k0_pay17 v0 v1 v2 v3 v4 v5 v6 y := by
  pointwise [k0_pay18]

/-- Row part 2: the modulated row over the residual row. -/
theorem xm_2 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (g : Vec Ideal S1x1024 .f32) (sc sh : Vec Ideal S1x1x1024 .f32) (y : S256x1024.Idx) :
    k0_pay20 (k0_pay17 v0 v1 v2 v3 v4 v5 v6) g (k0_pay19 v0 v1 v2 v3 v4 v5 v6) sc sh y = xmRow (fun k => k0_pay17 v0 v1 v2 v3 v4 v5 v6 (ix2 (y 0) k)) (fun k => g (ix2 0 k)) (fun k => sc (ix3 0 0 k)) (fun k => sh (ix3 0 0 k)) (y 1) := by
  pointwise [k0_pay20, k0_pay19, xmRow, rmsRow]

/-- Row part 2: the modulated row, as it is stored. -/
theorem xms_2 (x : FVec Ideal S256x1024 .f32) (s : FVec Ideal S256x1024 .f32) (g : Vec Ideal S1x1024 .f32) (sc sh : Vec Ideal S1x1x1024 .f32) (y : S256x1024.Idx) : k0_pay21 x g s sc sh y = k0_pay20 x g s sc sh y := by
  pointwise [k0_pay21]

/-- Row part 2: the first hidden block over the modulated row. -/
theorem ac_2 (x : FVec Ideal S256x1024 .f32) (s : FVec Ideal S256x1024 .f32) (g : Vec Ideal S1x1024 .f32) (sc sh : Vec Ideal S1x1x1024 .f32) (wu wd : Vec Ideal S1x1024x1024 .bf16) (y : S256x1024.Idx) :
    k0_pay22 x g s sc sh wu wd y = mlpRow (n := 1024) (fun e => k0_pay20 x g s sc sh (ix2 (y 0) e)) (fun e f => wu (ix3 0 e f)) (fun f k => wd (ix3 0 f k)) (y 1) := by
  pointwise [k0_pay22, mlpRow]

/-- Row part 2: the first hidden block's part, as it is stored. -/
theorem acs_2 (x : FVec Ideal S256x1024 .f32) (y : S256x1024.Idx) : k0_pay23 x y = x y := by
  pointwise [k0_pay23]

/-- Row part 3: the residual row. -/
theorem x1_3 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) :
    k0_pay24 v0 v1 v2 v3 v4 v5 v6 y = x1Row (fun e => v0 (ix2 (y 0) e)) (fun e k => v1 (ix2 e k)) (fun e => v2 (ix2 (y 0) e)) (fun e k => v3 (ix2 e k)) (fun k => v4 (ix2 (y 0) k)) (fun k => v5 (ix3 0 0 k)) (fun k => v6 (ix2 0 k)) (y 1) := by
  pointwise [k0_pay24, x1Row, rmsRow]

/-- Row part 3: the residual row, as it is stored. -/
theorem x1s_3 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (y : S256x1024.Idx) : k0_pay25 v0 v1 v2 v3 v4 v5 v6 y = k0_pay24 v0 v1 v2 v3 v4 v5 v6 y := by
  pointwise [k0_pay25]

/-- Row part 3: the modulated row over the residual row. -/
theorem xm_3 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x1x1024 .f32) (v6 : Vec Ideal S1x1024 .f32) (g : Vec Ideal S1x1024 .f32) (sc sh : Vec Ideal S1x1x1024 .f32) (y : S256x1024.Idx) :
    k0_pay26 (k0_pay24 v0 v1 v2 v3 v4 v5 v6) g sc sh y = xmRow (fun k => k0_pay24 v0 v1 v2 v3 v4 v5 v6 (ix2 (y 0) k)) (fun k => g (ix2 0 k)) (fun k => sc (ix3 0 0 k)) (fun k => sh (ix3 0 0 k)) (y 1) := by
  pointwise [k0_pay26, xmRow, rmsRow]

/-- Row part 3: the modulated row, as it is stored. -/
theorem xms_3 (x : FVec Ideal S256x1024 .f32) (g : Vec Ideal S1x1024 .f32) (sc sh : Vec Ideal S1x1x1024 .f32) (y : S256x1024.Idx) : k0_pay27 x g sc sh y = k0_pay26 x g sc sh y := by
  pointwise [k0_pay27]

/-- Row part 3: the first hidden block over the modulated row. -/
theorem ac_3 (x : FVec Ideal S256x1024 .f32) (g : Vec Ideal S1x1024 .f32) (sc sh : Vec Ideal S1x1x1024 .f32) (wu wd : Vec Ideal S1x1024x1024 .bf16) (y : S256x1024.Idx) :
    k0_pay28 x g sc sh wu wd y = mlpRow (n := 1024) (fun e => k0_pay26 x g sc sh (ix2 (y 0) e)) (fun e f => wu (ix3 0 e f)) (fun f k => wd (ix3 0 f k)) (y 1) := by
  pointwise [k0_pay28, mlpRow]

/-- Row part 3: the first hidden block's part, as it is stored. -/
theorem acs_3 (x : FVec Ideal S256x1024 .f32) (y : S256x1024.Idx) : k0_pay1 x y = x y := by
  pointwise [k0_pay1]

/-- Row part 0: the last hidden block, and the output row. -/
theorem out_0 (a : Vec Ideal S256x1024 .f32) (x : Vec Ideal S256x1024 .bf16) (wu wd : Vec Ideal S1x1024x1024 .bf16) (x1 : Vec Ideal S256x1024 .f32) (gt : Vec Ideal S1x1x1024 .f32) (g : Vec Ideal S1x1024 .f32) (y : S256x1024.Idx) :
    k0_pay29 a x wu wd x1 gt g y = outRow (fun k => x1 (ix2 (y 0) k)) (fun k => gt (ix3 0 0 k)) (fun k => a (ix2 (y 0) k) + mlpRow (n := 1024) (fun e => x (ix2 (y 0) e)) (fun e f => wu (ix3 0 e f)) (fun f k => wd (ix3 0 f k)) k) (fun k => g (ix2 0 k)) (y 1) := by
  pointwise [k0_pay29, mlpRow, outRow, rmsRow]

/-- Row part 1: the last hidden block, and the output row. -/
theorem out_1 (a : Vec Ideal S256x1024 .f32) (x : Vec Ideal S256x1024 .bf16) (wu wd : Vec Ideal S1x1024x1024 .bf16) (x1 : Vec Ideal S256x1024 .f32) (gt : Vec Ideal S1x1x1024 .f32) (g : Vec Ideal S1x1024 .f32) (y : S256x1024.Idx) :
    k0_pay30 a x wu wd x1 gt g y = outRow (fun k => x1 (ix2 (y 0) k)) (fun k => gt (ix3 0 0 k)) (fun k => a (ix2 (y 0) k) + mlpRow (n := 1024) (fun e => x (ix2 (y 0) e)) (fun e f => wu (ix3 0 e f)) (fun f k => wd (ix3 0 f k)) k) (fun k => g (ix2 0 k)) (y 1) := by
  pointwise [k0_pay30, mlpRow, outRow, rmsRow]

/-- Row part 2: the last hidden block, and the output row. -/
theorem out_2 (a : Vec Ideal S256x1024 .f32) (x : Vec Ideal S256x1024 .bf16) (wu wd : Vec Ideal S1x1024x1024 .bf16) (x1 : Vec Ideal S256x1024 .f32) (gt : Vec Ideal S1x1x1024 .f32) (g : Vec Ideal S1x1024 .f32) (y : S256x1024.Idx) :
    k0_pay31 a x wu wd x1 gt g y = outRow (fun k => x1 (ix2 (y 0) k)) (fun k => gt (ix3 0 0 k)) (fun k => a (ix2 (y 0) k) + mlpRow (n := 1024) (fun e => x (ix2 (y 0) e)) (fun e f => wu (ix3 0 e f)) (fun f k => wd (ix3 0 f k)) k) (fun k => g (ix2 0 k)) (y 1) := by
  pointwise [k0_pay31, mlpRow, outRow, rmsRow]

/-- Row part 3: the last hidden block, and the output row. -/
theorem out_3 (a : Vec Ideal S256x1024 .f32) (x : Vec Ideal S256x1024 .bf16) (wu wd : Vec Ideal S1x1024x1024 .bf16) (x1 : Vec Ideal S256x1024 .f32) (gt : Vec Ideal S1x1x1024 .f32) (g : Vec Ideal S1x1024 .f32) (y : S256x1024.Idx) :
    k0_pay3 a x wu wd x1 gt g y = outRow (fun k => x1 (ix2 (y 0) k)) (fun k => gt (ix3 0 0 k)) (fun k => a (ix2 (y 0) k) + mlpRow (n := 1024) (fun e => x (ix2 (y 0) e)) (fun e f => wu (ix3 0 e f)) (fun f k => wd (ix3 0 f k)) k) (fun k => g (ix2 0 k)) (y 1) := by
  pointwise [k0_pay3, mlpRow, outRow, rmsRow]

/-- A middle hidden block is added to what was accumulated. -/
theorem mid (a : Vec Ideal S1024x1024 .f32) (x : Vec Ideal S1024x1024 .bf16) (wu wd : Vec Ideal S1x1024x1024 .bf16) (y : S1024x1024.Idx) :
    k0_pay2 a x wu wd y = a y + mlpRow (n := 1024) (fun e => x (ix2 (y 0) e)) (fun e f => wu (ix3 0 e f)) (fun f k => wd (ix3 0 f k)) (y 1) := by
  pointwise [k0_pay2, mlpRow]

/-! ## Equal rows -/

/-- Equal arguments give equal entries of `x1Row`. -/
theorem x1Row_congr {a a' : Fin 512 → EReal} {wa wa' : Fin 512 → Fin 1024 → EReal} {b b' : Fin 512 → EReal} {wb wb' : Fin 512 → Fin 1024 → EReal} {x x' gt gt' g g' : Fin 1024 → EReal} {k k' : Fin 1024}
    (h0 : ∀ e, a e = a' e) (h1 : ∀ e k, wa e k = wa' e k) (h2 : ∀ e, b e = b' e) (h3 : ∀ e k, wb e k = wb' e k) (h4 : ∀ k, x k = x' k) (h5 : ∀ k, gt k = gt' k) (h6 : ∀ k, g k = g' k) (hk : k = k') :
    x1Row a wa b wb x gt g k = x1Row a' wa' b' wb' x' gt' g' k' := by
  obtain rfl : a = a' := funext h0
  obtain rfl : wa = wa' := funext fun e => funext (h1 e)
  obtain rfl : b = b' := funext h2
  obtain rfl : wb = wb' := funext fun e => funext (h3 e)
  obtain rfl : x = x' := funext h4
  obtain rfl : gt = gt' := funext h5
  obtain rfl : g = g' := funext h6
  rw [hk]

/-- Equal arguments give equal entries of `xmRow`. -/
theorem xmRow_congr {x x' g g' sc sc' sh sh' : Fin 1024 → EReal} {k k' : Fin 1024}
    (h0 : ∀ k, x k = x' k) (h1 : ∀ k, g k = g' k) (h2 : ∀ k, sc k = sc' k) (h3 : ∀ k, sh k = sh' k) (hk : k = k') : xmRow x g sc sh k = xmRow x' g' sc' sh' k' := by
  obtain rfl : x = x' := funext h0
  obtain rfl : g = g' := funext h1
  obtain rfl : sc = sc' := funext h2
  obtain rfl : sh = sh' := funext h3
  rw [hk]

/-- Equal arguments give equal entries of `mlpRow`. -/
theorem mlpRow_congr {n : ℕ} {x x' : Fin 1024 → EReal} {wu wu' : Fin 1024 → Fin n → EReal} {wd wd' : Fin n → Fin 1024 → EReal} {k k' : Fin 1024}
    (h0 : ∀ k, x k = x' k) (h1 : ∀ e f, wu e f = wu' e f) (h2 : ∀ f k, wd f k = wd' f k) (hk : k = k') : mlpRow x wu wd k = mlpRow x' wu' wd' k' := by
  obtain rfl : x = x' := funext h0
  obtain rfl : wu = wu' := funext fun e => funext (h1 e)
  obtain rfl : wd = wd' := funext fun e => funext (h2 e)
  rw [hk]

/-- Equal arguments give equal entries of `outRow`. -/
theorem outRow_congr {x x' gt gt' y y' g g' : Fin 1024 → EReal} {k k' : Fin 1024}
    (h0 : ∀ k, x k = x' k) (h1 : ∀ k, gt k = gt' k) (h2 : ∀ k, y k = y' k) (h3 : ∀ k, g k = g' k) (hk : k = k') : outRow x gt y g k = outRow x' gt' y' g' k' := by
  obtain rfl : x = x' := funext h0
  obtain rfl : gt = gt' := funext h1
  obtain rfl : y = y' := funext h2
  obtain rfl : g = g' := funext h3
  rw [hk]

end Cert.Mlp

end
-- ==== Proof.MlpValue.lean ====
module

public import proofs.«01_k».proof.Proof.Gen.Kernel2Ideal.Value
public import proofs.«01_k».proof.Proof.MlpRows
public import Idealize.ShloMosaic.Lib.Pipeline.ValueKit

@[expose] public section

set_option maxRecDepth 16384

noncomputable section

namespace Cert.Mlp

open Cert.Kernel2Ideal Cert.Kernel2Ideal.Gen Cert.Kernel2Ideal.Value Idealize.ShloMosaic Idealize.ShloMosaic.TcCoe Idealize.SL.Sem
open Idealize.ShloMosaic.Pipeline (Dat)

variable (m : (ℓ : Loc nD τ sig) → Buf (Elt Ideal) ℓ)

/-- What a point leaves: the output block, the residual rows, the modulated rows, the accumulated rows. -/
abbrev St : Type := Vec Ideal S1024x1024 .f32 × Vec Ideal S1024x1024 .f32 × Vec Ideal S1024x1024 .bf16 × Vec Ideal S1024x1024 .f32

/-- The block of each window at point `t`: the rows' block is `t / 4`, the batch is `t / 32`, the hidden features' block is
    `t % 4`. -/
theorem idx : ∀ t : Fin cfg0.N, win0_0.index t = ![t.val / 4, 0] ∧ win0_1.index t = ![t.val / 4, 0] ∧ win0_2.index t = ![t.val / 4, 0]
    ∧ win0_3.index t = ![t.val / 32, 0, 0] ∧ win0_4.index t = ![t.val / 32, 0, 0] ∧ win0_5.index t = ![t.val / 32, 0, 0] ∧ win0_6.index t = ![t.val / 32, 0, 0]
    ∧ win0_7.index t = ![0, 0] ∧ win0_8.index t = ![0, 0] ∧ win0_9.index t = ![0, 0] ∧ win0_10.index t = ![0, 0] ∧ win0_11.index t = ![1, 0]
    ∧ win0_12.index t = ![3, 0, t.val % 4] ∧ win0_13.index t = ![3, t.val % 4, 0] :=
  (by decide +kernel : ∀ t : Fin grid0.N, _)

/-- The arguments of the layer. -/
structure Args where
  oa : S16384x512.Idx → EReal
  ob : S16384x512.Idx → EReal
  x : S16384x1024.Idx → EReal
  gt1 : S2x1x1024.Idx → EReal
  sc : S2x1x1024.Idx → EReal
  sh : S2x1x1024.Idx → EReal
  gt2 : S2x1x1024.Idx → EReal
  g1 : S1x1024.Idx → EReal
  g2 : S1x1024.Idx → EReal
  g3 : S1x1024.Idx → EReal
  wo : S1024x1024.Idx → EReal
  wu : S4x1024x4096.Idx → EReal
  wd : S4x4096x1024.Idx → EReal

/-- The arguments at launch. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7), m ((c : Thread nD τ).loc main_arg8), m ((c : Thread nD τ).loc main_arg9),
    m ((c : Thread nD τ).loc main_arg10), m ((c : Thread nD τ).loc main_arg11), m ((c : Thread nD τ).loc main_arg12)⟩

/-- The batch of row `R`. -/
def bt (R : Fin 16384) : Fin 2 := ⟨R.val / 8192, by omega⟩

/-- Residual row `R` after the mixer. -/
def X1 (a : Args) (R : Fin 16384) : Fin 1024 → EReal :=
  x1Row (fun e => a.oa (ix2 R e)) (fun e k => a.wo (ix2 ⟨e.val, by omega⟩ k)) (fun e => a.ob (ix2 R e)) (fun e k => a.wo (ix2 ⟨512 + e.val, by omega⟩ k))
    (fun k => a.x (ix2 R k)) (fun k => a.gt1 (ix3 (bt R) 0 k)) (fun k => a.g1 (ix2 0 k))

/-- Modulated row `R`. -/
def XM (a : Args) (R : Fin 16384) : Fin 1024 → EReal :=
  xmRow (X1 a R) (fun k => a.g2 (ix2 0 k)) (fun k => a.sc (ix3 (bt R) 0 k)) (fun k => a.sh (ix3 (bt R) 0 k))

/-- What the block `b` of 1024 hidden features adds to row `R`. -/
def part (a : Args) (R : Fin 16384) (b : Fin 4) : Fin 1024 → EReal :=
  mlpRow (n := 1024) (XM a R) (fun e f => a.wu (ix3 3 e ⟨b.val * 1024 + f.val, by omega⟩)) (fun f k => a.wd (ix3 3 ⟨b.val * 1024 + f.val, by omega⟩ k))

/-- The first hidden block's point leaves the residual rows. -/
theorem resetX1 (c : Dev nD) (t : Fin cfg0.N) (acc : St) (h0 : t.val % 4 = 0) (y : S1024x1024.Idx)
    (R : Fin 16384) (hR : R.val = t.val / 4 * 1024 + (y 0).val) :
    (stAt0 m c t.val t.isLt acc).2.1 y = X1 (args m c) R (y 1) := by
  have hN : t.val < 64 := lt_of_lt_of_eq t.isLt N_0
  rw [stAt0_A m c t acc h0 (by omega) (by omega)]
  dsimp only
  frame_out
  canon_tiles x h
  all_goals
    simp only [x1s_0, x1s_1, x1s_2, x1s_3, x1_0, x1_1, x1_2, x1_3]
    refine x1Row_congr ?_ ?_ ?_ ?_ ?_ ?_ ?_ ?_
  all_goals first | (exact Fin.ext (by omega)) | (intros; pointwise [args, bt] <;> blk_point [iblk, V, idx t])

/-- The first hidden block's point leaves the modulated rows. -/
theorem resetXM (c : Dev nD) (t : Fin cfg0.N) (acc : St) (h0 : t.val % 4 = 0) (y : S1024x1024.Idx)
    (R : Fin 16384) (hR : R.val = t.val / 4 * 1024 + (y 0).val) :
    (stAt0 m c t.val t.isLt acc).2.2.1 y = XM (args m c) R (y 1) := by
  have hN : t.val < 64 := lt_of_lt_of_eq t.isLt N_0
  rw [stAt0_A m c t acc h0 (by omega) (by omega)]
  dsimp only
  frame_out
  canon_tiles x h
  all_goals
    simp only [xms_0, xms_1, xms_2, xms_3, xm_0, xm_1, xm_2, xm_3]
    refine xmRow_congr (fun k => ?_) ?_ ?_ ?_ ?_
  all_goals first
    | (simp only [x1_0, x1_1, x1_2, x1_3]; refine x1Row_congr ?_ ?_ ?_ ?_ ?_ ?_ ?_ ?_)
    | skip
  all_goals first | (exact Fin.ext (by omega)) | (intros; pointwise [args, bt] <;> blk_point [iblk, V, idx t])

/-- The first hidden block's point leaves that block's part. -/
theorem resetAcc (c : Dev nD) (t : Fin cfg0.N) (acc : St) (h0 : t.val % 4 = 0) (y : S1024x1024.Idx)
    (R : Fin 16384) (hR : R.val = t.val / 4 * 1024 + (y 0).val) :
    (stAt0 m c t.val t.isLt acc).2.2.2 y = part (args m c) R 0 (y 1) := by
  have hN : t.val < 64 := lt_of_lt_of_eq t.isLt N_0
  rw [stAt0_A m c t acc h0 (by omega) (by omega)]
  dsimp only
  frame_out
  canon_tiles x h
  all_goals
    simp only [acs_1, acs_2, acs_3, ac_0, ac_1, ac_2, ac_3]
    refine mlpRow_congr (fun k => ?_) ?_ ?_ ?_
  all_goals first
    | (simp only [xm_0, xm_1, xm_2, xm_3]; refine xmRow_congr (fun k => ?_) ?_ ?_ ?_ ?_)
    | skip
  all_goals first
    | (simp only [x1_0, x1_1, x1_2, x1_3]; refine x1Row_congr ?_ ?_ ?_ ?_ ?_ ?_ ?_ ?_)
    | skip
  all_goals first | (exact Fin.ext (by omega)) | (intros; pointwise [args, bt] <;> blk_point [iblk, V, idx t])

/-- Later points keep the residual rows. -/
theorem midX1 (c : Dev nD) (t : Fin cfg0.N) (acc : St) (h0 : ¬ t.val % 4 = 0) : (stAt0 m c t.val t.isLt acc).2.1 = acc.2.1 := by
  have hN : t.val < 64 := lt_of_lt_of_eq t.isLt N_0
  by_cases h3 : t.val % 4 = 3
  · rw [stAt0_C m c t acc h0 (by omega) h3]; rfl
  · rw [stAt0_B m c t acc h0 (by omega) h3]; rfl

/-- Later points keep the modulated rows. -/
theorem midXM (c : Dev nD) (t : Fin cfg0.N) (acc : St) (h0 : ¬ t.val % 4 = 0) : (stAt0 m c t.val t.isLt acc).2.2.1 = acc.2.2.1 := by
  have hN : t.val < 64 := lt_of_lt_of_eq t.isLt N_0
  by_cases h3 : t.val % 4 = 3
  · rw [stAt0_C m c t acc h0 (by omega) h3]; rfl
  · rw [stAt0_B m c t acc h0 (by omega) h3]; rfl

/-- A middle point adds its hidden block's part. -/
theorem midAcc (c : Dev nD) (t : Fin cfg0.N) (acc : St) (h0 : ¬ t.val % 4 = 0) (h3 : ¬ t.val % 4 = 3) (y : S1024x1024.Idx)
    (R : Fin 16384) (hx : ∀ e : Fin 1024, acc.2.2.1 (ix2 (y 0) e) = XM (args m c) R e) (b : Fin 4) (hb : b.val = t.val % 4) :
    (stAt0 m c t.val t.isLt acc).2.2.2 y = acc.2.2.2 y + part (args m c) R b (y 1) := by
  have hN : t.val < 64 := lt_of_lt_of_eq t.isLt N_0
  rw [stAt0_B m c t acc h0 (by omega) h3]
  dsimp only
  frame_out
  rw [mid, (Memref.isWhole_whole cc0_scratch1).read_unread, (Memref.isWhole_whole cc0_scratch2).read_unread]
  refine congrArg₂ (· + ·) rfl (mlpRow_congr hx ?_ ?_ rfl)
  all_goals intros; pointwise [args] <;> blk_point [iblk, V, idx t]

end Cert.Mlp

end
-- ==== Proof.MlpFold.lean ====
module

public import proofs.«01_k».proof.Proof.MlpValue
public import Idealize.ShloMosaic.Lib.Pipeline.ValueKit

@[expose] public section

set_option maxRecDepth 16384

noncomputable section

namespace Cert.Mlp

open Cert.Kernel2Ideal Cert.Kernel2Ideal.Gen Cert.Kernel2Ideal.Value Idealize.ShloMosaic Idealize.ShloMosaic.TcCoe Idealize.SL.Sem
open Idealize.ShloMosaic.Pipeline (Dat)

variable (m : (ℓ : Loc nD τ sig) → Buf (Elt Ideal) ℓ)

/-- The last point adds its hidden block's part and leaves the output rows. -/
theorem lastOut (c : Dev nD) (t : Fin cfg0.N) (acc : St) (h3 : t.val % 4 = 3) (y : S1024x1024.Idx)
    (R : Fin 16384) (hR : R.val = t.val / 4 * 1024 + (y 0).val) (hx : ∀ e : Fin 1024, acc.2.2.1 (ix2 (y 0) e) = XM (args m c) R e) (hx1 : ∀ e : Fin 1024, acc.2.1 (ix2 (y 0) e) = X1 (args m c) R e) :
    (stAt0 m c t.val t.isLt acc).1 y = outRow (X1 (args m c) R) (fun k => (args m c).gt2 (ix3 (bt R) 0 k)) (fun k => acc.2.2.2 (ix2 (y 0) k) + part (args m c) R 3 k) (fun k => (args m c).g3 (ix2 0 k)) (y 1) := by
  have hN : t.val < 64 := lt_of_lt_of_eq t.isLt N_0
  rw [stAt0_C m c t acc (by omega) (by omega) h3]
  dsimp only
  frame_out
  simp only [(Memref.isWhole_whole cc0_scratch0).read_unread, (Memref.isWhole_whole cc0_scratch1).read_unread, (Memref.isWhole_whole cc0_scratch2).read_unread]
  canon_tiles x h
  all_goals
    simp only [out_0, out_1, out_2, out_3]
    refine outRow_congr (fun k => Eq.trans ?_ (hx1 k)) ?_ (fun k => congrArg₂ (· + ·) ?_ (mlpRow_congr (fun e => Eq.trans ?_ (hx e)) ?_ ?_ rfl)) ?_ ?_
  all_goals first
    | (exact Fin.ext (by omega))
    | (intros; pointwise [args, bt] <;> blk_point [iblk, V, idx t])

/-- What row `R` has accumulated after the hidden blocks `0 … q`. -/
def partsTo (a : Args) (R : Fin 16384) (q : ℕ) (k : Fin 1024) : EReal :=
  match q with
  | 0 => part a R 0 k
  | 1 => part a R 0 k + part a R 1 k
  | _ => part a R 0 k + part a R 1 k + part a R 2 k

/-- The layer's output row `R`. -/
def OUT (a : Args) (R : Fin 16384) : Fin 1024 → EReal :=
  outRow (X1 a R) (fun k => a.gt2 (ix3 (bt R) 0 k)) (fun k => part a R 0 k + part a R 1 k + part a R 2 k + part a R 3 k) (fun k => a.g3 (ix2 0 k))

/-- What holds after point `n`: the residual and modulated rows of its row block, the hidden blocks accumulated so far, and at the last of
    them the output rows. -/
def Inv (c : Dev nD) (n : ℕ) (v : St) : Prop :=
  ∀ (y : S1024x1024.Idx) (R : Fin 16384), R.val = n / 4 * 1024 + (y 0).val →
    v.2.1 y = X1 (args m c) R (y 1) ∧ v.2.2.1 y = XM (args m c) R (y 1) ∧ (¬ n % 4 = 3 → v.2.2.2 y = partsTo (args m c) R (n % 4) (y 1))
      ∧ (n % 4 = 3 → v.1 y = OUT (args m c) R (y 1))

/-- One point keeps the invariant. -/
theorem inv_step (c : Dev nD) (n : ℕ) (hn : n < cfg0.N) (acc : St) (h : ¬n % 4 = 0 → Inv m c (n - 1) acc) : Inv m c n (stAt0 m c n hn acc) := by
  intro y R hR
  by_cases ht : n % 4 = 0
  · refine ⟨resetX1 m c ⟨n, hn⟩ acc ht y R hR, resetXM m c ⟨n, hn⟩ acc ht y R hR, fun _ => ?_, fun h => by omega⟩
    rw [resetAcc m c ⟨n, hn⟩ acc ht y R hR, ht]; rfl
  · have hd : (n - 1) / 4 = n / 4 := by omega
    have ih := h ht
    have e : ∀ k : Fin 1024, _ := fun k => ih (ix2 (y 0) k) R (by rw [hd]; exact hR)
    have ey : y = ix2 (y 0) (y 1) := by funext d; match d with | ⟨0, _⟩ => rfl | ⟨1, _⟩ => rfl
    have e0 := ih y R (by rw [hd]; exact hR)
    refine ⟨?_, ?_, fun h3 => ?_, fun h3 => ?_⟩
    · rw [midX1 m c ⟨n, hn⟩ acc ht]; exact e0.1
    · rw [midXM m c ⟨n, hn⟩ acc ht]; exact e0.2.1
    · rw [midAcc m c ⟨n, hn⟩ acc ht h3 y R (fun k => (e k).2.1) ⟨n % 4, by omega⟩ rfl, e0.2.2.1 (by omega)]
      rcases (by omega : n % 4 = 1 ∨ n % 4 = 2) with h1 | h1
      · simp only [h1, show (n - 1) % 4 = 0 by omega]; rfl
      · simp only [h1, show (n - 1) % 4 = 1 by omega]; rfl
    · rw [lastOut m c ⟨n, hn⟩ acc h3 y R hR (fun k => (e k).2.1) (fun k => (e k).1)]
      refine outRow_congr (fun _ => rfl) (fun _ => rfl) (fun k => ?_) (fun _ => rfl) rfl
      rw [(e k).2.2.1 (by omega), show (n - 1) % 4 = 2 by omega]; rfl

/-- The invariant at every point. -/
theorem inv (c : Dev nD) : ∀ (n : ℕ) (h : 0 + n < cfg0.N),
    Inv m c (0 + n) (Pipeline.accAt (fun n h => stAt0 m c n h junk0) (stAt0 m c) 0 n h)
  | 0, h => inv_step m c (0 + 0) h _ fun h => absurd rfl h
  | n + 1, h => by
    rw [Pipeline.accAt_succ]
    exact inv_step m c (0 + (n + 1)) h _ fun _ => inv c n (Nat.lt_of_succ_lt h)

/-- The kernel's result: every row is the layer's output row. -/
theorem out_eq (c : Dev nD) (i : S16384x1024.Idx) : G14 m c i = OUT (args m c) (i 0) (i 1) := by
  have h0 : (i 0).val < 16384 := (i 0).isLt
  have h1 : (i 1).val < 1024 := (i 1).isLt
  have hp : pt14Of i < cfg0.N := lt_of_lt_of_eq (by show 4 * (1 * ((i 0).val / 1024 - 0) + 1 * ((i 1).val / 1024 - 0)) + 3 < 64; omega) N_0.symm
  unfold G14
  rw [dif_pos hp]
  have e1 : (loc14Of i) 1 = i 1 := Fin.ext (by show (i 1).val % 1024 = (i 1).val; omega)
  rw [← e1]
  refine (inv m c (pt14Of i) (by omega) (loc14Of i) (i 0) ?_).2.2.2 ?_
  · show (i 0).val = (0 + (4 * (1 * ((i 0).val / 1024 - 0) + 1 * ((i 1).val / 1024 - 0)) + 3)) / 4 * 1024 + (i 0).val % 1024
    omega
  · show (0 + (4 * (1 * ((i 0).val / 1024 - 0) + 1 * ((i 1).val / 1024 - 0)) + 3)) % 4 = 3
    omega

end Cert.Mlp

end
-- ==== Proof.MlpAlg.lean ====
module

public import proofs.«01_k».proof.Defs
public import proofs.«01_k».proof.Proof.MlpFold
public import proofs.«01_k».proof.Proof.Gen.Reference2Ideal.Run
public import Idealize.ShloMosaic.Lib.Claim

@[expose] public section

set_option maxRecDepth 16384

noncomputable section

namespace Cert.Mlp.Ref

open Cert.Reference2Ideal Cert.Reference2Ideal.Gen Idealize.ShloMosaic Idealize.ShloMosaic.TcCoe Idealize.SL.Sem

/-- Rows of 1024 lanes, two batches of 8192. -/
abbrev B3 : Type := FVec Ideal S2x8192x1024 .f32

/-- The reference's normalisation over the last axis. -/
def rms (Y : FVec Ideal S2x8192x1024 .f32) (g : FVec Ideal S1x1024 .f32) : B3 :=
  (mulf (mulf Y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf Y Y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![1, 2] bcast_S1x1024_S1x1x1024_1_2 g)))

/-- The reference's output projection of the two halves of the heads. -/
def proj (oa : FVec Ideal S16384x512 .f32) (ob : FVec Ideal S16384x512 .f32) (wo : FVec Ideal S1024x1024 .bf16) : B3 :=
  (shapeCast _ (Host.dotGeneral dot_S16384x1024_S1024x1024_S16384x1024_1_0_0_1_n_n none (concatenate S16384x1024 1 [⟨S16384x512, oa⟩, ⟨S16384x512, ob⟩] concatenates_S16384x512_S16384x512_S16384x1024_d1) (extf .f32 wo bitsLt_bf16_f32)) shapeCasts_S16384x1024_S2x8192x1024)

/-- The reference's residual after the mixer. -/
def res (x : FVec Ideal S16384x1024 .f32) (gt : FVec Ideal S2x1x1024 .f32) (Y : FVec Ideal S2x8192x1024 .f32) : B3 :=
  (addf (shapeCast _ x shapeCasts_S16384x1024_S2x8192x1024) (mulf (broadcastInDim S2x8192x1024 ![0, 1, 2] bcast_S2x1x1024_S2x8192x1024_0_1_2 gt) Y))

/-- The reference's modulated rows. -/
def modu (Y : FVec Ideal S2x8192x1024 .f32) (sc : FVec Ideal S2x1x1024 .f32) (sh : FVec Ideal S2x1x1024 .f32) : B3 :=
  (addf (mulf Y (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh))

/-- The reference's feed-forward layer. -/
def ffn (X : FVec Ideal S2x8192x1024 .f32) (wu : FVec Ideal S4x1024x4096 .bf16) (wd : FVec Ideal S4x4096x1024 .bf16) : B3 :=
  (Host.dotGeneral dot_S2x8192x4096_S4096x1024_S2x8192x1024_2_0_01_1_n_n none (mulf (maximumf (Host.dotGeneral dot_S2x8192x1024_S1024x4096_S2x8192x4096_2_0_01_1_n_n none X (extf .f32 (shapeCast _ (extractStridedSlice S1x1024x4096 ![3, 0, 0] wu slices_S4x1024x4096_S1x1024x4096_3_0_0) shapeCasts_S1x1024x4096_S1024x4096) bitsLt_bf16_f32)) (broadcastInDim S2x8192x4096 ![] bcast_S_S2x8192x4096 (constant S_ .f32 0x00000000#32))) (maximumf (Host.dotGeneral dot_S2x8192x1024_S1024x4096_S2x8192x4096_2_0_01_1_n_n none X (extf .f32 (shapeCast _ (extractStridedSlice S1x1024x4096 ![3, 0, 0] wu slices_S4x1024x4096_S1x1024x4096_3_0_0) shapeCasts_S1x1024x4096_S1024x4096) bitsLt_bf16_f32)) (broadcastInDim S2x8192x4096 ![] bcast_S_S2x8192x4096 (constant S_ .f32 0x00000000#32)))) (extf .f32 (shapeCast _ (extractStridedSlice S1x4096x1024 ![3, 0, 0] wd slices_S4x4096x1024_S1x4096x1024_3_0_0) shapeCasts_S1x4096x1024_S4096x1024) bitsLt_bf16_f32))

/-- The reference's result. -/
def fin (X : FVec Ideal S2x8192x1024 .f32) (gt : FVec Ideal S2x1x1024 .f32) (Y : FVec Ideal S2x8192x1024 .f32) : FVec Ideal S16384x1024 .f32 :=
  shapeCast _ (addf X (mulf (broadcastInDim S2x8192x1024 ![0, 1, 2] bcast_S2x1x1024_S2x8192x1024_0_1_2 gt) Y)) shapeCasts_S2x8192x1024_S16384x1024

/-- The normalisation, row by row. -/
theorem rms_eq (Y : FVec Ideal S2x8192x1024 .f32) (g : FVec Ideal S1x1024 .f32) (b : Fin 2) (r : Fin 8192) (k : Fin 1024) : rms Y g (ix3 b r k) = rmsRow (fun k => Y (ix3 b r k)) (fun k => g (ix2 0 k)) k := by
  pointwise [rms, rmsRow]

/-- A row of the output projection: the two halves' sums. -/
theorem proj_eq (oa : FVec Ideal S16384x512 .f32) (ob : FVec Ideal S16384x512 .f32) (wo : FVec Ideal S1024x1024 .bf16) (b : Fin 2) (r : Fin 8192) (k : Fin 1024) :
    proj oa ob wo (ix3 b r k) = (∑ e : Fin 512, oa (ix2 ⟨b.val * 8192 + r.val, by omega⟩ e) * wo (ix2 ⟨e.val, by omega⟩ k)) + ∑ e : Fin 512, ob (ix2 ⟨b.val * 8192 + r.val, by omega⟩ e) * wo (ix2 ⟨512 + e.val, by omega⟩ k) := by
  have h : proj oa ob wo (ix3 b r k) = ∑ e : Fin 1024, (concatenate S16384x1024 1 [⟨S16384x512, oa⟩, ⟨S16384x512, ob⟩] concatenates_S16384x512_S16384x512_S16384x1024_d1 : FVec Ideal S16384x1024 .f32) (ix2 ⟨b.val * 8192 + r.val, by omega⟩ e) * wo (ix2 e k) := by
    pointwise [proj]
  rw [h]
  refine (Fin.sum_univ_add (a := 512) (b := 512) _).trans (congrArg₂ (· + ·) (Finset.sum_congr rfl fun e _ => congrArg₂ (· * ·) ?_ rfl) (Finset.sum_congr rfl fun e _ => congrArg₂ (· * ·) ?_ rfl))
  · pointwise
    rw [dif_pos (show (Fin.castAdd 512 e).val < 512 from e.isLt)]
    rfl
  · pointwise
    rw [dif_neg (show ¬ (Fin.natAdd 512 e).val < 512 by simp)]
    exact congrArg ob (congrArg (ix2 _) (Fin.ext (by simp)))

/-- The residual, entry by entry. -/
theorem res_eq (x : FVec Ideal S16384x1024 .f32) (gt : FVec Ideal S2x1x1024 .f32) (Y : FVec Ideal S2x8192x1024 .f32) (b : Fin 2) (r : Fin 8192) (k : Fin 1024) :
    res x gt Y (ix3 b r k) = x (ix2 ⟨b.val * 8192 + r.val, by omega⟩ k) + gt (ix3 b 0 k) * Y (ix3 b r k) := by
  pointwise [res]

/-- The modulation, entry by entry. -/
theorem modu_eq (Y : FVec Ideal S2x8192x1024 .f32) (sc : FVec Ideal S2x1x1024 .f32) (sh : FVec Ideal S2x1x1024 .f32) (b : Fin 2) (r : Fin 8192) (k : Fin 1024) :
    modu Y sc sh (ix3 b r k) = Y (ix3 b r k) * (1 + sc (ix3 b 0 k)) + sh (ix3 b 0 k) := by
  pointwise [modu]

/-- The feed-forward layer, row by row. -/
theorem ffn_eq (X : FVec Ideal S2x8192x1024 .f32) (wu : FVec Ideal S4x1024x4096 .bf16) (wd : FVec Ideal S4x4096x1024 .bf16) (b : Fin 2) (r : Fin 8192) (k : Fin 1024) :
    ffn X wu wd (ix3 b r k) = mlpRow (n := 4096) (fun k => X (ix3 b r k)) (fun e f => wu (ix3 3 e f)) (fun f k => wd (ix3 3 f k)) k := by
  pointwise [ffn, mlpRow]

/-- The result, entry by entry. -/
theorem fin_eq (X : FVec Ideal S2x8192x1024 .f32) (gt : FVec Ideal S2x1x1024 .f32) (Y : FVec Ideal S2x8192x1024 .f32) (i : S16384x1024.Idx) (hb : (i 0).val / 8192 < 2) (hr : (i 0).val % 8192 < 8192) :
    fin X gt Y i = X (ix3 ⟨(i 0).val / 8192, hb⟩ ⟨(i 0).val % 8192, hr⟩ (i 1)) + gt (ix3 ⟨(i 0).val / 8192, hb⟩ 0 (i 1)) * Y (ix3 ⟨(i 0).val / 8192, hb⟩ ⟨(i 0).val % 8192, hr⟩ (i 1)) := by
  pointwise [fin]

end Cert.Mlp.Ref

namespace Cert.Mlp.Ref

open Cert.Reference2Ideal Cert.Reference2Ideal.Gen Idealize.ShloMosaic Idealize.ShloMosaic.TcCoe Idealize.SL.Sem

/-- The reference's arguments at launch. -/
def argsR (m : (ℓ : Loc nD τ sig) → Buf (Elt Ideal) ℓ) (c : Dev nD) : Cert.Mlp.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12)⟩

end Cert.Mlp.Ref

namespace Cert.Mlp

open Idealize.ShloMosaic

/-- A feed-forward row over 4096 hidden features is the sum of its four blocks. -/
theorem mlpRow_blocks (x : Fin 1024 → EReal) (wu : Fin 1024 → Fin 4096 → EReal) (wd : Fin 4096 → Fin 1024 → EReal) (k : Fin 1024) :
    mlpRow (n := 4096) x wu wd k =
      mlpRow (n := 1024) x (fun e f => wu e ⟨0 * 1024 + f.val, by omega⟩) (fun f k => wd ⟨0 * 1024 + f.val, by omega⟩ k) k
      + mlpRow (n := 1024) x (fun e f => wu e ⟨1 * 1024 + f.val, by omega⟩) (fun f k => wd ⟨1 * 1024 + f.val, by omega⟩ k) k
      + mlpRow (n := 1024) x (fun e f => wu e ⟨2 * 1024 + f.val, by omega⟩) (fun f k => wd ⟨2 * 1024 + f.val, by omega⟩ k) k
      + mlpRow (n := 1024) x (fun e f => wu e ⟨3 * 1024 + f.val, by omega⟩) (fun f k => wd ⟨3 * 1024 + f.val, by omega⟩ k) k := by
  unfold mlpRow
  rw [Fin.sum_univ_add (a := 3072) (b := 1024), Fin.sum_univ_add (a := 2048) (b := 1024), Fin.sum_univ_add (a := 1024) (b := 1024)]
  refine congrArg₂ (· + ·) (congrArg₂ (· + ·) (congrArg₂ (· + ·) (Finset.sum_congr rfl fun f _ => ?_) (Finset.sum_congr rfl fun f _ => ?_)) (Finset.sum_congr rfl fun f _ => ?_)) (Finset.sum_congr rfl fun f _ => ?_)
  · have h : (Fin.castAdd 1024 (Fin.castAdd 1024 (Fin.castAdd 1024 f)) : Fin 4096) = ⟨0 * 1024 + f.val, by omega⟩ := Fin.ext (by simp)
    rw [h]
  · have h : (Fin.castAdd 1024 (Fin.castAdd 1024 (Fin.natAdd 1024 f)) : Fin 4096) = ⟨1 * 1024 + f.val, by omega⟩ := Fin.ext (by simp; omega)
    rw [h]
  · have h : (Fin.castAdd 1024 (Fin.natAdd 2048 f) : Fin 4096) = ⟨2 * 1024 + f.val, by omega⟩ := Fin.ext (by simp)
    rw [h]
  · have h : (Fin.natAdd 3072 f : Fin 4096) = ⟨3 * 1024 + f.val, by omega⟩ := Fin.ext (by simp)
    rw [h]

/-- The reference's result as a function of its arguments. -/
def refOf (a : Args) : FVec Ideal Cert.Reference2Ideal.S16384x1024 .f32 :=
  Ref.fin (Ref.res a.x a.gt1 (Ref.rms (Ref.proj a.oa a.ob a.wo) a.g1)) a.gt2
    (Ref.rms (Ref.ffn (Ref.modu (Ref.rms (Ref.res a.x a.gt1 (Ref.rms (Ref.proj a.oa a.ob a.wo) a.g1)) a.g2) a.sc a.sh) a.wu a.wd) a.g3)

/-- The reference's result at an entry: the layer's output row. -/
theorem ref_eq (a : Args) (R : Fin 16384) (k : Fin 1024) : refOf a (ix2 R k) = OUT a R k := by
  have hR : (⟨R.val / 8192 * 8192 + R.val % 8192, by omega⟩ : Fin 16384) = R := Fin.ext (by show R.val / 8192 * 8192 + R.val % 8192 = R.val; omega)
  have hX : ∀ k : Fin 1024, Ref.res a.x a.gt1 (Ref.rms (Ref.proj a.oa a.ob a.wo) a.g1) (ix3 (⟨R.val / 8192, by omega⟩ : Fin 2) (⟨R.val % 8192, by omega⟩ : Fin 8192) k) = X1 a R k := fun k => by
    rw [Ref.res_eq, Ref.rms_eq]
    simp only [Ref.proj_eq, hR]
    rfl
  have hM : ∀ k : Fin 1024, Ref.modu (Ref.rms (Ref.res a.x a.gt1 (Ref.rms (Ref.proj a.oa a.ob a.wo) a.g1)) a.g2) a.sc a.sh (ix3 (⟨R.val / 8192, by omega⟩ : Fin 2) (⟨R.val % 8192, by omega⟩ : Fin 8192) k) = XM a R k := fun k => by
    rw [Ref.modu_eq, Ref.rms_eq, funext hX]
    rfl
  refine (Ref.fin_eq _ _ _ (ix2 R k) (by show R.val / 8192 < 2; omega) (by show R.val % 8192 < 8192; omega)).trans ?_
  refine congrArg₂ (· + ·) (hX k) (congrArg₂ (· * ·) rfl ((Ref.rms_eq _ _ _ _ _).trans ?_))
  refine congrArg (fun y => rmsRow y _ k) (funext fun k => ?_)
  refine (Ref.ffn_eq _ _ _ _ _ _).trans ((mlpRow_congr hM (fun _ _ => rfl) (fun _ _ => rfl) rfl).trans ((mlpRow_blocks _ _ _ _).trans ?_))
  rfl

/-- The layer's second half and its reference give equal results. -/
theorem algebraic : Cert.algebraic_Kernel2Ideal_Reference2Ideal := by
  pair_intro
  · run_from Cert.Kernel2Ideal.Value.run m g
  · run_from Cert.Reference2Ideal.Value.run m' g'
    funext i
    have hargs : Ref.argsR m' c = args m c := by
      obtain ⟨h0, h1, h2, h3, h4, h5, h6, h7, h8, h9, h10, h11, h12⟩ := hagree c
      unfold Ref.argsR args
      congr
    have hres : Cert.Reference2Ideal.Value.res_main_v66 m' c = refOf (Ref.argsR m' c) := rfl
    have hi : i = ix2 (i 0) (i 1) := by funext d; match d with | ⟨0, _⟩ => rfl | ⟨1, _⟩ => rfl
    rw [hres, hargs, hi]
    exact (ref_eq (args m c) (i 0) (i 1)).trans (out_eq m c (ix2 (i 0) (i 1))).symm

end Cert.Mlp

end
-- ==== Proof.FlashMath.lean ====
module

public import proofs.«01_k».proof.Proof.Gen.KernelIdeal.Skeleton
public import Idealize.ShloMosaic.Lib.Pipeline.ValueKit

@[expose] public section

noncomputable section

/-! The arithmetic of a row of softmax attention over the extended reals: weights of base two below the row's greatest logit,
the running greatest logit and the running weighted sum of a row that is read block by block, and why the blockwise
row is the whole row. Nothing here asks that a number be finite. -/

namespace Cert.Flash

open Idealize.ShloMosaic

/-- The greatest of a row (`⊥` of an empty one). -/
def top {n : ℕ} (f : Fin n → EReal) : EReal := Finset.univ.fold max ⊥ f

theorem top_le {n : ℕ} {f : Fin n → EReal} {b : EReal} : top f ≤ b ↔ ∀ k, f k ≤ b := by
  unfold top; rw [Finset.fold_max_le]; simp

theorem at_le {n : ℕ} (f : Fin n → EReal) (k : Fin n) : f k ≤ top f := top_le.mp le_rfl k

theorem top_congr {n : ℕ} {f g : Fin n → EReal} (h : ∀ k, f k = g k) : top f = top g := by rw [funext h]

theorem exp2_bot : Ideal.exp2 ⊥ = 0 := rfl

theorem exp2_nonneg (x : EReal) : 0 ≤ Ideal.exp2 x := by
  induction x with
  | bot => exact le_rfl
  | top => exact le_top
  | coe r => exact EReal.coe_nonneg.mpr (Real.rpow_nonneg (by norm_num) _)

/-- Two to a power, as the reference spells it. -/
theorem pow_two (y : EReal) : Ideal.pow ((2 : ℝ) : EReal) y = Ideal.exp2 y := by
  induction y with
  | bot => exact (if_neg (by norm_num)).trans (if_pos (by norm_num))
  | top => exact (if_neg (by norm_num)).trans (if_pos (by norm_num))
  | coe r => rfl

theorem bot_sub (m : EReal) : (⊥ : EReal) - m = ⊥ := by rw [sub_eq_add_neg, EReal.bot_add]

theorem sub_top (x : EReal) : x - ⊤ = ⊥ := by rw [sub_eq_add_neg, EReal.neg_top, EReal.add_bot]

theorem sub_self_le {a b : EReal} (h : a ≤ b) : Ideal.exp2 (a - b) ≠ ⊤ := by
  induction a with
  | bot => rw [bot_sub, exp2_bot]; exact EReal.zero_ne_top
  | top => rw [top_le_iff.mp h, sub_top, exp2_bot]; exact EReal.zero_ne_top
  | coe a =>
    induction b with
    | bot => simp at h
    | top => rw [sub_top, exp2_bot]; exact EReal.zero_ne_top
    | coe b => rw [← EReal.coe_sub]; exact EReal.coe_ne_top _

/-- Lowering a weight from one greatest logit to a later one. -/
theorem rescale {x m m' : EReal} (v : EReal) (h : x ≤ m) (h' : m ≤ m') :
    Ideal.exp2 (m - m') * (Ideal.exp2 (x - m) * v) = Ideal.exp2 (x - m') * v := by
  rw [← mul_assoc]
  congr 1
  induction x with
  | bot => simp only [bot_sub, exp2_bot, mul_zero]
  | top =>
    obtain rfl := top_le_iff.mp h
    obtain rfl := top_le_iff.mp h'
    simp only [sub_top, exp2_bot, mul_zero, zero_mul]
  | coe x =>
    induction m with
    | bot => simp at h
    | top => obtain rfl := top_le_iff.mp h'; simp only [sub_top, exp2_bot, mul_zero, zero_mul]
    | coe m =>
      induction m' with
      | bot => simp at h'
      | top => simp only [sub_top, exp2_bot, mul_zero, zero_mul]
      | coe m' =>
        simp only [← EReal.coe_sub]
        change ((Real.rpow 2 _ : ℝ) : EReal) * ((Real.rpow 2 _ : ℝ) : EReal) = ((Real.rpow 2 _ : ℝ) : EReal)
        rw [← EReal.coe_mul]
        congr 1
        exact (Real.rpow_add (by norm_num) _ _).symm.trans (by congr 1; ring)

theorem mul_sum {ι : Type} (s : Finset ι) (f : ι → EReal) {c : EReal} (h0 : 0 ≤ c) (h1 : c ≠ ⊤) : c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 h1, ih]

/-- The greatest logit after one more block. -/
def stepM {n : ℕ} (m : EReal) (x : Fin n → EReal) : EReal := max m (top x)

/-- The weighted sum after one more block. -/
def stepA {n : ℕ} (m a : EReal) (x v : Fin n → EReal) : EReal :=
  Ideal.exp2 (m - stepM m x) * a + ∑ k, Ideal.exp2 (x k - stepM m x) * v k

theorem stepM_congr {n : ℕ} {m m' : EReal} {x x' : Fin n → EReal} (hm : m = m') (hx : ∀ k, x k = x' k) : stepM m x = stepM m' x' := by
  rw [hm, funext hx]

theorem stepA_congr {n : ℕ} {m m' a a' : EReal} {x x' v v' : Fin n → EReal} (hm : m = m') (ha : a = a') (hx : ∀ k, x k = x' k) (hv : ∀ k, v k = v' k) :
    stepA m a x v = stepA m' a' x' v' := by
  rw [hm, ha, funext hx, funext hv]

/-- The greatest logit of the first `n` blocks. -/
def runM (x : ℕ → Fin 1024 → EReal) : ℕ → EReal
  | 0 => ⊥
  | n + 1 => stepM (runM x n) (x n)

/-- The weighted sum of the first `n` blocks. -/
def runA (x v : ℕ → Fin 1024 → EReal) : ℕ → EReal
  | 0 => 0
  | n + 1 => stepA (runM x n) (runA x v n) (x n) (v n)

theorem runM_mono (x : ℕ → Fin 1024 → EReal) {i n : ℕ} (h : i < n) (k : Fin 1024) : x i k ≤ runM x n := by
  induction n with
  | zero => omega
  | succ n ih =>
    rcases Nat.lt_succ_iff_lt_or_eq.mp h with h | rfl
    · exact (ih h).trans (le_max_left _ _)
    · exact (at_le _ k).trans (le_max_right _ _)

/-- The running sum is the sum under the last greatest logit. -/
theorem runA_eq (x v : ℕ → Fin 1024 → EReal) (n : ℕ) :
    runA x v n = ∑ i ∈ Finset.range n, ∑ k, Ideal.exp2 (x i k - runM x n) * v i k := by
  induction n with
  | zero => rfl
  | succ n ih =>
    have hle : runM x n ≤ runM x (n + 1) := le_max_left _ _
    rw [Finset.sum_range_succ]
    show Ideal.exp2 (runM x n - runM x (n + 1)) * runA x v n + _ = _
    congr 1
    rw [ih, mul_sum _ _ (exp2_nonneg _) (sub_self_le hle)]
    refine Finset.sum_congr rfl fun i hi => ?_
    rw [mul_sum _ _ (exp2_nonneg _) (sub_self_le hle)]
    exact Finset.sum_congr rfl fun k _ => rescale _ (runM_mono x (Finset.mem_range.mp hi) k) hle

/-- Blocks that are all `⊥` do not change the greatest logit. -/
theorem runM_add (x : ℕ → Fin 1024 → EReal) {n : ℕ} (j : ℕ) (h : ∀ i, n ≤ i → i < n + j → ∀ k, x i k = ⊥) : runM x (n + j) = runM x n := by
  induction j with
  | zero => rfl
  | succ j ih =>
    show max (runM x (n + j)) (top (x (n + j))) = _
    rw [ih fun i h1 h2 => h i h1 (by omega)]
    exact max_eq_left (top_le.mpr fun k => by rw [h _ (by omega) (by omega)]; exact bot_le)

/-- Nor the weighted sum. -/
theorem runA_add (x v : ℕ → Fin 1024 → EReal) {n : ℕ} (j : ℕ) (h : ∀ i, n ≤ i → i < n + j → ∀ k, x i k = ⊥) : runA x v (n + j) = runA x v n := by
  rw [runA_eq, runA_eq, runM_add x j h, Finset.sum_range_add]
  refine (congrArg _ (Finset.sum_eq_zero fun i hi => Finset.sum_eq_zero fun k _ => ?_)).trans (add_zero _)
  have hi' := Finset.mem_range.mp hi
  rw [h _ (by omega) (by omega), bot_sub, exp2_bot, zero_mul]

/-- A row of 8192, cut into blocks of 1024. -/
def blk (f : Fin 8192 → EReal) (i : ℕ) (k : Fin 1024) : EReal := f ⟨(i * 1024 + k.val) % 8192, Nat.mod_lt _ (by norm_num)⟩

theorem blk_eq (f : Fin 8192 → EReal) {i : ℕ} (k : Fin 1024) (j : Fin 8192) (h : j.val = i * 1024 + k.val) : blk f i k = f j :=
  congrArg f (Fin.ext (by show (i * 1024 + k.val) % 8192 = j.val; omega))

theorem runM_blk (f : Fin 8192 → EReal) : runM (blk f) 8 = top f := by
  refine le_antisymm ?_ (top_le.mpr fun j => ?_)
  · have : ∀ n, runM (blk f) n ≤ top f := fun n => by
      induction n with
      | zero => exact bot_le
      | succ n ih => exact max_le ih (top_le.mpr fun k => at_le f _)
    exact this 8
  · exact (le_of_eq (blk_eq f (i := j.val / 1024) ⟨j.val % 1024, Nat.mod_lt _ (by norm_num)⟩ j (by show j.val = j.val / 1024 * 1024 + j.val % 1024; omega)).symm).trans
      (runM_mono _ (by omega) _)

theorem sum_blk (g : Fin 8192 → EReal) : ∑ i ∈ Finset.range 8, ∑ k, blk g i k = ∑ j, g j := by
  rw [Finset.sum_range]
  refine Fin.sum_mul_add_congr (fun s k hl => ?_)
  exact blk_eq g k _ rfl

/-- The whole row at once. -/
theorem runA_blk (f v : Fin 8192 → EReal) : runA (blk f) (blk v) 8 = ∑ j, Ideal.exp2 (f j - top f) * v j := by
  rw [runA_eq, runM_blk]
  exact sum_blk (fun j => Ideal.exp2 (f j - top f) * v j)

/-! ## A block in parts of 256 -/

/-- Part `c` of a block. -/
def part (f : Fin 1024 → EReal) (c : Fin 4) (k : Fin 256) : EReal := f ⟨c.val * 256 + k.val, by omega⟩

theorem top_parts (f : Fin 1024 → EReal) :
    top f = top fun k => max (max (max (part f 0 k) (part f 1 k)) (part f 2 k)) (part f 3 k) := by
  refine le_antisymm (top_le.mpr fun j => ?_) (top_le.mpr fun k => ?_)
  · have h := at_le (fun k => max (max (max (part f 0 k) (part f 1 k)) (part f 2 k)) (part f 3 k)) ⟨j.val % 256, Nat.mod_lt _ (by norm_num)⟩
    refine le_trans ?_ h
    have e : ∀ c : Fin 4, j.val / 256 = c.val → f j = part f c ⟨j.val % 256, Nat.mod_lt _ (by norm_num)⟩ :=
      fun c hc => congrArg f (Fin.ext (by show j.val = c.val * 256 + j.val % 256; omega))
    have hj : j.val / 256 = 0 ∨ j.val / 256 = 1 ∨ j.val / 256 = 2 ∨ j.val / 256 = 3 := by omega
    rcases hj with hj | hj | hj | hj
    · rw [e 0 hj]; simp
    · rw [e 1 hj]; simp
    · rw [e 2 hj]; simp
    · rw [e 3 hj]; simp
  · simp only [max_le_iff]
    exact ⟨⟨⟨at_le f _, at_le f _⟩, at_le f _⟩, at_le f _⟩

theorem sum_parts (f : Fin 1024 → EReal) :
    ∑ k, f k = ∑ k, part f 0 k + ∑ k, part f 1 k + ∑ k, part f 2 k + ∑ k, part f 3 k := by
  rw [← Fin.sum_univ_four (fun c => ∑ k, part f c k)]
  exact (Fin.sum_mul_add_congr (fun s k hl => rfl)).symm

end Cert.Flash
-- ==== Proof.FlashDiag.lean ====
/- The attention kernel's stored values in the diagonal block, read entry by entry: four strips of 256 queries, each with the strips of keys up to its own. -/
module

public import proofs.«01_k».proof.Proof.Gen.KernelIdeal.Skeleton
public import proofs.«01_k».proof.Proof.FlashMath
public import Idealize.ShloMosaic.Lib.WordCmp
public import Idealize.ShloMosaic.Lib.Pipeline.ValueKit

@[expose] public section

set_option maxRecDepth 16384

noncomputable section

namespace Cert.Flash

open Cert.KernelIdeal Cert.KernelIdeal.Gen Idealize.ShloMosaic Idealize.ShloMosaic.TcCoe Idealize.SL.Sem

/-- The word of the smallest float is −∞. -/
theorem ninf' : Ideal.ofBits FTy.f32 4286578688#32 = (⊥ : EReal) := by
  simp [Ideal.ofBits, Ideal.ieee]

/-! ## One strip against one strip -/

/-- The logits below the diagonal. -/
theorem dgDot (q k : Vec Ideal S1x1x256x128 .bf16) (y : S256x256.Idx) :
    k0_pay17 q k y = ∑ d : Fin 128, q (ix4 0 0 (y 0) d) * k (ix4 0 0 (y 1) d) := by
  pointwise [k0_pay17]

/-- The logits on the diagonal. -/
theorem dgTri (q k : Vec Ideal S1x1x256x128 .bf16) (y : S256x256.Idx) :
    k0_pay16 q k y = if (y 1).val ≤ (y 0).val then ∑ d : Fin 128, q (ix4 0 0 (y 0) d) * k (ix4 0 0 (y 1) d) else ⊥ := by
  pointwise [k0_pay16]
  have h0 : (y 0).val < 256 := (y 0).isLt
  have h1 : (y 1).val < 256 := (y 1).isLt
  rw [WordCmp.cmpi_sge_ofNat (by norm_num; omega) (by norm_num; omega), WordCmp.select_decide, ninf']

/-- The loaded greatest logits. -/
theorem dgLd (μ : Vec Ideal S1x256x128 .f32) (y : S256x128.Idx) : k0_pay40 μ y = μ (ix3 0 (y 0) (y 1)) := by
  pointwise [k0_pay40]

theorem dgTop1 (L : FVec Ideal S256x256 .f32) (μ : FVec Ideal S256x128 .f32) (y : S256x128.Idx) :
    k0_pay48 L μ y = max (μ y) (top fun j : Fin 256 => L (ix2 (y 0) j)) := by
  pointwise [k0_pay48, top]
  rw [ninf']

theorem dgTop2 (L L' : FVec Ideal S256x256 .f32) (μ : FVec Ideal S256x128 .f32) (y : S256x128.Idx) :
    k0_pay49 L L' μ y = max (μ y) (top fun j : Fin 256 => max (L (ix2 (y 0) j)) (L' (ix2 (y 0) j))) := by
  pointwise [k0_pay49, top]
  rw [ninf']

theorem dgTop3 (L L' L'' : FVec Ideal S256x256 .f32) (μ : FVec Ideal S256x128 .f32) (y : S256x128.Idx) :
    k0_pay50 L L' L'' μ y = max (μ y) (top fun j : Fin 256 => max (max (L (ix2 (y 0) j)) (L' (ix2 (y 0) j))) (L'' (ix2 (y 0) j))) := by
  pointwise [k0_pay50, top]
  rw [ninf']

theorem dgTop4 (L L' L'' L3 : FVec Ideal S256x256 .f32) (μ : FVec Ideal S256x128 .f32) (y : S256x128.Idx) :
    k0_pay51 L L' L'' L3 μ y = max (μ y) (top fun j : Fin 256 => max (max (max (L (ix2 (y 0) j)) (L' (ix2 (y 0) j))) (L'' (ix2 (y 0) j))) (L3 (ix2 (y 0) j))) := by
  pointwise [k0_pay51, top]
  rw [ninf']

/-- The weights, when the new greatest logit is the same in each lane. -/
theorem dgExp (L : FVec Ideal S256x256 .f32) (b : FVec Ideal S256x128 .f32) (B : Fin 256 → EReal) (hB : ∀ y l, b (ix2 y l) = B y) (y : S256x256.Idx) :
    k0_pay56 L b y = Ideal.exp2 (L y - B (y 0)) := by
  pointwise [k0_pay56]
  refine congrArg (fun z => Ideal.exp2 (L y - z)) ?_
  repeat' split
  all_goals exact hB _ _

/-- The weighted sum of the values of one strip of keys. -/
theorem dgSum (p : FVec Ideal S256x256 .bf16) (v : Vec Ideal S1x1x256x128 .bf16) (y : S256x128.Idx) :
    k0_pay76 p v y = ∑ j : Fin 256, p (ix2 (y 0) j) * v (ix4 0 0 j (y 1)) := by
  pointwise [k0_pay76]

/-- The new weighted sum. -/
theorem dgAcc (a b s : FVec Ideal S256x128 .f32) (α : Vec Ideal S1x256x128 .f32) (y : S1x256x128.Idx) :
    k0_pay90 a b s α y = Ideal.exp2 (a (ix2 (y 1) (y 2)) - b (ix2 (y 1) (y 2))) * α y + s (ix2 (y 1) (y 2)) := by
  pointwise [k0_pay90]
  rfl

/-- The stored greatest logits. -/
theorem dgSt (b : FVec Ideal S256x128 .f32) (y : S1x256x128.Idx) : k0_pay91 b y = b (ix2 (y 1) (y 2)) := by
  pointwise [k0_pay91]

/-! ## Stored values that are the same computation -/

theorem p21 (a b) : k0_pay21 (F := Ideal) a b = k0_pay17 a b := rfl
theorem p23 (a b) : k0_pay23 (F := Ideal) a b = k0_pay17 a b := rfl
theorem p24 (a b) : k0_pay24 (F := Ideal) a b = k0_pay17 a b := rfl
theorem p25 (a b) : k0_pay25 (F := Ideal) a b = k0_pay17 a b := rfl
theorem p29 (a b) : k0_pay29 (F := Ideal) a b = k0_pay17 a b := rfl
theorem p31 (a b) : k0_pay31 (F := Ideal) a b = k0_pay17 a b := rfl
theorem p35 (a b) : k0_pay35 (F := Ideal) a b = k0_pay17 a b := rfl
theorem p36 (a b) : k0_pay36 (F := Ideal) a b = k0_pay17 a b := rfl
theorem p18 (a b) : k0_pay18 (F := Ideal) a b = k0_pay16 a b := rfl
theorem p22 (a b) : k0_pay22 (F := Ideal) a b = k0_pay16 a b := rfl
theorem p26 (a b) : k0_pay26 (F := Ideal) a b = k0_pay16 a b := rfl
theorem p30 (a b) : k0_pay30 (F := Ideal) a b = k0_pay16 a b := rfl
theorem p34 (a b) : k0_pay34 (F := Ideal) a b = k0_pay16 a b := rfl
theorem p39 (a b) : k0_pay39 (F := Ideal) a b = k0_pay16 a b := rfl
theorem p41 (a) : k0_pay41 (F := Ideal) a = k0_pay40 a := rfl
theorem p42 (a) : k0_pay42 (F := Ideal) a = k0_pay40 a := rfl
theorem p43 (a) : k0_pay43 (F := Ideal) a = k0_pay40 a := rfl
theorem p44 (a) : k0_pay44 (F := Ideal) a = k0_pay40 a := rfl
theorem p45 (a) : k0_pay45 (F := Ideal) a = k0_pay40 a := rfl
theorem p46 (a) : k0_pay46 (F := Ideal) a = k0_pay40 a := rfl
theorem p47 (a) : k0_pay47 (F := Ideal) a = k0_pay40 a := rfl
theorem p52 (a b) : k0_pay52 (F := Ideal) a b = k0_pay48 a b := rfl
theorem p53 (a b c) : k0_pay53 (F := Ideal) a b c = k0_pay49 a b c := rfl
theorem p57 (a b) : k0_pay57 (F := Ideal) a b = k0_pay56 a b := rfl
theorem p58 (a b) : k0_pay58 (F := Ideal) a b = k0_pay56 a b := rfl
theorem p59 (a b) : k0_pay59 (F := Ideal) a b = k0_pay56 a b := rfl
theorem p60 (a b) : k0_pay60 (F := Ideal) a b = k0_pay56 a b := rfl
theorem p61 (a b) : k0_pay61 (F := Ideal) a b = k0_pay56 a b := rfl
theorem p62 (a b) : k0_pay62 (F := Ideal) a b = k0_pay56 a b := rfl
theorem p63 (a b) : k0_pay63 (F := Ideal) a b = k0_pay56 a b := rfl
theorem p64 (a b) : k0_pay64 (F := Ideal) a b = k0_pay56 a b := rfl
theorem p65 (a b) : k0_pay65 (F := Ideal) a b = k0_pay56 a b := rfl
theorem p66 (a b) : k0_pay66 (F := Ideal) a b = k0_pay56 a b := rfl
theorem p67 (a b) : k0_pay67 (F := Ideal) a b = k0_pay56 a b := rfl
theorem p68 (a b) : k0_pay68 (F := Ideal) a b = k0_pay56 a b := rfl
theorem p69 (a b) : k0_pay69 (F := Ideal) a b = k0_pay56 a b := rfl
theorem p70 (a b) : k0_pay70 (F := Ideal) a b = k0_pay56 a b := rfl
theorem p71 (a b) : k0_pay71 (F := Ideal) a b = k0_pay56 a b := rfl
theorem p72 (a b) : k0_pay72 (F := Ideal) a b = k0_pay56 a b := rfl
theorem p73 (a b) : k0_pay73 (F := Ideal) a b = k0_pay56 a b := rfl
theorem p74 (a b) : k0_pay74 (F := Ideal) a b = k0_pay56 a b := rfl
theorem p75 (a b) : k0_pay75 (F := Ideal) a b = k0_pay56 a b := rfl
theorem p78 (a b) : k0_pay78 (F := Ideal) a b = k0_pay76 a b := rfl
theorem p82 (a b) : k0_pay82 (F := Ideal) a b = k0_pay76 a b := rfl
theorem p86 (a b) : k0_pay86 (F := Ideal) a b = k0_pay76 a b := rfl
theorem p87 (a b) : k0_pay87 (F := Ideal) a b = k0_pay76 a b := rfl
theorem p92 (a b c d) : k0_pay92 (F := Ideal) a b c d = k0_pay90 a b c d := rfl
theorem p97 (a b c d) : k0_pay97 (F := Ideal) a b c d = k0_pay90 a b c d := rfl
theorem p99 (a b c d) : k0_pay99 (F := Ideal) a b c d = k0_pay90 a b c d := rfl
theorem p101 (a b c d) : k0_pay101 (F := Ideal) a b c d = k0_pay90 a b c d := rfl
theorem p103 (a b c d) : k0_pay103 (F := Ideal) a b c d = k0_pay90 a b c d := rfl
theorem p93 (a) : k0_pay93 (F := Ideal) a = k0_pay91 a := rfl
theorem p96 (a) : k0_pay96 (F := Ideal) a = k0_pay91 a := rfl
theorem p98 (a) : k0_pay98 (F := Ideal) a = k0_pay91 a := rfl
theorem p100 (a) : k0_pay100 (F := Ideal) a = k0_pay91 a := rfl
theorem p102 (a) : k0_pay102 (F := Ideal) a = k0_pay91 a := rfl
theorem p104 (a) : k0_pay104 (F := Ideal) a = k0_pay91 a := rfl
theorem p108 (a) : k0_pay108 (F := Ideal) a = k0_pay91 a := rfl
theorem p9 (a b) : k0_pay9 (F := Ideal) a b = k0_pay8 a b := rfl
theorem p11 (a) : k0_pay11 (F := Ideal) a = k0_pay10 a := rfl
theorem p13 (a b c) : k0_pay13 (F := Ideal) a b c = k0_pay12 a b c := rfl
theorem p15 (a b c) : k0_pay15 (F := Ideal) a b c = k0_pay14 a b c := rfl
theorem p5 (a b c d e) : k0_pay5 (F := Ideal) a b c d e = k0_pay3 a b c d e := rfl
theorem p6 (a) : k0_pay6 (F := Ideal) a = k0_pay4 a := rfl
theorem p110 (a b) : k0_pay110 (F := Ideal) a b = k0_pay109 a b := rfl
theorem p20 (q k : Vec Ideal S1x1x256x128 .bf16) : k0_pay20 (k0_pay19 q) k = k0_pay17 q k := rfl
theorem p33 (q k : Vec Ideal S1x1x256x128 .bf16) : k0_pay33 (k0_pay32 q) k = k0_pay17 q k := rfl
theorem p38 (q k : Vec Ideal S1x1x256x128 .bf16) : k0_pay38 (k0_pay37 q) k = k0_pay17 q k := rfl
theorem p28 (q k : Vec Ideal S1x1x256x128 .bf16) : k0_pay28 (k0_pay27 q k) (iota .tc S256x256 32 [0] iota_S256x256_d0_w32) (iota .tc S256x256 32 [1] iota_S256x256_d1_w32) = k0_pay16 q k := rfl
theorem p54 (a b c : FVec Ideal S256x256 .f32) (μ : Vec Ideal S1x256x128 .f32) : k0_pay54 a b c μ = k0_pay50 a b c (k0_pay40 μ) := rfl
theorem p55 (a b c d : FVec Ideal S256x256 .f32) (μ : Vec Ideal S1x256x128 .f32) : k0_pay55 a b c d μ = k0_pay51 a b c d (k0_pay40 μ) := rfl

section
variable (p0 p1 p2 p3 : FVec Ideal S256x256 .bf16) (v0 v1 v2 v3 : Vec Ideal S1x1x256x128 .bf16)

theorem p77 : k0_pay77 p0 p1 v0 v1 = addf (k0_pay76 p0 v0) (k0_pay76 p1 v1) := rfl
theorem p80 : k0_pay80 p1 p2 (k0_pay76 p0 v0) (k0_pay79 v1) (constant S256x128 .f32 0x00000000#32) v2 = addf (addf (k0_pay76 p0 v0) (k0_pay76 p1 v1)) (k0_pay76 p2 v2) := rfl
theorem p81 : k0_pay81 p0 p1 p2 p3 v0 v1 v2 v3 = addf (addf (addf (k0_pay76 p0 v0) (k0_pay76 p1 v1)) (k0_pay76 p2 v2)) (k0_pay76 p3 v3) := rfl
theorem p84 : k0_pay84 p0 p1 (k0_pay83 v0) v1 = addf (k0_pay76 p0 v0) (k0_pay76 p1 v1) := rfl
theorem p85 : k0_pay85 p0 p1 p2 v0 v1 v2 = addf (addf (k0_pay76 p0 v0) (k0_pay76 p1 v1)) (k0_pay76 p2 v2) := rfl
theorem p89 : k0_pay89 p2 p3 (k0_pay76 p0 v0) (k0_pay76 p1 v1) (k0_pay88 v2) (constant S256x128 .f32 0x00000000#32) v3 = addf (addf (addf (k0_pay76 p0 v0) (k0_pay76 p1 v1)) (k0_pay76 p2 v2)) (k0_pay76 p3 v3) := rfl
end

theorem p95 (s a b : FVec Ideal S256x128 .f32) (α : Vec Ideal S1x256x128 .f32) : k0_pay95 s (k0_pay94 a b) α = k0_pay90 a b s α := rfl
theorem p107 (s a b : FVec Ideal S256x128 .f32) (α : Vec Ideal S1x256x128 .f32) : k0_pay107 s (k0_pay105 a b) (k0_pay106 α) = k0_pay90 a b s α := rfl

/-! ## A row of the diagonal block, strip by strip -/

/-- Row `y` of strip `r`, masked: a query sees the keys up to its own. -/
def mk (r : Fin 4) (y : Fin 256) (f : Fin 1024 → EReal) : Fin 1024 → EReal := fun k => if k.val ≤ r.val * 256 + y.val then f k else ⊥

theorem mk_lt {r c : Fin 4} (h : c.val < r.val) (y : Fin 256) (f : Fin 1024 → EReal) (j : Fin 256) : part (mk r y f) c j = part f c j :=
  if_pos (by show c.val * 256 + j.val ≤ r.val * 256 + y.val; omega)

theorem mk_gt {r c : Fin 4} (h : r.val < c.val) (y : Fin 256) (f : Fin 1024 → EReal) (j : Fin 256) : part (mk r y f) c j = ⊥ :=
  if_neg (by show ¬c.val * 256 + j.val ≤ r.val * 256 + y.val; omega)

theorem mk_eq (r : Fin 4) (y : Fin 256) (f : Fin 1024 → EReal) (j : Fin 256) : part (mk r y f) r j = if j.val ≤ y.val then part f r j else ⊥ := by
  by_cases h : j.val ≤ y.val
  · rw [if_pos h]; exact if_pos (by show r.val * 256 + j.val ≤ r.val * 256 + y.val; omega)
  · rw [if_neg h]; exact if_neg (by show ¬r.val * 256 + j.val ≤ r.val * 256 + y.val; omega)

/-- The weighted sum over one strip of keys. -/
def psum (x V : Fin 1024 → EReal) (μ : EReal) (c : Fin 4) : EReal := ∑ j, Ideal.exp2 (part x c j - μ) * part V c j

theorem psum_gt {r c : Fin 4} (h : r.val < c.val) (y : Fin 256) (f V : Fin 1024 → EReal) (μ : EReal) : psum (mk r y f) V μ c = 0 :=
  Finset.sum_eq_zero fun j _ => by rw [mk_gt h, bot_sub, exp2_bot, zero_mul]

theorem stepA_parts (m a : EReal) (x V : Fin 1024 → EReal) :
    stepA m a x V = Ideal.exp2 (m - stepM m x) * a + (psum x V (stepM m x) 0 + psum x V (stepM m x) 1 + psum x V (stepM m x) 2 + psum x V (stepM m x) 3) :=
  congrArg (Ideal.exp2 (m - stepM m x) * a + ·) (sum_parts fun k => Ideal.exp2 (x k - stepM m x) * V k)

section
variable (q k0 k1 k2 k3 v0 v1 v2 v3 : Vec Ideal S1x1x256x128 .bf16) (μ α : Vec Ideal S1x256x128 .f32)
  (M : Fin 256 → EReal) (f : Fin 256 → Fin 1024 → EReal) (V : Fin 128 → Fin 1024 → EReal)

/-- The loaded keys are strip `c` of the keys. -/
abbrev IsK (q k : Vec Ideal S1x1x256x128 .bf16) (f : Fin 256 → Fin 1024 → EReal) (c : Fin 4) : Prop :=
  ∀ y j, ∑ d : Fin 128, (q (ix4 0 0 y d) : EReal) * k (ix4 0 0 j d) = part (f y) c j
/-- The loaded values are strip `c` of the values. -/
abbrev IsV (v : Vec Ideal S1x1x256x128 .bf16) (V : Fin 128 → Fin 1024 → EReal) (c : Fin 4) : Prop :=
  ∀ j l, (v (ix4 0 0 j l) : EReal) = part (V l) c j
/-- The loaded greatest logits are the same in each lane. -/
abbrev IsM (μ : Vec Ideal S1x256x128 .f32) (M : Fin 256 → EReal) : Prop := ∀ y l, (μ (ix3 0 y l) : EReal) = M y

variable {q k0 k1 k2 k3 v0 v1 v2 v3 μ M f V}

theorem plain_mk {k : Vec Ideal S1x1x256x128 .bf16} {c r : Fin 4} (h : c.val < r.val) (hk : IsK q k f c) (y : Fin 256) (j : Fin 256) :
    k0_pay17 q k (ix2 y j) = part (mk r y (f y)) c j :=
  (dgDot q k (ix2 y j)).trans ((hk y j).trans (mk_lt h y (f y) j).symm)

theorem tri_mk {k : Vec Ideal S1x1x256x128 .bf16} {r : Fin 4} (hk : IsK q k f r) (y : Fin 256) (j : Fin 256) :
    k0_pay16 q k (ix2 y j) = part (mk r y (f y)) r j :=
  (dgTri q k (ix2 y j)).trans ((mk_eq r y (f y) j).trans (by rw [← hk y j]; rfl)).symm

/-- One strip's weighted sum. -/
theorem sum_mk {L : FVec Ideal S256x256 .f32} {b : FVec Ideal S256x128 .f32} {v : Vec Ideal S1x1x256x128 .bf16} {r c : Fin 4} {B : Fin 256 → EReal}
    (hL : ∀ y j, L (ix2 y j) = part (mk r y (f y)) c j) (hB : ∀ y l, b (ix2 y l) = B y) (hv : IsV v V c) (y : Fin 256) (l : Fin 128) :
    k0_pay76 (k0_pay56 L b) v (ix2 y l) = psum (mk r y (f y)) (V l) (B y) c :=
  (dgSum _ v (ix2 y l)).trans (Finset.sum_congr rfl fun j _ =>
    congrArg₂ (· * ·) ((dgExp L b B hB (ix2 y j)).trans (congrArg (fun z => Ideal.exp2 (z - B y)) (hL y j))) (hv j l))

/-- The new greatest logit, strip 0. -/
theorem newM0 (hM : IsM μ M) (hk0 : IsK q k0 f 0) (y : Fin 256) (l : Fin 128) :
    k0_pay48 (k0_pay16 q k0) (k0_pay40 μ) (ix2 y l) = stepM (M y) (mk 0 y (f y)) := by
  refine (dgTop1 _ _ _).trans (congrArg₂ max ((dgLd μ _).trans (hM y l)) ((top_congr fun j => ?_).trans (top_parts _).symm))
  refine (tri_mk hk0 y j).trans ?_
  rw [mk_gt (r := 0) (c := 1) (by decide), mk_gt (r := 0) (c := 2) (by decide), mk_gt (r := 0) (c := 3) (by decide)]
  simp only [max_bot_right]

theorem newM1 (hM : IsM μ M) (hk0 : IsK q k0 f 0) (hk1 : IsK q k1 f 1) (y : Fin 256) (l : Fin 128) :
    k0_pay49 (k0_pay17 q k0) (k0_pay16 q k1) (k0_pay40 μ) (ix2 y l) = stepM (M y) (mk 1 y (f y)) := by
  refine (dgTop2 _ _ _ _).trans (congrArg₂ max ((dgLd μ _).trans (hM y l)) ((top_congr fun j => ?_).trans (top_parts _).symm))
  refine (congrArg₂ max (plain_mk (r := 1) (by decide) hk0 y j) (tri_mk hk1 y j)).trans ?_
  rw [mk_gt (r := 1) (c := 2) (by decide), mk_gt (r := 1) (c := 3) (by decide)]
  simp only [max_bot_right]

theorem newM2 (hM : IsM μ M) (hk0 : IsK q k0 f 0) (hk1 : IsK q k1 f 1) (hk2 : IsK q k2 f 2) (y : Fin 256) (l : Fin 128) :
    k0_pay50 (k0_pay17 q k0) (k0_pay17 q k1) (k0_pay16 q k2) (k0_pay40 μ) (ix2 y l) = stepM (M y) (mk 2 y (f y)) := by
  refine (dgTop3 _ _ _ _ _).trans (congrArg₂ max ((dgLd μ _).trans (hM y l)) ((top_congr fun j => ?_).trans (top_parts _).symm))
  refine (congrArg₂ max (congrArg₂ max (plain_mk (r := 2) (by decide) hk0 y j) (plain_mk (r := 2) (by decide) hk1 y j)) (tri_mk hk2 y j)).trans ?_
  rw [mk_gt (r := 2) (c := 3) (by decide)]
  simp only [max_bot_right]

theorem newM3 (hM : IsM μ M) (hk0 : IsK q k0 f 0) (hk1 : IsK q k1 f 1) (hk2 : IsK q k2 f 2) (hk3 : IsK q k3 f 3) (y : Fin 256) (l : Fin 128) :
    k0_pay51 (k0_pay17 q k0) (k0_pay17 q k1) (k0_pay17 q k2) (k0_pay16 q k3) (k0_pay40 μ) (ix2 y l) = stepM (M y) (mk 3 y (f y)) := by
  refine (dgTop4 _ _ _ _ _ _).trans (congrArg₂ max ((dgLd μ _).trans (hM y l)) ((top_congr fun j => ?_).trans (top_parts _).symm))
  exact congrArg₂ max (congrArg₂ max (congrArg₂ max (plain_mk (r := 3) (by decide) hk0 y j) (plain_mk (r := 3) (by decide) hk1 y j)) (plain_mk (r := 3) (by decide) hk2 y j)) (tri_mk hk3 y j)

/-- The new weighted sum, from the strip's new greatest logit and its weighted sums. -/
theorem newA {b s : FVec Ideal S256x128 .f32} {r : Fin 4} (hM : IsM μ M) (hb : ∀ y l, b (ix2 y l) = stepM (M y) (mk r y (f y)))
    (hs : ∀ y l, s (ix2 y l) = psum (mk r y (f y)) (V l) (stepM (M y) (mk r y (f y))) 0 + psum (mk r y (f y)) (V l) (stepM (M y) (mk r y (f y))) 1
      + psum (mk r y (f y)) (V l) (stepM (M y) (mk r y (f y))) 2 + psum (mk r y (f y)) (V l) (stepM (M y) (mk r y (f y))) 3) (y : S1x256x128.Idx) :
    k0_pay90 (k0_pay40 μ) b s α y = stepA (M (y 1)) (α y) (mk r (y 1) (f (y 1))) (V (y 2)) :=
  (dgAcc _ _ _ _ _).trans ((congrArg₂ (fun z w => Ideal.exp2 z * α y + w)
    (congrArg₂ (· - ·) ((dgLd μ _).trans (hM (y 1) (y 2))) (hb (y 1) (y 2))) (hs (y 1) (y 2))).trans (stepA_parts _ _ _ _).symm)

/-- What strip 0 stores: the greatest logits. -/
theorem dm0 (hM : IsM μ M) (hk0 : IsK q k0 f 0) (y : S1x256x128.Idx) :
    k0_pay91 (k0_pay48 (k0_pay16 q k0) (k0_pay40 μ)) y = stepM (M (y 1)) (mk 0 (y 1) (f (y 1))) :=
  (dgSt _ _).trans (newM0 hM hk0 (y 1) (y 2))

theorem dm1 (hM : IsM μ M) (hk0 : IsK q k0 f 0) (hk1 : IsK q k1 f 1) (y : S1x256x128.Idx) :
    k0_pay91 (k0_pay49 (k0_pay17 q k0) (k0_pay16 q k1) (k0_pay40 μ)) y = stepM (M (y 1)) (mk 1 (y 1) (f (y 1))) :=
  (dgSt _ _).trans (newM1 hM hk0 hk1 (y 1) (y 2))

theorem dm2 (hM : IsM μ M) (hk0 : IsK q k0 f 0) (hk1 : IsK q k1 f 1) (hk2 : IsK q k2 f 2) (y : S1x256x128.Idx) :
    k0_pay91 (k0_pay50 (k0_pay17 q k0) (k0_pay17 q k1) (k0_pay16 q k2) (k0_pay40 μ)) y = stepM (M (y 1)) (mk 2 (y 1) (f (y 1))) :=
  (dgSt _ _).trans (newM2 hM hk0 hk1 hk2 (y 1) (y 2))

theorem dm3 (hM : IsM μ M) (hk0 : IsK q k0 f 0) (hk1 : IsK q k1 f 1) (hk2 : IsK q k2 f 2) (hk3 : IsK q k3 f 3) (y : S1x256x128.Idx) :
    k0_pay91 (k0_pay51 (k0_pay17 q k0) (k0_pay17 q k1) (k0_pay17 q k2) (k0_pay16 q k3) (k0_pay40 μ)) y = stepM (M (y 1)) (mk 3 (y 1) (f (y 1))) :=
  (dgSt _ _).trans (newM3 hM hk0 hk1 hk2 hk3 (y 1) (y 2))

/-- What strip 0 stores: the weighted sums. -/
theorem da0 (hM : IsM μ M) (hk0 : IsK q k0 f 0) (hv0 : IsV v0 V 0) (y : S1x256x128.Idx) :
    k0_pay90 (k0_pay40 μ) (k0_pay48 (k0_pay16 q k0) (k0_pay40 μ))
      (k0_pay76 (k0_pay56 (k0_pay16 q k0) (k0_pay48 (k0_pay16 q k0) (k0_pay40 μ))) v0) α y
      = stepA (M (y 1)) (α y) (mk 0 (y 1) (f (y 1))) (V (y 2)) := by
  refine newA α hM (newM0 hM hk0) (fun y l => (sum_mk (tri_mk hk0) (newM0 hM hk0) hv0 y l).trans ?_) y
  rw [psum_gt (r := 0) (c := 1) (by decide), psum_gt (r := 0) (c := 2) (by decide), psum_gt (r := 0) (c := 3) (by decide)]
  simp only [add_zero]

theorem da1 (hM : IsM μ M) (hk0 : IsK q k0 f 0) (hk1 : IsK q k1 f 1) (hv0 : IsV v0 V 0) (hv1 : IsV v1 V 1) (y : S1x256x128.Idx) :
    k0_pay90 (k0_pay40 μ) (k0_pay49 (k0_pay17 q k0) (k0_pay16 q k1) (k0_pay40 μ))
      (addf (k0_pay76 (k0_pay56 (k0_pay17 q k0) (k0_pay49 (k0_pay17 q k0) (k0_pay16 q k1) (k0_pay40 μ))) v0)
        (k0_pay76 (k0_pay56 (k0_pay16 q k1) (k0_pay49 (k0_pay17 q k0) (k0_pay16 q k1) (k0_pay40 μ))) v1)) α y
      = stepA (M (y 1)) (α y) (mk 1 (y 1) (f (y 1))) (V (y 2)) := by
  have hm := newM1 hM hk0 hk1
  refine newA α hM hm (fun y l => (congrArg₂ (· + ·) (sum_mk (plain_mk (r := 1) (by decide) hk0) hm hv0 y l) (sum_mk (tri_mk hk1) hm hv1 y l)).trans ?_) y
  rw [psum_gt (r := 1) (c := 2) (by decide), psum_gt (r := 1) (c := 3) (by decide)]
  simp only [add_zero]

theorem da2 (hM : IsM μ M) (hk0 : IsK q k0 f 0) (hk1 : IsK q k1 f 1) (hk2 : IsK q k2 f 2) (hv0 : IsV v0 V 0) (hv1 : IsV v1 V 1) (hv2 : IsV v2 V 2) (y : S1x256x128.Idx) :
    k0_pay90 (k0_pay40 μ) (k0_pay50 (k0_pay17 q k0) (k0_pay17 q k1) (k0_pay16 q k2) (k0_pay40 μ))
      (addf (addf (k0_pay76 (k0_pay56 (k0_pay17 q k0) (k0_pay50 (k0_pay17 q k0) (k0_pay17 q k1) (k0_pay16 q k2) (k0_pay40 μ))) v0)
        (k0_pay76 (k0_pay56 (k0_pay17 q k1) (k0_pay50 (k0_pay17 q k0) (k0_pay17 q k1) (k0_pay16 q k2) (k0_pay40 μ))) v1))
        (k0_pay76 (k0_pay56 (k0_pay16 q k2) (k0_pay50 (k0_pay17 q k0) (k0_pay17 q k1) (k0_pay16 q k2) (k0_pay40 μ))) v2)) α y
      = stepA (M (y 1)) (α y) (mk 2 (y 1) (f (y 1))) (V (y 2)) := by
  have hm := newM2 hM hk0 hk1 hk2
  refine newA α hM hm (fun y l => (congrArg₂ (· + ·) (congrArg₂ (· + ·) (sum_mk (plain_mk (r := 2) (by decide) hk0) hm hv0 y l)
    (sum_mk (plain_mk (r := 2) (by decide) hk1) hm hv1 y l)) (sum_mk (tri_mk hk2) hm hv2 y l)).trans ?_) y
  rw [psum_gt (r := 2) (c := 3) (by decide)]
  simp only [add_zero]

theorem da3 (hM : IsM μ M) (hk0 : IsK q k0 f 0) (hk1 : IsK q k1 f 1) (hk2 : IsK q k2 f 2) (hk3 : IsK q k3 f 3)
    (hv0 : IsV v0 V 0) (hv1 : IsV v1 V 1) (hv2 : IsV v2 V 2) (hv3 : IsV v3 V 3) (y : S1x256x128.Idx) :
    k0_pay90 (k0_pay40 μ) (k0_pay51 (k0_pay17 q k0) (k0_pay17 q k1) (k0_pay17 q k2) (k0_pay16 q k3) (k0_pay40 μ))
      (addf (addf (addf (k0_pay76 (k0_pay56 (k0_pay17 q k0) (k0_pay51 (k0_pay17 q k0) (k0_pay17 q k1) (k0_pay17 q k2) (k0_pay16 q k3) (k0_pay40 μ))) v0)
        (k0_pay76 (k0_pay56 (k0_pay17 q k1) (k0_pay51 (k0_pay17 q k0) (k0_pay17 q k1) (k0_pay17 q k2) (k0_pay16 q k3) (k0_pay40 μ))) v1))
        (k0_pay76 (k0_pay56 (k0_pay17 q k2) (k0_pay51 (k0_pay17 q k0) (k0_pay17 q k1) (k0_pay17 q k2) (k0_pay16 q k3) (k0_pay40 μ))) v2))
        (k0_pay76 (k0_pay56 (k0_pay16 q k3) (k0_pay51 (k0_pay17 q k0) (k0_pay17 q k1) (k0_pay17 q k2) (k0_pay16 q k3) (k0_pay40 μ))) v3)) α y
      = stepA (M (y 1)) (α y) (mk 3 (y 1) (f (y 1))) (V (y 2)) := by
  have hm := newM3 hM hk0 hk1 hk2 hk3
  exact newA α hM hm (fun y l => congrArg₂ (· + ·) (congrArg₂ (· + ·) (congrArg₂ (· + ·) (sum_mk (plain_mk (r := 3) (by decide) hk0) hm hv0 y l)
    (sum_mk (plain_mk (r := 3) (by decide) hk1) hm hv1 y l)) (sum_mk (plain_mk (r := 3) (by decide) hk2) hm hv2 y l)) (sum_mk (tri_mk hk3) hm hv3 y l)) y
end

/-! ## What is written out -/

theorem outDiv (a b : Vec Ideal S1x1024x128 .f32) (y : S1024x128.Idx) :
    k0_pay109 a b y = Ideal.div (a (ix3 0 (y 0) (y 1))) (b (ix3 0 (y 0) 64)) := by
  pointwise [k0_pay109]

theorem outSel (a b : FVec Ideal S1024x128 .f32) (y : S1024x128.Idx) :
    k0_pay7 a b k0_pay111 y = if (y 1).val < 64 then a y else b (ix2 (y 0) ⟨((y 1).val + 128 - 64) % 128, Nat.mod_lt _ (by norm_num)⟩) := by
  pointwise [k0_pay7, k0_pay111]
  have h1 : (y 1).val < 128 := (y 1).isLt
  rw [WordCmp.cmpi_slt_ofNat (by norm_num; omega) (by norm_num), WordCmp.select_decide]

theorem fill1 (y : S2x1024x128.Idx) : k0_pay1 (F := Ideal) y = (⊥ : EReal) := by
  pointwise [k0_pay1]
  exact ninf'

theorem fill2 (y : S2x1024x128.Idx) : k0_pay2 (F := Ideal) y = (0 : EReal) := by
  pointwise [k0_pay2]

end Cert.Flash
-- ==== Proof.FlashRows.lean ====
/- The attention kernel's stored values, read entry by entry: what one key block does to one row of queries. -/
module

public import proofs.«01_k».proof.Proof.Gen.KernelIdeal.Skeleton
public import proofs.«01_k».proof.Proof.FlashMath
public import Idealize.ShloMosaic.Lib.Pipeline.ValueKit

@[expose] public section

set_option maxRecDepth 16384

noncomputable section

namespace Cert.Flash

open Cert.KernelIdeal Cert.KernelIdeal.Gen Idealize.ShloMosaic Idealize.ShloMosaic.TcCoe Idealize.SL.Sem

/-- The word of the smallest float is −∞. -/
theorem ninf : Ideal.ofBits FTy.f32 4286578688#32 = (⊥ : EReal) := by
  simp [Ideal.ofBits, Ideal.ieee]

/-! ## A whole key block -/

/-- The logits. -/
theorem fullDot (q k : Vec Ideal S1x1x1024x128 .bf16) (y : S1024x1024.Idx) :
    k0_pay8 q k y = ∑ d : Fin 128, q (ix4 0 0 (y 0) d) * k (ix4 0 0 (y 1) d) := by
  pointwise [k0_pay8]

/-- The new greatest logit. -/
theorem fullTop (q k : Vec Ideal S1x1x1024x128 .bf16) (μ : Vec Ideal S1x1024x128 .f32) (y : S1024x128.Idx) :
    k0_pay12 q k μ y = max (μ (ix3 0 (y 0) (y 1))) (top fun j : Fin 1024 => k0_pay8 q k (ix2 (y 0) j)) := by
  pointwise [k0_pay12, k0_pay10, top]
  rw [ninf]

/-- The weights, when the new greatest logit is the same in each lane. -/
theorem fullExp (q k : Vec Ideal S1x1x1024x128 .bf16) (μ : Vec Ideal S1x1024x128 .f32) (M : Fin 1024 → EReal)
    (hM : ∀ y l, k0_pay12 q k μ (ix2 y l) = M y) (y : S1024x1024.Idx) :
    k0_pay14 q k μ y = Ideal.exp2 (k0_pay8 q k y - M (y 0)) := by
  pointwise [k0_pay14]
  refine congrArg (fun z => Ideal.exp2 (k0_pay8 q k y - z)) ?_
  repeat' split
  all_goals exact hM _ _

/-- The new weighted sum. -/
theorem fullAcc (a b : FVec Ideal S1024x128 .f32) (p : FVec Ideal S1024x1024 .bf16) (v : Vec Ideal S1x1x1024x128 .bf16) (α : Vec Ideal S1x1024x128 .f32) (y : S1x1024x128.Idx) :
    k0_pay3 a b p v α y = Ideal.exp2 (a (ix2 (y 1) (y 2)) - b (ix2 (y 1) (y 2))) * α y + ∑ j : Fin 1024, p (ix2 (y 1) j) * v (ix4 0 0 j (y 2)) := by
  pointwise [k0_pay3]
  rfl

end Cert.Flash
-- ==== Proof.FlashPoint.lean ====
/- The attention kernel, point by point: what each way through the body leaves in the greatest logits, in the weighted sums and in the output block. -/
module

public import proofs.«01_k».proof.Proof.Gen.KernelIdeal.Skeleton
public import proofs.«01_k».proof.Proof.AttnIFrame
public import proofs.«01_k».proof.Proof.FlashDiag
public import proofs.«01_k».proof.Proof.FlashRows
public import Idealize.ShloMosaic.Lib.WordCmp
public import Idealize.ShloMosaic.Lib.Pipeline.ValueKit
public import Idealize.ShloMosaic.Lib.Pipeline.ReadBack

@[expose] public section

set_option maxRecDepth 16384

noncomputable section

namespace Cert.Flash

open Cert.KernelIdeal Cert.KernelIdeal.Gen Cert.KernelIdeal.Attn Idealize.ShloMosaic Idealize.ShloMosaic.TcCoe Idealize.SL.Sem

variable (m : (ℓ : Loc nD τ sig) → Buf (Elt Ideal) ℓ) (ρ : Dev nD → PrngReg)

/-- What a point leaves: the output block, the greatest logits, the weighted sums. -/
abbrev St (c : Dev nD) : Type := (S1024x128.Idx → Elt Ideal .f32) × Buf (Elt Ideal) ((c : Thread nD τ).loc cc0_scratch0) × Buf (Elt Ideal) ((c : Thread nD τ).loc cc0_scratch1)

/-- The logits of query `i`, head `h` of its pair, of a block of queries and a block of keys. -/
def dotB (Q K : S1x2x1024x128.Idx → EReal) (h : Fin 2) (i : Fin 1024) : Fin 1024 → EReal :=
  fun j => ∑ d : Fin 128, Q (ix4 0 h i d) * K (ix4 0 h j d)
/-- The values of lane `l`. -/
def valB (V : S1x2x1024x128.Idx → EReal) (h : Fin 2) (l : Fin 128) : Fin 1024 → EReal := fun j => V (ix4 0 h j l)

/-- A query of the diagonal block sees the keys up to its own. -/
def msk (i : Fin 1024) (f : Fin 1024 → EReal) : Fin 1024 → EReal := fun k => if k.val ≤ i.val then f k else ⊥

theorem mk_msk {r : Fin 4} {z : Fin 256} {i : Fin 1024} (h : i.val = r.val * 256 + z.val) (f : Fin 1024 → EReal) : mk r z f = msk i f := by
  funext k; unfold mk msk; rw [h]

theorem isK_of {q k : Vec Ideal S1x1x256x128 .bf16} {Q K : S1x2x1024x128.Idx → EReal} {h : Fin 2} {i : Fin 256 → Fin 1024} {c : Fin 4}
    (hq : ∀ z d, (q (ix4 0 0 z d) : EReal) = Q (ix4 0 h (i z) d))
    (hk : ∀ j d, (k (ix4 0 0 j d) : EReal) = K (ix4 0 h ⟨c.val * 256 + j.val, by omega⟩ d)) : IsK q k (fun z => dotB Q K h (i z)) c :=
  fun z j => Finset.sum_congr rfl fun d _ => congrArg₂ (· * ·) (hq z d) (hk j d)

theorem isV_of {v : Vec Ideal S1x1x256x128 .bf16} {V : S1x2x1024x128.Idx → EReal} {h : Fin 2} {c : Fin 4}
    (hv : ∀ j l, (v (ix4 0 0 j l) : EReal) = V (ix4 0 h ⟨c.val * 256 + j.val, by omega⟩ l)) : IsV v (valB V h) c :=
  hv

theorem at4 (X : S1x2x1024x128.Idx → EReal) {h h' : Fin 2} {i i' : ℕ} {hi : i < 1024} {hi' : i' < 1024} (d : Fin 128) (e : h.val = h'.val) (e' : i = i') :
    X (ix4 0 h ⟨i, hi⟩ d) = X (ix4 0 h' ⟨i', hi'⟩ d) := by subst e'; rw [Fin.ext e]
theorem at4h (X : S1x2x1024x128.Idx → EReal) {h h' : Fin 2} (i : Fin 1024) (d : Fin 128) (e : h.val = h'.val) :
    X (ix4 0 h i d) = X (ix4 0 h' i d) := by rw [Fin.ext e]
theorem at2h (X : Fin 2 → Fin 1024 → EReal) {h h' : Fin 2} (i : Fin 1024) (e : h.val = h'.val) : X h i = X h' i := by rw [Fin.ext e]
theorem at2 (X : Fin 2 → Fin 1024 → EReal) {h h' : Fin 2} {i i' : ℕ} {hi : i < 1024} {hi' : i' < 1024} (e : h.val = h'.val) (e' : i = i') :
    X h ⟨i, hi⟩ = X h' ⟨i', hi'⟩ := by subst e'; rw [Fin.ext e]

/-! ## The full block -/

theorem fullM {q k : Vec Ideal S1x1x1024x128 .bf16} {μ : Vec Ideal S1x1024x128 .f32} {Q K : S1x2x1024x128.Idx → EReal} {h : Fin 2} {M : Fin 1024 → EReal}
    (hq : ∀ z d, (q (ix4 0 0 z d) : EReal) = Q (ix4 0 h z d)) (hk : ∀ z d, (k (ix4 0 0 z d) : EReal) = K (ix4 0 h z d))
    (hM : ∀ z l, (μ (ix3 0 z l) : EReal) = M z) (y : S1024x128.Idx) :
    k0_pay12 q k μ y = stepM (M (y 0)) (dotB Q K h (y 0)) :=
  (fullTop q k μ y).trans (congrArg₂ max (hM _ _) (top_congr fun j => (fullDot q k _).trans (Finset.sum_congr rfl fun d _ => congrArg₂ (· * ·) (hq _ d) (hk _ d))))

theorem fullA {q k v : Vec Ideal S1x1x1024x128 .bf16} {μ α : Vec Ideal S1x1024x128 .f32} {Q K V : S1x2x1024x128.Idx → EReal} {h : Fin 2} {M : Fin 1024 → EReal}
    (hq : ∀ z d, (q (ix4 0 0 z d) : EReal) = Q (ix4 0 h z d)) (hk : ∀ z d, (k (ix4 0 0 z d) : EReal) = K (ix4 0 h z d))
    (hv : ∀ z d, (v (ix4 0 0 z d) : EReal) = V (ix4 0 h z d))
    (hM : ∀ z l, (μ (ix3 0 z l) : EReal) = M z) (y : S1x1024x128.Idx) :
    k0_pay3 (k0_pay10 μ) (k0_pay12 q k μ) (k0_pay14 q k μ) v α y = stepA (M (y 1)) (α y) (dotB Q K h (y 1)) (valB V h (y 2)) := by
  have hm : ∀ z l, k0_pay12 q k μ (ix2 z l) = stepM (M z) (dotB Q K h z) := fun z l => fullM hq hk hM (ix2 z l)
  have hd : ∀ z j, k0_pay8 q k (ix2 z j) = dotB Q K h z j := fun z j => (fullDot q k _).trans (Finset.sum_congr rfl fun d _ => congrArg₂ (· * ·) (hq _ d) (hk _ d))
  refine (fullAcc _ _ _ _ _ _).trans (congrArg₂ (· + ·) (congrArg (fun z => Ideal.exp2 z * α y) (congrArg₂ (· - ·) ?_ (hm _ _))) (Finset.sum_congr rfl fun j _ => congrArg₂ (· * ·) ?_ (hv _ _)))
  · refine Eq.trans ?_ (hM (y 1) (y 2))
    pointwise [k0_pay10]
    refine congrArg μ (funext fun a => ?_)
    match a with
    | ⟨0, _⟩ => exact Subsingleton.elim (α := Fin 1) _ _
    | ⟨1, _⟩ => rfl
    | ⟨2, _⟩ => rfl
  · exact (fullExp q k μ (fun z => stepM (M z) (dotB Q K h z)) hm _).trans (congrArg (fun z => Ideal.exp2 (z - stepM (M (y 1)) (dotB Q K h (y 1)))) (hd (y 1) j))

theorem fullS (x : FVec Ideal S1024x128 .f32) (y : S1x1024x128.Idx) : k0_pay4 x y = x (ix2 (y 1) (y 2)) := by
  pointwise [k0_pay4]

variable (c : Dev nD) (t : Fin (cfgA Ideal).N) (prev : St c)
  (M : Fin 2 → Fin 1024 → EReal)

/-- The greatest logits that a point leaves. -/
abbrev outM (s : St c) : S2x1024x128.Idx → EReal :=
  (View.whole cc0_scratch0).read (Elt Ideal) s.2.1
/-- The weighted sums that a point leaves. -/
abbrev outA (s : St c) : S2x1024x128.Idx → EReal :=
  (View.whole cc0_scratch1).read (Elt Ideal) s.2.2

/-- The block of queries, of keys and of values of a point. -/
abbrev qB : S1x2x1024x128.Idx → EReal := iblk Ideal m ρ c (0 : Fin 4) t
abbrev kB : S1x2x1024x128.Idx → EReal := iblk Ideal m ρ c (1 : Fin 4) t
abbrev vB : S1x2x1024x128.Idx → EReal := iblk Ideal m ρ c (2 : Fin 4) t

theorem tCm (q0 : ¬P0_0 Ideal t) (q1 : ¬P0_1 Ideal t) (hM : ∀ h y l, outM c prev (ix3 h y l) = M h y) (y : S2x1024x128.Idx) :
    outM c (step0 Ideal m ρ c t prev) y = stepM (M (y 0) (y 1)) (msk (y 1) (dotB (qB m ρ c t) (kB m ρ c t) (y 0) (y 1))) := by
  unfold outM at hM ⊢
  rw [step0_C Ideal m ρ c t prev q0 q1]
  dsimp only
  frame_out
  clear q0 q1
  unfold qB kB
  simp only [View.read_rep]
  generalize iblk Ideal m ρ c (0 : Fin 4) t = Q
  generalize iblk Ideal m ρ c (1 : Fin 4) t = K
  generalize hw : stepM (M (y 0) (y 1)) (msk (y 1) (dotB Q K (y 0) (y 1))) = w
  canon_tiles x h
  all_goals
    try simp only [p21, p23, p24, p25, p29, p31, p35, p36, p18, p22, p26, p30, p34, p39, p41, p42, p43, p44, p45, p46, p47, p52, p53, p57, p58, p59, p60, p61, p62, p63, p64, p65, p66, p67, p68, p69, p70, p71, p72, p73, p74, p75, p78, p82, p86, p87, p92, p97, p99, p101, p103, p93, p96, p98, p100, p102, p104, p108, p110, p20, p33, p38, p28, p54, p55, p77, p80, p81, p84, p85, p89, p95, p107]
    subst hw
    have ey : ∀ r : Fin 4, (y 1).val = r.val * 256 + (x 1).val →
        stepM (M (y 0) ⟨(y 1).val - (x 1).val + (x 1).val, by omega⟩) (mk r (x 1) (dotB Q K (y 0) ⟨(y 1).val - (x 1).val + (x 1).val, by omega⟩))
          = stepM (M (y 0) (y 1)) (msk (y 1) (dotB Q K (y 0) (y 1))) := fun r hr => by
      have e : (⟨(y 1).val - (x 1).val + (x 1).val, by omega⟩ : Fin 1024) = y 1 := Fin.ext (by show (y 1).val - (x 1).val + (x 1).val = (y 1).val; omega)
      rw [e, mk_msk (i := y 1) hr]
  case' piece0 | piece4 =>
    refine (dm3 (M := fun z => M (y 0) ⟨(y 1).val - (x 1).val + z.val, by omega⟩) (f := fun z => dotB Q K (y 0) ⟨(y 1).val - (x 1).val + z.val, by omega⟩) ?_ (isK_of ?_ ?_) (isK_of ?_ ?_) (isK_of ?_ ?_) (isK_of ?_ ?_) x).trans (ey 3 (by show (y 1).val = 3 * 256 + (x 1).val; omega))
  case' piece1 | piece5 =>
    refine (dm2 (M := fun z => M (y 0) ⟨(y 1).val - (x 1).val + z.val, by omega⟩) (f := fun z => dotB Q K (y 0) ⟨(y 1).val - (x 1).val + z.val, by omega⟩) ?_ (isK_of ?_ ?_) (isK_of ?_ ?_) (isK_of ?_ ?_) x).trans (ey 2 (by show (y 1).val = 2 * 256 + (x 1).val; omega))
  case' piece2 | piece6 =>
    refine (dm1 (M := fun z => M (y 0) ⟨(y 1).val - (x 1).val + z.val, by omega⟩) (f := fun z => dotB Q K (y 0) ⟨(y 1).val - (x 1).val + z.val, by omega⟩) ?_ (isK_of ?_ ?_) (isK_of ?_ ?_) x).trans (ey 1 (by show (y 1).val = 1 * 256 + (x 1).val; omega))
  case' piece3 | piece7 =>
    refine (dm0 (M := fun z => M (y 0) ⟨(y 1).val - (x 1).val + z.val, by omega⟩) (f := fun z => dotB Q K (y 0) ⟨(y 1).val - (x 1).val + z.val, by omega⟩) ?_ (isK_of ?_ ?_) x).trans (ey 0 (by show (y 1).val = 0 * 256 + (x 1).val; omega))
  all_goals
    intro z d
    pointwise [hM]
    first
    | exact at2 M (by omega) (by omega)
    | exact at4 K d (by omega) (by omega)
    | exact at4 Q d (by omega) (by omega)

theorem tCa (q0 : ¬P0_0 Ideal t) (q1 : ¬P0_1 Ideal t) (hM : ∀ h y l, outM c prev (ix3 h y l) = M h y) (y : S2x1024x128.Idx) :
    outA c (step0 Ideal m ρ c t prev) y
      = stepA (M (y 0) (y 1)) (outA c prev y) (msk (y 1) (dotB (qB m ρ c t) (kB m ρ c t) (y 0) (y 1))) (valB (vB m ρ c t) (y 0) (y 2)) := by
  unfold outM at hM
  unfold outA
  rw [step0_C Ideal m ρ c t prev q0 q1]
  dsimp only
  frame_out
  clear q0 q1
  unfold qB kB vB
  simp only [View.read_rep]
  generalize iblk Ideal m ρ c (0 : Fin 4) t = Q
  generalize iblk Ideal m ρ c (1 : Fin 4) t = K
  generalize iblk Ideal m ρ c (2 : Fin 4) t = V
  generalize (View.whole cc0_scratch1).read (Elt Ideal) prev.2.2 = A
  generalize hw : stepA (M (y 0) (y 1)) (A y) (msk (y 1) (dotB Q K (y 0) (y 1))) (valB V (y 0) (y 2)) = w
  canon_tiles x h
  all_goals
    try simp only [p21, p23, p24, p25, p29, p31, p35, p36, p18, p22, p26, p30, p34, p39, p41, p42, p43, p44, p45, p46, p47, p52, p53, p57, p58, p59, p60, p61, p62, p63, p64, p65, p66, p67, p68, p69, p70, p71, p72, p73, p74, p75, p78, p82, p86, p87, p92, p97, p99, p101, p103, p93, p96, p98, p100, p102, p104, p108, p110, p20, p33, p38, p28, p54, p55, p77, p80, p81, p84, p85, p89, p95, p107]
    subst hw
    have ey : ∀ (r : Fin 4) (α : EReal), (y 1).val = r.val * 256 + (x 1).val → α = A y →
        stepA (M (y 0) ⟨(y 1).val - (x 1).val + (x 1).val, by omega⟩) α (mk r (x 1) (dotB Q K (y 0) ⟨(y 1).val - (x 1).val + (x 1).val, by omega⟩)) (valB V (y 0) (x 2))
          = stepA (M (y 0) (y 1)) (A y) (msk (y 1) (dotB Q K (y 0) (y 1))) (valB V (y 0) (y 2)) := fun r α hr hα => by
      have e : (⟨(y 1).val - (x 1).val + (x 1).val, by omega⟩ : Fin 1024) = y 1 := Fin.ext (by show (y 1).val - (x 1).val + (x 1).val = (y 1).val; omega)
      have e2 : y 2 = x 2 := Fin.ext h2
      rw [e, mk_msk (i := y 1) hr, hα, e2]
  case' piece0 | piece4 =>
    refine (da3 _ (M := fun z => M (y 0) ⟨(y 1).val - (x 1).val + z.val, by omega⟩) (f := fun z => dotB Q K (y 0) ⟨(y 1).val - (x 1).val + z.val, by omega⟩) (V := valB V (y 0)) ?_ (isK_of ?_ ?_) (isK_of ?_ ?_) (isK_of ?_ ?_) (isK_of ?_ ?_) (isV_of ?_) (isV_of ?_) (isV_of ?_) (isV_of ?_) x).trans (ey 3 _ (by show (y 1).val = 3 * 256 + (x 1).val; omega) (View.ld_unit_apply_of _ _ _ _ _ y ?_))
  case' piece1 | piece5 =>
    refine (da2 _ (M := fun z => M (y 0) ⟨(y 1).val - (x 1).val + z.val, by omega⟩) (f := fun z => dotB Q K (y 0) ⟨(y 1).val - (x 1).val + z.val, by omega⟩) (V := valB V (y 0)) ?_ (isK_of ?_ ?_) (isK_of ?_ ?_) (isK_of ?_ ?_) (isV_of ?_) (isV_of ?_) (isV_of ?_) x).trans (ey 2 _ (by show (y 1).val = 2 * 256 + (x 1).val; omega) (View.ld_unit_apply_of _ _ _ _ _ y ?_))
  case' piece2 | piece6 =>
    refine (da1 _ (M := fun z => M (y 0) ⟨(y 1).val - (x 1).val + z.val, by omega⟩) (f := fun z => dotB Q K (y 0) ⟨(y 1).val - (x 1).val + z.val, by omega⟩) (V := valB V (y 0)) ?_ (isK_of ?_ ?_) (isK_of ?_ ?_) (isV_of ?_) (isV_of ?_) x).trans (ey 1 _ (by show (y 1).val = 1 * 256 + (x 1).val; omega) (View.ld_unit_apply_of _ _ _ _ _ y ?_))
  case' piece3 | piece7 =>
    refine (da0 _ (M := fun z => M (y 0) ⟨(y 1).val - (x 1).val + z.val, by omega⟩) (f := fun z => dotB Q K (y 0) ⟨(y 1).val - (x 1).val + z.val, by omega⟩) (V := valB V (y 0)) ?_ (isK_of ?_ ?_) (isV_of ?_) x).trans (ey 0 _ (by show (y 1).val = 0 * 256 + (x 1).val; omega) (View.ld_unit_apply_of _ _ _ _ _ y ?_))
  all_goals first
    | intro z d
      pointwise [hM]
      first
      | exact at2 M (by omega) (by omega)
      | exact at4 K d (by omega) (by omega)
      | exact at4 Q d (by omega) (by omega)
      | exact at4 V d (by omega) (by omega)
    | intro a
      match a with
      | ⟨0, _⟩ => first | exact h0 | exact h0.trans (Nat.zero_add _).symm
      | ⟨1, _⟩ => first | exact h1 | exact h1.trans (Nat.zero_add _).symm
      | ⟨2, _⟩ => first | exact h2 | exact h2.trans (Nat.zero_add _).symm

theorem tDm (q0 : ¬P0_0 Ideal t) (q1 : P0_1 Ideal t) (hM : ∀ h y l, outM c prev (ix3 h y l) = M h y) (y : S2x1024x128.Idx) :
    outM c (step0 Ideal m ρ c t prev) y = stepM (M (y 0) (y 1)) (dotB (qB m ρ c t) (kB m ρ c t) (y 0) (y 1)) := by
  unfold outM at hM ⊢
  rw [step0_D Ideal m ρ c t prev q0 q1]
  dsimp only
  frame_out
  clear q0 q1
  unfold qB kB
  simp only [View.read_rep]
  generalize iblk Ideal m ρ c (0 : Fin 4) t = Q
  generalize iblk Ideal m ρ c (1 : Fin 4) t = K
  generalize hw : stepM (M (y 0) (y 1)) (dotB Q K (y 0) (y 1)) = w
  canon_tiles x h
  all_goals
    try simp only [p5, p6, p9, p11, p13, p15]
    subst hw
    have e : y 1 = x 1 := Fin.ext h1
    rw [e]
    refine (fullS _ _).trans (fullM (M := M (y 0)) (Q := Q) (K := K) (h := y 0) ?_ ?_ ?_ _)
  all_goals
    intro z d
    pointwise [hM]
    first
    | exact at4h Q z d (by omega)
    | exact at4h K z d (by omega)
    | exact at2h M z (by omega)

theorem tDa (q0 : ¬P0_0 Ideal t) (q1 : P0_1 Ideal t) (hM : ∀ h y l, outM c prev (ix3 h y l) = M h y) (y : S2x1024x128.Idx) :
    outA c (step0 Ideal m ρ c t prev) y
      = stepA (M (y 0) (y 1)) (outA c prev y) (dotB (qB m ρ c t) (kB m ρ c t) (y 0) (y 1)) (valB (vB m ρ c t) (y 0) (y 2)) := by
  unfold outM at hM
  unfold outA
  rw [step0_D Ideal m ρ c t prev q0 q1]
  dsimp only
  frame_out
  clear q0 q1
  unfold qB kB vB
  simp only [View.read_rep]
  generalize iblk Ideal m ρ c (0 : Fin 4) t = Q
  generalize iblk Ideal m ρ c (1 : Fin 4) t = K
  generalize iblk Ideal m ρ c (2 : Fin 4) t = V
  generalize (View.whole cc0_scratch1).read (Elt Ideal) prev.2.2 = A
  generalize hw : stepA (M (y 0) (y 1)) (A y) (dotB Q K (y 0) (y 1)) (valB V (y 0) (y 2)) = w
  canon_tiles x h
  all_goals
    try simp only [p5, p6, p9, p11, p13, p15]
    subst hw
    have e : y 1 = x 1 := Fin.ext h1
    have e2 : y 2 = x 2 := Fin.ext h2
    refine (fullA (M := M (y 0)) (Q := Q) (K := K) (V := V) (h := y 0) ?_ ?_ ?_ ?_ _).trans ?_
  case' piece0.refine_5 | piece1.refine_5 =>
    rw [e, e2]
    refine congrArg (fun z => stepA (M (y 0) (x 1)) z (dotB Q K (y 0) (x 1)) (valB V (y 0) (x 2))) (View.ld_unit_apply_of _ _ _ _ _ y ?_)
  all_goals first
    | intro z d
      pointwise [hM]
      first
      | exact at4h Q z d (by omega)
      | exact at4h K z d (by omega)
      | exact at4h V z d (by omega)
      | exact at2h M z (by omega)
    | intro a
      match a with
      | ⟨0, _⟩ => first | exact h0 | exact h0.trans (Nat.zero_add _).symm
      | ⟨1, _⟩ => first | exact h1 | exact h1.trans (Nat.zero_add _).symm
      | ⟨2, _⟩ => first | exact h2 | exact h2.trans (Nat.zero_add _).symm

theorem h000 : ∀ a, (![0, 0, 0] : Fin 3 → ℕ) a = 0 := fun a => by fin_cases a <;> rfl

theorem fills1 (inb) : View.canon (Val := Elt Ideal) (s := S2x1024x128) (e := .f32)
    [(⟨Rect.unit (s := S2x1024x128) ![0, 0, 0] ![2, 1024, 128] inb, (k0_pay1 (F := Ideal) : S2x1024x128.Idx → Elt Ideal .f32)⟩ : View.Piece (Elt Ideal) S2x1024x128 .f32)] = fun _ => ⊥ :=
  (View.canon_cons_unit_lit' inb _ _ h000).trans (funext fill1)

theorem fills2 (inb) : View.canon (Val := Elt Ideal) (s := S2x1024x128) (e := .f32)
    [(⟨Rect.unit (s := S2x1024x128) ![0, 0, 0] ![2, 1024, 128] inb, (k0_pay2 (F := Ideal) : S2x1024x128.Idx → Elt Ideal .f32)⟩ : View.Piece (Elt Ideal) S2x1024x128 .f32)] = fun _ => 0 :=
  (View.canon_cons_unit_lit' inb _ _ h000).trans (funext fill2)

/-- The last piece of a canon does not matter where an earlier one lies. -/
theorem canon_init {S : Shape} {e : EltTy} : ∀ (L : List (View.Piece (Elt Ideal) S e)) (y : S.Idx) (v : Elt Ideal e)
    (h1 : ∃ p ∈ L.dropLast, y ∈ p.1.set) (h2 : View.canon L.dropLast y = v), View.canon L y = v
  | [], y, v, h1, h2 => h2
  | [p], y, v, h1, h2 => by obtain ⟨_, hm, _⟩ := h1; exact absurd hm List.not_mem_nil
  | p :: q :: L, y, v, h1, h2 => by
    rw [List.dropLast_cons₂] at h1 h2
    by_cases hy : y ∈ p.1.set
    · obtain ⟨x, hx⟩ := p.1.exists_idx_of_mem hy
      have hx' : p.1.emb x = y := hx
      rw [← hx'] at h2 ⊢
      exact (View.canon_cons_emb p.1 p.2 _ x).trans ((View.canon_cons_emb p.1 p.2 _ x).symm.trans h2)
    · rw [View.canon_cons_of_not_mem p _ hy] at h2 ⊢
      refine canon_init (q :: L) y v ?_ h2
      obtain ⟨p', hm, hy'⟩ := h1
      rcases List.mem_cons.mp hm with rfl | hm'
      · exact absurd hy' hy
      · exact ⟨p', hm', hy'⟩

theorem tAm (q0 : P0_0 Ideal t) (q1 : ¬P0_1 Ideal t) (y : S2x1024x128.Idx) :
    outM c (step0 Ideal m ρ c t prev) y = stepM ⊥ (msk (y 1) (dotB (qB m ρ c t) (kB m ρ c t) (y 0) (y 1))) := by
  unfold outM
  rw [step0_A Ideal m ρ c t prev q0 q1]
  dsimp only
  frame_out
  clear q0 q1
  unfold qB kB
  simp (decide := true) only [View.read_rep, ↓View.readCov_skip, View.readCov_eq_canon', fills1, fills2]
  generalize iblk Ideal m ρ c (0 : Fin 4) t = Q
  generalize iblk Ideal m ρ c (1 : Fin 4) t = K
  generalize hw : stepM ⊥ (msk (y 1) (dotB Q K (y 0) (y 1))) = w
  refine canon_init _ _ _ ?_ ?_
  · exact View.cover_of_tiled _ ![1, 256, 128] (by rfl) y
  dsimp only [List.dropLast]
  canon_tiles x h
  all_goals
    try simp only [p21, p23, p24, p25, p29, p31, p35, p36, p18, p22, p26, p30, p34, p39, p41, p42, p43, p44, p45, p46, p47, p52, p53, p57, p58, p59, p60, p61, p62, p63, p64, p65, p66, p67, p68, p69, p70, p71, p72, p73, p74, p75, p78, p82, p86, p87, p92, p97, p99, p101, p103, p93, p96, p98, p100, p102, p104, p108, p110, p20, p33, p38, p28, p54, p55, p77, p80, p81, p84, p85, p89, p95, p107]
    subst hw
    have ey : ∀ r : Fin 4, (y 1).val = r.val * 256 + (x 1).val →
        stepM ⊥ (mk r (x 1) (dotB Q K (y 0) ⟨(y 1).val - (x 1).val + (x 1).val, by omega⟩))
          = stepM ⊥ (msk (y 1) (dotB Q K (y 0) (y 1))) := fun r hr => by
      have e : (⟨(y 1).val - (x 1).val + (x 1).val, by omega⟩ : Fin 1024) = y 1 := Fin.ext (by show (y 1).val - (x 1).val + (x 1).val = (y 1).val; omega)
      rw [e, mk_msk (i := y 1) hr]
  case' piece0 | piece4 =>
    refine (dm3 (M := fun z => ⊥) (f := fun z => dotB Q K (y 0) ⟨(y 1).val - (x 1).val + z.val, by omega⟩) (fun z l => rfl) (isK_of ?_ ?_) (isK_of ?_ ?_) (isK_of ?_ ?_) (isK_of ?_ ?_) x).trans (ey 3 (by show (y 1).val = 3 * 256 + (x 1).val; omega))
  case' piece1 | piece5 =>
    refine (dm2 (M := fun z => ⊥) (f := fun z => dotB Q K (y 0) ⟨(y 1).val - (x 1).val + z.val, by omega⟩) (fun z l => rfl) (isK_of ?_ ?_) (isK_of ?_ ?_) (isK_of ?_ ?_) x).trans (ey 2 (by show (y 1).val = 2 * 256 + (x 1).val; omega))
  case' piece2 | piece6 =>
    refine (dm1 (M := fun z => ⊥) (f := fun z => dotB Q K (y 0) ⟨(y 1).val - (x 1).val + z.val, by omega⟩) (fun z l => rfl) (isK_of ?_ ?_) (isK_of ?_ ?_) x).trans (ey 1 (by show (y 1).val = 1 * 256 + (x 1).val; omega))
  case' piece3 | piece7 =>
    refine (dm0 (M := fun z => ⊥) (f := fun z => dotB Q K (y 0) ⟨(y 1).val - (x 1).val + z.val, by omega⟩) (fun z l => rfl) (isK_of ?_ ?_) x).trans (ey 0 (by show (y 1).val = 0 * 256 + (x 1).val; omega))
  all_goals
    intro z d
    pointwise []
    first
    | exact at4 K d (by omega) (by omega)
    | exact at4 Q d (by omega) (by omega)

theorem tAa (q0 : P0_0 Ideal t) (q1 : ¬P0_1 Ideal t) (y : S2x1024x128.Idx) :
    outA c (step0 Ideal m ρ c t prev) y
      = stepA ⊥ 0 (msk (y 1) (dotB (qB m ρ c t) (kB m ρ c t) (y 0) (y 1))) (valB (vB m ρ c t) (y 0) (y 2)) := by
  unfold outA
  rw [step0_A Ideal m ρ c t prev q0 q1]
  dsimp only
  frame_out
  clear q0 q1
  unfold qB kB vB
  simp (decide := true) only [View.read_rep, ↓View.readCov_skip, View.readCov_eq_canon', fills1, fills2]
  generalize iblk Ideal m ρ c (0 : Fin 4) t = Q
  generalize iblk Ideal m ρ c (1 : Fin 4) t = K
  generalize iblk Ideal m ρ c (2 : Fin 4) t = V
  generalize hw : stepA ⊥ 0 (msk (y 1) (dotB Q K (y 0) (y 1))) (valB V (y 0) (y 2)) = w
  refine canon_init _ _ _ ?_ ?_
  · exact View.cover_of_tiled _ ![1, 256, 128] (by rfl) y
  dsimp only [List.dropLast]
  canon_tiles x h
  all_goals
    try simp only [p21, p23, p24, p25, p29, p31, p35, p36, p18, p22, p26, p30, p34, p39, p41, p42, p43, p44, p45, p46, p47, p52, p53, p57, p58, p59, p60, p61, p62, p63, p64, p65, p66, p67, p68, p69, p70, p71, p72, p73, p74, p75, p78, p82, p86, p87, p92, p97, p99, p101, p103, p93, p96, p98, p100, p102, p104, p108, p110, p20, p33, p38, p28, p54, p55, p77, p80, p81, p84, p85, p89, p95, p107]
    subst hw
    have ey : ∀ (r : Fin 4) (α : EReal), (y 1).val = r.val * 256 + (x 1).val → α = 0 →
        stepA ⊥ α (mk r (x 1) (dotB Q K (y 0) ⟨(y 1).val - (x 1).val + (x 1).val, by omega⟩)) (valB V (y 0) (x 2))
          = stepA ⊥ 0 (msk (y 1) (dotB Q K (y 0) (y 1))) (valB V (y 0) (y 2)) := fun r α hr hα => by
      have e : (⟨(y 1).val - (x 1).val + (x 1).val, by omega⟩ : Fin 1024) = y 1 := Fin.ext (by show (y 1).val - (x 1).val + (x 1).val = (y 1).val; omega)
      have e2 : y 2 = x 2 := Fin.ext h2
      rw [e, mk_msk (i := y 1) hr, hα, e2]
  case' piece0 | piece4 =>
    refine (da3 _ (M := fun z => ⊥) (f := fun z => dotB Q K (y 0) ⟨(y 1).val - (x 1).val + z.val, by omega⟩) (V := valB V (y 0)) (fun z l => rfl) (isK_of ?_ ?_) (isK_of ?_ ?_) (isK_of ?_ ?_) (isK_of ?_ ?_) (isV_of ?_) (isV_of ?_) (isV_of ?_) (isV_of ?_) x).trans (ey 3 _ (by show (y 1).val = 3 * 256 + (x 1).val; omega) rfl)
  case' piece1 | piece5 =>
    refine (da2 _ (M := fun z => ⊥) (f := fun z => dotB Q K (y 0) ⟨(y 1).val - (x 1).val + z.val, by omega⟩) (V := valB V (y 0)) (fun z l => rfl) (isK_of ?_ ?_) (isK_of ?_ ?_) (isK_of ?_ ?_) (isV_of ?_) (isV_of ?_) (isV_of ?_) x).trans (ey 2 _ (by show (y 1).val = 2 * 256 + (x 1).val; omega) rfl)
  case' piece2 | piece6 =>
    refine (da1 _ (M := fun z => ⊥) (f := fun z => dotB Q K (y 0) ⟨(y 1).val - (x 1).val + z.val, by omega⟩) (V := valB V (y 0)) (fun z l => rfl) (isK_of ?_ ?_) (isK_of ?_ ?_) (isV_of ?_) (isV_of ?_) x).trans (ey 1 _ (by show (y 1).val = 1 * 256 + (x 1).val; omega) rfl)
  case' piece3 | piece7 =>
    refine (da0 _ (M := fun z => ⊥) (f := fun z => dotB Q K (y 0) ⟨(y 1).val - (x 1).val + z.val, by omega⟩) (V := valB V (y 0)) (fun z l => rfl) (isK_of ?_ ?_) (isV_of ?_) x).trans (ey 0 _ (by show (y 1).val = 0 * 256 + (x 1).val; omega) rfl)
  all_goals
    intro z d
    pointwise []
    first
    | exact at4 K d (by omega) (by omega)
    | exact at4 Q d (by omega) (by omega)
    | exact at4 V d (by omega) (by omega)

theorem tBm (q0 : P0_0 Ideal t) (q1 : P0_1 Ideal t) (y : S2x1024x128.Idx) :
    outM c (step0 Ideal m ρ c t prev) y = stepM ⊥ (dotB (qB m ρ c t) (kB m ρ c t) (y 0) (y 1)) := by
  unfold outM
  rw [step0_B Ideal m ρ c t prev q0 q1]
  dsimp only
  frame_out
  clear q0 q1
  unfold qB kB
  simp (decide := true) only [View.read_rep, ↓View.readCov_skip, View.readCov_eq_canon', fills1, fills2]
  generalize iblk Ideal m ρ c (0 : Fin 4) t = Q
  generalize iblk Ideal m ρ c (1 : Fin 4) t = K
  generalize hw : stepM ⊥ (dotB Q K (y 0) (y 1)) = w
  refine canon_init _ _ _ ?_ ?_
  · exact View.cover_of_tiled _ ![1, 1024, 128] (by rfl) y
  dsimp only [List.dropLast]
  canon_tiles x h
  all_goals
    try simp only [p5, p6, p9, p11, p13, p15]
    subst hw
    have e : y 1 = x 1 := Fin.ext h1
    rw [e]
    refine (fullS _ _).trans (fullM (M := fun _ => ⊥) (Q := Q) (K := K) (h := y 0) ?_ ?_ (fun z l => rfl) _)
  all_goals
    intro z d
    pointwise []
    first
    | exact at4h Q z d (by omega)
    | exact at4h K z d (by omega)

theorem tBa (q0 : P0_0 Ideal t) (q1 : P0_1 Ideal t) (y : S2x1024x128.Idx) :
    outA c (step0 Ideal m ρ c t prev) y
      = stepA ⊥ 0 (dotB (qB m ρ c t) (kB m ρ c t) (y 0) (y 1)) (valB (vB m ρ c t) (y 0) (y 2)) := by
  unfold outA
  rw [step0_B Ideal m ρ c t prev q0 q1]
  dsimp only
  frame_out
  clear q0 q1
  unfold qB kB vB
  simp (decide := true) only [View.read_rep, ↓View.readCov_skip, View.readCov_eq_canon', fills1, fills2]
  generalize iblk Ideal m ρ c (0 : Fin 4) t = Q
  generalize iblk Ideal m ρ c (1 : Fin 4) t = K
  generalize iblk Ideal m ρ c (2 : Fin 4) t = V
  generalize hw : stepA ⊥ 0 (dotB Q K (y 0) (y 1)) (valB V (y 0) (y 2)) = w
  refine canon_init _ _ _ ?_ ?_
  · exact View.cover_of_tiled _ ![1, 1024, 128] (by rfl) y
  dsimp only [List.dropLast]
  canon_tiles x h
  all_goals
    try simp only [p5, p6, p9, p11, p13, p15]
    subst hw
    have e : y 1 = x 1 := Fin.ext h1
    have e2 : y 2 = x 2 := Fin.ext h2
    refine (fullA (M := fun _ => ⊥) (Q := Q) (K := K) (V := V) (h := y 0) ?_ ?_ ?_ (fun z l => rfl) _).trans ?_
  case' piece0.refine_4 | piece1.refine_4 =>
    rw [e, e2]
  all_goals
    intro z d
    pointwise []
    first
    | exact at4h Q z d (by omega)
    | exact at4h K z d (by omega)
    | exact at4h V z d (by omega)

end Cert.Flash
-- ==== Proof.FlashOut.lean ====
/- The attention kernel, what its last block of keys writes out: the weighted sums over the sum of the weights. -/
module

public import proofs.«01_k».proof.Proof.Gen.KernelIdeal.Skeleton
public import proofs.«01_k».proof.Proof.AttnIFrame
public import proofs.«01_k».proof.Proof.FlashDiag
public import proofs.«01_k».proof.Proof.FlashRows
public import proofs.«01_k».proof.Proof.FlashPoint
public import Idealize.ShloMosaic.Lib.Pipeline.ValueKit

@[expose] public section

set_option maxRecDepth 16384

noncomputable section

namespace Cert.Flash

open Cert.KernelIdeal Cert.KernelIdeal.Gen Cert.KernelIdeal.Attn Idealize.ShloMosaic Idealize.ShloMosaic.TcCoe Idealize.SL.Sem

variable (m : (ℓ : Loc nD τ sig) → Buf (Elt Ideal) ℓ) (ρ : Dev nD → PrngReg) (c : Dev nD) (t : Fin (cfgA Ideal).N) (prev : St c)

/-- What is written out, from the weighted sums `X`. -/
def outOf (X : S2x1024x128.Idx → EReal) (y : S1024x128.Idx) : EReal :=
  if (y 1).val < 64 then Ideal.div (X (ix3 0 (y 0) (y 1))) (X (ix3 0 (y 0) 64))
  else Ideal.div (X (ix3 1 (y 0) ⟨((y 1).val + 128 - 64) % 128, Nat.mod_lt _ (by norm_num)⟩)) (X (ix3 1 (y 0) 64))

theorem outEq {X : S2x1024x128.Idx → EReal} {a b : Vec Ideal S1x1024x128 .f32} (ha : ∀ z l, (a (ix3 0 z l) : EReal) = X (ix3 0 z l))
    (hb : ∀ z l, (b (ix3 0 z l) : EReal) = X (ix3 1 z l)) (y : S1024x128.Idx) :
    k0_pay7 (k0_pay109 a a) (k0_pay110 b b) k0_pay111 y = outOf X y :=
  (outSel _ _ y).trans (if_congr Iff.rfl
    ((outDiv _ _ _).trans (congrArg₂ Ideal.div (ha _ _) (ha _ _)))
    ((congrFun (p110 _ _) _).trans ((outDiv _ _ _).trans (congrArg₂ Ideal.div (hb _ _) (hb _ _)))))

theorem tAo (q0 : P0_0 Ideal t) (q1 : ¬P0_1 Ideal t) (y : S1024x128.Idx) :
    (step0 Ideal m ρ c t prev).1 y = outOf (outA c (step0 Ideal m ρ c t prev)) y := by
  unfold outA
  rw [step0_A Ideal m ρ c t prev q0 q1]
  dsimp only
  frame_out
  clear q0 q1
  simp (decide := true) only [View.read_rep, View.readCov_eq_canon']
  generalize View.canon (Val := Elt Ideal) (s := S2x1024x128) (e := .f32) _ = X
  refine outEq (X := X) (fun z l => congrArg X (funext fun a => Fin.ext ?_)) (fun z l => congrArg X (funext fun a => Fin.ext ?_)) y
  all_goals
    refine (Rect.idx_unit_val _ _ _ _ a).trans ?_
    match a with
    | ⟨0, _⟩ => rfl
    | ⟨1, _⟩ => exact Nat.zero_add _
    | ⟨2, _⟩ => exact Nat.zero_add _

theorem tCo (q0 : ¬P0_0 Ideal t) (q1 : ¬P0_1 Ideal t) (y : S1024x128.Idx) :
    (step0 Ideal m ρ c t prev).1 y = outOf (outA c (step0 Ideal m ρ c t prev)) y := by
  unfold outA
  rw [step0_C Ideal m ρ c t prev q0 q1]
  dsimp only
  frame_out
  clear q0 q1
  simp (decide := true) only [View.read_rep, View.readCov_eq_canon']
  generalize View.canon (Val := Elt Ideal) (s := S2x1024x128) (e := .f32) _ = X
  refine outEq (X := X) (fun z l => congrArg X (funext fun a => Fin.ext ?_)) (fun z l => congrArg X (funext fun a => Fin.ext ?_)) y
  all_goals
    refine (Rect.idx_unit_val _ _ _ _ a).trans ?_
    match a with
    | ⟨0, _⟩ => rfl
    | ⟨1, _⟩ => exact Nat.zero_add _
    | ⟨2, _⟩ => exact Nat.zero_add _

end Cert.Flash
-- ==== Proof.FlashFold.lean ====
/- The attention kernel, the whole grid: which queries and keys each point takes, what the scratches hold after it, and the result. -/
module

public import proofs.«01_k».proof.Proof.Gen.KernelIdeal.Skeleton
public import proofs.«01_k».proof.Proof.AttnIFrame
public import proofs.«01_k».proof.Proof.FlashDiag
public import proofs.«01_k».proof.Proof.FlashRows
public import proofs.«01_k».proof.Proof.FlashOut
public import Idealize.ShloMosaic.Lib.Pipeline.ValueKit

@[expose] public section

set_option maxRecDepth 16384

noncomputable section

namespace Cert.Flash

open Cert.KernelIdeal Cert.KernelIdeal.Gen Cert.KernelIdeal.Attn Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The query block of point `n`. -/
def qi (n : ℕ) : ℕ := [0, 1, 1, 2, 2, 2, 3, 3, 3, 3, 4, 4, 4, 4, 4, 5, 5, 5, 5, 5, 5, 6, 6, 6, 6, 6, 6, 6, 7, 7, 7, 7, 7, 7, 7, 7].getD (n % 36) 0
/-- The key block of point `n`. -/
def kj (n : ℕ) : ℕ := [0, 0, 1, 0, 1, 2, 0, 1, 2, 3, 0, 1, 2, 3, 4, 0, 1, 2, 3, 4, 5, 0, 1, 2, 3, 4, 5, 6, 0, 1, 2, 3, 4, 5, 6, 7].getD (n % 36) 0

theorem N288 : (cfgA Ideal).N = 288 := by decide +kernel

theorem tabs : ∀ n : Fin 288, kj n.val ≤ qi n.val ∧ qi n.val < 8
    ∧ (kj n.val ≠ 0 → n.val ≠ 0 ∧ qi (n.val - 1) = qi n.val ∧ kj (n.val - 1) + 1 = kj n.val ∧ (n.val - 1) / 36 = n.val / 36) := by decide +kernel

theorem ways : ∀ t : Fin (cfgA Ideal).N, (P0_0 Ideal t ↔ kj t.val = 0) ∧ (P0_1 Ideal t ↔ kj t.val < qi t.val) := of_decide_eq_true (by sl_kernel_rfl)

theorem idxs : ∀ t : Fin (cfgA Ideal).N, ((cfgA Ideal).win (0 : Fin 4)).index t = ![t.val / 144, t.val / 36 % 4, qi t.val, 0]
    ∧ ((cfgA Ideal).win (1 : Fin 4)).index t = ![t.val / 144, t.val / 36 % 4, kj t.val, 0]
    ∧ ((cfgA Ideal).win (2 : Fin 4)).index t = ![t.val / 144, t.val / 36 % 4, kj t.val, 0]
    ∧ ((cfgA Ideal).win (3 : Fin 4)).index t = ![t.val / 144 * 8 + qi t.val, t.val / 36 % 4] := of_decide_eq_true (by sl_kernel_rfl)

/-- The three arguments. -/
def qA : S2x8x8192x128.Idx → EReal := m ((c : Thread nD τ).loc main_arg0)
def kA : S2x8x8192x128.Idx → EReal := m ((c : Thread nD τ).loc main_arg1)
def vA : S2x8x8192x128.Idx → EReal := m ((c : Thread nD τ).loc main_arg2)

/-- The batch, the head and the row that an entry of point `n`'s blocks belongs to. -/
def bT (n : ℕ) : Fin 2 := ⟨n / 144 % 2, Nat.mod_lt _ (by norm_num)⟩
def hT (n : ℕ) (h : Fin 2) : Fin 8 := ⟨n / 36 % 4 * 2 + h.val, by omega⟩
def iT (n : ℕ) (y : Fin 1024) : Fin 8192 := ⟨(qi n * 1024 + y.val) % 8192, Nat.mod_lt _ (by norm_num)⟩
def jT (n : ℕ) (k : Fin 1024) : Fin 8192 := ⟨(kj n * 1024 + k.val) % 8192, Nat.mod_lt _ (by norm_num)⟩

/-- A row of logits: a query sees the keys up to its own place. -/
def lg (b : Fin 2) (h : Fin 8) (i : Fin 8192) : Fin 8192 → EReal :=
  fun j => if j.val ≤ i.val then ∑ d : Fin 128, qA m c (ix4 b h i d) * kA m c (ix4 b h j d) else ⊥
/-- A lane of values. -/
def vl (b : Fin 2) (h : Fin 8) (l : Fin 128) : Fin 8192 → EReal := fun j => vA m c (ix4 b h j l)

theorem tab (t : Fin (cfgA Ideal).N) : t.val < 288 ∧ kj t.val ≤ qi t.val ∧ qi t.val < 8
    ∧ (kj t.val ≠ 0 → t.val ≠ 0 ∧ qi (t.val - 1) = qi t.val ∧ kj (t.val - 1) + 1 = kj t.val ∧ (t.val - 1) / 36 = t.val / 36) := by
  have h : t.val < 288 := lt_of_lt_of_eq t.isLt N288
  exact ⟨h, tabs ⟨t.val, h⟩⟩

theorem q_at (t : Fin (cfgA Ideal).N) (h : Fin 2) (i : Fin 1024) (d : Fin 128) (b : Fin 2) (hh : Fin 8) (I : Fin 8192)
    (hb : b.val = t.val / 144) (hhh : hh.val = t.val / 36 % 4 * 2 + h.val) (hI : I.val = qi t.val * 1024 + i.val) :
    qB m ρ c t (ix4 0 h i d) = qA m c (ix4 b hh I d) := by
  unfold qB qA
  blk_point [iblk, idxs t]

theorem k_at (t : Fin (cfgA Ideal).N) (h : Fin 2) (i : Fin 1024) (d : Fin 128) (b : Fin 2) (hh : Fin 8) (I : Fin 8192)
    (hb : b.val = t.val / 144) (hhh : hh.val = t.val / 36 % 4 * 2 + h.val) (hI : I.val = kj t.val * 1024 + i.val) :
    kB m ρ c t (ix4 0 h i d) = kA m c (ix4 b hh I d) := by
  unfold kB kA
  blk_point [iblk, idxs t]

theorem v_at (t : Fin (cfgA Ideal).N) (h : Fin 2) (i : Fin 1024) (d : Fin 128) (b : Fin 2) (hh : Fin 8) (I : Fin 8192)
    (hb : b.val = t.val / 144) (hhh : hh.val = t.val / 36 % 4 * 2 + h.val) (hI : I.val = kj t.val * 1024 + i.val) :
    vB m ρ c t (ix4 0 h i d) = vA m c (ix4 b hh I d) := by
  unfold vB vA
  blk_point [iblk, idxs t]

theorem bT_val (t : Fin (cfgA Ideal).N) : (bT t.val).val = t.val / 144 := by
  have := (tab t).1
  show t.val / 144 % 2 = t.val / 144; omega
theorem iT_val (t : Fin (cfgA Ideal).N) (y : Fin 1024) : (iT t.val y).val = qi t.val * 1024 + y.val := by
  have := (tab t).2.2.1
  show (qi t.val * 1024 + y.val) % 8192 = _; omega
theorem jT_val (t : Fin (cfgA Ideal).N) (y : Fin 1024) : (jT t.val y).val = kj t.val * 1024 + y.val := by
  have := (tab t).2.1
  have := (tab t).2.2.1
  show (kj t.val * 1024 + y.val) % 8192 = _; omega

theorem dot_at (t : Fin (cfgA Ideal).N) (h : Fin 2) (y k : Fin 1024) :
    dotB (qB m ρ c t) (kB m ρ c t) h y k = ∑ d : Fin 128, qA m c (ix4 (bT t.val) (hT t.val h) (iT t.val y) d) * kA m c (ix4 (bT t.val) (hT t.val h) (jT t.val k) d) :=
  Finset.sum_congr rfl fun d _ => congrArg₂ (· * ·)
    (q_at m ρ c t h y d _ _ _ (bT_val t) rfl (iT_val t y)) (k_at m ρ c t h k d _ _ _ (bT_val t) rfl (jT_val t k))

/-- The logits of a row of point `n`'s queries, in blocks, and its values. -/
def X (n : ℕ) (h : Fin 2) (y : Fin 1024) : ℕ → Fin 1024 → EReal := blk (lg m c (bT n) (hT n h) (iT n y))
def W (n : ℕ) (h : Fin 2) (l : Fin 128) : ℕ → Fin 1024 → EReal := blk (vl m c (bT n) (hT n h) l)

theorem X_at (t : Fin (cfgA Ideal).N) (h : Fin 2) (y k : Fin 1024) : X m c t.val h y (kj t.val) k = lg m c (bT t.val) (hT t.val h) (iT t.val y) (jT t.val k) := rfl

theorem X_full (t : Fin (cfgA Ideal).N) (hlt : kj t.val < qi t.val) (h : Fin 2) (y k : Fin 1024) :
    dotB (qB m ρ c t) (kB m ρ c t) h y k = X m c t.val h y (kj t.val) k :=
  (dot_at m ρ c t h y k).trans (if_pos (by show (jT t.val k).val ≤ (iT t.val y).val; rw [jT_val, iT_val]; omega)).symm

theorem X_diag (t : Fin (cfgA Ideal).N) (he : ¬kj t.val < qi t.val) (h : Fin 2) (y k : Fin 1024) :
    msk y (dotB (qB m ρ c t) (kB m ρ c t) h y) k = X m c t.val h y (kj t.val) k := by
  have := (tab t).2.1
  by_cases hk : k.val ≤ y.val
  · exact (if_pos hk).trans ((dot_at m ρ c t h y k).trans (if_pos (by show (jT t.val k).val ≤ (iT t.val y).val; rw [jT_val, iT_val]; omega)).symm)
  · exact (if_neg hk).trans (if_neg (by show ¬(jT t.val k).val ≤ (iT t.val y).val; rw [jT_val, iT_val]; omega)).symm

theorem W_at (t : Fin (cfgA Ideal).N) (h : Fin 2) (l : Fin 128) (k : Fin 1024) : valB (vB m ρ c t) h l k = W m c t.val h l (kj t.val) k :=
  v_at m ρ c t h k l _ _ _ (bT_val t) rfl (jT_val t k)

/-- What the scratches hold after point `n`: the running greatest logits and weighted sums of the blocks so far. -/
def Inv (n : ℕ) (s : St c) : Prop := ∀ (h : Fin 2) (y : Fin 1024) (l : Fin 128),
  outM c s (ix3 h y l) = runM (X m c n h y) (kj n + 1) ∧ outA c s (ix3 h y l) = runA (X m c n h y) (W m c n h l) (kj n + 1)

/-- One point keeps the invariant. -/
theorem inv_step (t : Fin (cfgA Ideal).N) (prev : St c) (hp : kj t.val ≠ 0 → Inv m c (t.val - 1) prev) : Inv m c t.val (step0 Ideal m ρ c t prev) := by
  intro h y l
  show _ = stepM (runM (X m c t.val h y) (kj t.val)) (X m c t.val h y (kj t.val))
    ∧ _ = stepA (runM (X m c t.val h y) (kj t.val)) (runA (X m c t.val h y) (W m c t.val h l) (kj t.val)) (X m c t.val h y (kj t.val)) (W m c t.val h l (kj t.val))
  by_cases h0 : kj t.val = 0
  · have q0 : P0_0 Ideal t := (ways t).1.mpr h0
    have rM : (⊥ : EReal) = runM (X m c t.val h y) (kj t.val) := by rw [h0]; rfl
    have rA : (0 : EReal) = runA (X m c t.val h y) (W m c t.val h l) (kj t.val) := by rw [h0]; rfl
    by_cases hl : kj t.val < qi t.val
    · have q1 : P0_1 Ideal t := (ways t).2.mpr hl
      exact ⟨(tBm m ρ c t prev q0 q1 _).trans (stepM_congr rM (X_full m ρ c t hl h y)),
        (tBa m ρ c t prev q0 q1 _).trans (stepA_congr rM rA (X_full m ρ c t hl h y) (W_at m ρ c t h l))⟩
    · have q1 : ¬P0_1 Ideal t := fun q => hl ((ways t).2.mp q)
      exact ⟨(tAm m ρ c t prev q0 q1 _).trans (stepM_congr rM (X_diag m ρ c t hl h y)),
        (tAa m ρ c t prev q0 q1 _).trans (stepA_congr rM rA (X_diag m ρ c t hl h y) (W_at m ρ c t h l))⟩
  · have q0 : ¬P0_0 Ideal t := fun q => h0 ((ways t).1.mp q)
    obtain ⟨e0, e1, e2, e3⟩ := (tab t).2.2.2 h0
    have eb : bT (t.val - 1) = bT t.val := Fin.ext (by show (t.val - 1) / 144 % 2 = t.val / 144 % 2; omega)
    have eh : hT (t.val - 1) = hT t.val := funext fun h => Fin.ext (by show (t.val - 1) / 36 % 4 * 2 + h.val = t.val / 36 % 4 * 2 + h.val; rw [e3])
    have ei : iT (t.val - 1) = iT t.val := funext fun y => Fin.ext (by show (qi (t.val - 1) * 1024 + y.val) % 8192 = (qi t.val * 1024 + y.val) % 8192; rw [e1])
    have ih : ∀ (h : Fin 2) (y : Fin 1024) (l : Fin 128), outM c prev (ix3 h y l) = runM (X m c t.val h y) (kj t.val)
        ∧ outA c prev (ix3 h y l) = runA (X m c t.val h y) (W m c t.val h l) (kj t.val) := fun h y l => by
      have := hp h0 h y l
      unfold X W at this
      rw [eb, eh, ei, e2] at this
      exact this
    have hM : ∀ h y l, outM c prev (ix3 h y l) = (fun h y => runM (X m c t.val h y) (kj t.val)) h y := fun h y l => (ih h y l).1
    by_cases hl : kj t.val < qi t.val
    · have q1 : P0_1 Ideal t := (ways t).2.mpr hl
      exact ⟨(tDm m ρ c t prev _ q0 q1 hM _).trans (stepM_congr rfl (X_full m ρ c t hl h y)),
        (tDa m ρ c t prev _ q0 q1 hM _).trans (stepA_congr rfl (ih h y l).2 (X_full m ρ c t hl h y) (W_at m ρ c t h l))⟩
    · have q1 : ¬P0_1 Ideal t := fun q => hl ((ways t).2.mp q)
      exact ⟨(tCm m ρ c t prev _ q0 q1 hM _).trans (stepM_congr rfl (X_diag m ρ c t hl h y)),
        (tCa m ρ c t prev _ q0 q1 hM _).trans (stepA_congr rfl (ih h y l).2 (X_diag m ρ c t hl h y) (W_at m ρ c t h l))⟩

/-- The invariant at every point. -/
theorem inv : ∀ (n : ℕ) (h : n < (cfgA Ideal).N), Inv m c n (traj0 Ideal m ρ c n h)
  | 0, h => inv_step m ρ c ⟨0, h⟩ _ fun h0 => absurd rfl h0
  | n + 1, h => inv_step m ρ c ⟨n + 1, h⟩ _ fun _ => inv n (Nat.lt_of_succ_lt h)

/-- The weighted sum of a whole row's values. -/
def att (b : Fin 2) (h : Fin 8) (i : Fin 8192) (l : Fin 128) : EReal := ∑ j, Ideal.exp2 (lg m c b h i j - top (lg m c b h i)) * vl m c b h l j

/-- At the last block of keys the weighted sums are those of the whole rows. -/
theorem last_at (t : Fin (cfgA Ideal).N) (he : ¬kj t.val < qi t.val) (h : Fin 2) (y : Fin 1024) (l : Fin 128) :
    outA c (traj0 Ideal m ρ c t.val t.isLt) (ix3 h y l) = att m c (bT t.val) (hT t.val h) (iT t.val y) l := by
  have h1 := (tab t).2.1
  have h2 := (tab t).2.2.1
  refine (inv m ρ c t.val t.isLt h y l).2.trans ?_
  have e := runA_add (X m c t.val h y) (W m c t.val h l) (n := kj t.val + 1) (7 - kj t.val) (fun i hi hi' k => by
    refine (blk_eq _ k ⟨i * 1024 + k.val, by omega⟩ rfl).trans (if_neg ?_)
    rw [iT_val]
    show ¬(i * 1024 + k.val ≤ _)
    omega)
  rw [← e, show kj t.val + 1 + (7 - kj t.val) = 8 by omega]
  exact runA_blk _ _

/-- A row of the result: the weighted sums over the sum of the weights. -/
def outRow (b : Fin 2) (h : Fin 8) (i : Fin 8192) (l : Fin 128) : EReal := Ideal.div (att m c b h i l) (att m c b h i 64)

/-- The result. -/
def G (i : S16384x512.Idx) : EReal :=
  if (i 1).val % 128 < 64 then
    outRow m c ⟨(i 0).val / 8192 % 2, Nat.mod_lt _ (by norm_num)⟩ ⟨(i 1).val / 128 % 4 * 2 + 0, by omega⟩ ⟨(i 0).val % 8192, Nat.mod_lt _ (by norm_num)⟩ ⟨(i 1).val % 128, Nat.mod_lt _ (by norm_num)⟩
  else
    outRow m c ⟨(i 0).val / 8192 % 2, Nat.mod_lt _ (by norm_num)⟩ ⟨(i 1).val / 128 % 4 * 2 + 1, by omega⟩ ⟨(i 0).val % 8192, Nat.mod_lt _ (by norm_num)⟩ ⟨((i 1).val % 128 + 128 - 64) % 128, Nat.mod_lt _ (by norm_num)⟩

theorem outRow_congr {b b' : Fin 2} {h h' : Fin 8} {i i' : Fin 8192} {l l' : Fin 128} (hb : b.val = b'.val) (hh : h.val = h'.val)
    (hi : i.val = i'.val) (hl : l.val = l'.val) : outRow m c b h i l = outRow m c b' h' i' l' := by
  obtain rfl := Fin.ext hb; obtain rfl := Fin.ext hh; obtain rfl := Fin.ext hi; obtain rfl := Fin.ext hl; rfl

/-- What point `t` writes out, at the place of the result that it goes to. -/
theorem out_point (t : Fin (cfgA Ideal).N) (he : ¬kj t.val < qi t.val) (y : S1024x128.Idx) (z : S16384x512.Idx)
    (z0 : (z 0).val = (t.val / 144 * 8 + qi t.val) * 1024 + (y 0).val) (z1 : (z 1).val = t.val / 36 % 4 * 128 + (y 1).val) :
    (traj0 Ideal m ρ c t.val t.isLt).1 y = G m c z := by
  have e : (traj0 Ideal m ρ c t.val t.isLt).1 y = outOf (outA c (traj0 Ideal m ρ c t.val t.isLt)) y := by
    rw [traj0_eq]
    have q1 : ¬P0_1 Ideal t := fun q => he ((ways t).2.mp q)
    by_cases q0 : P0_0 Ideal t
    · exact tAo m ρ c t _ q0 q1 y
    · exact tCo m ρ c t _ q0 q1 y
  refine e.trans ?_
  have t0 := (tab t).1
  have t1 := (tab t).2.2.1
  have y0 : (y 0).val < 1024 := (y 0).isLt
  have y1 : (y 1).val < 128 := (y 1).isLt
  have hz1 : (z 1).val % 128 = (y 1).val := by omega
  have hz2 : (z 1).val / 128 = t.val / 36 % 4 := by omega
  have hz3 : (z 0).val % 8192 = qi t.val * 1024 + (y 0).val := by omega
  have hz4 : (z 0).val / 8192 = t.val / 144 := by omega
  unfold outOf G
  by_cases hl : (y 1).val < 64
  · rw [if_pos hl, if_pos (by rw [hz1]; exact hl)]
    refine (congrArg₂ Ideal.div (last_at m ρ c t he _ _ _) (last_at m ρ c t he _ _ _)).trans ?_
    refine outRow_congr m c ?_ ?_ ?_ ?_
    · rw [bT_val]; show _ = (z 0).val / 8192 % 2; omega
    · show t.val / 36 % 4 * 2 + 0 = (z 1).val / 128 % 4 * 2 + 0; omega
    · exact (iT_val t (y 0)).trans hz3.symm
    · exact hz1.symm
  · rw [if_neg hl, if_neg (by rw [hz1]; exact hl)]
    refine (congrArg₂ Ideal.div (last_at m ρ c t he _ _ _) (last_at m ρ c t he _ _ _)).trans ?_
    refine outRow_congr m c ?_ ?_ ?_ ?_
    · rw [bT_val]; show _ = (z 0).val / 8192 % 2; omega
    · show t.val / 36 % 4 * 2 + 1 = (z 1).val / 128 % 4 * 2 + 1; omega
    · exact (iT_val t (y 0)).trans hz3.symm
    · show ((y 1).val + 128 - 64) % 128 = ((z 1).val % 128 + 128 - 64) % 128; rw [hz1]

/-- A point that writes its block out is one at its last block of keys. -/
theorem flush_last (t : Fin (cfgA Ideal).N) (hf : ((cfgA Ideal).win (3 : Fin 4)).flush t = true) : ¬kj t.val < qi t.val := fun hl => by
  have q1 : P0_1 Ideal t := (ways t).2.mpr hl
  by_cases q0 : P0_0 Ideal t
  · exact absurd (hf.symm.trans (sched0_B Ideal t q0 q1).2.1) (by decide)
  · exact absurd (hf.symm.trans (sched0_D Ideal t q0 q1).2.1) (by decide)

theorem final : (dats Ideal m ρ 0 c).arrAt (3 : Fin 4) (cfgA Ideal).N = G m c := by
  refine (dats Ideal m ρ 0 c).arrAt_eq_of_covers (3 : Fin 4) _ (by decide +kernel) fun t hf y => ?_
  refine out_point m ρ c t (flush_last t hf) y _ ?_ ?_
  · blk_simp [idxs t]
  · blk_simp [idxs t]

/-- The call's run: its result, and its arguments as they were. -/
theorem run : θ_run (defs (F := Ideal)) (onTc (τ := τ) (main (F := Ideal))) ⟨m, fun _ => 0, ρ⟩ (fun r => ∀ c : Dev nD,
    r.2.mem ((c.tc : Thread nD τ).loc main_v0) = G m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 (3 : Fin 4)).trans (final m ρ c),
    ((h c).1 (0 : Fin 4)).trans ((dats Ideal m ρ 0 c).arrAt_in (0 : Fin 4) rfl _), ((h c).1 (1 : Fin 4)).trans ((dats Ideal m ρ 0 c).arrAt_in (1 : Fin 4) rfl _), ((h c).1 (2 : Fin 4)).trans ((dats Ideal m ρ 0 c).arrAt_in (2 : Fin 4) rfl _)⟩) (run_main Ideal m ρ)

end Cert.Flash
-- ==== Proof.FlashAlg.lean ====
module

public import proofs.«01_k».proof.Defs
public import proofs.«01_k».proof.Proof.FlashFold
public import proofs.«01_k».proof.Proof.Gen.ReferenceIdeal.Run
public import Idealize.ShloMosaic.Lib.Claim
public import Idealize.ShloMosaic.Lib.WordCmp

@[expose] public section

set_option maxRecDepth 16384

noncomputable section

namespace Cert.Flash.Ref

open Cert.ReferenceIdeal Cert.ReferenceIdeal.Gen Idealize.ShloMosaic Idealize.ShloMosaic.TcCoe Idealize.SL.Sem

/-- The reference's causal mask: a key's place is at most the query's. -/
def causal : S1x1x8192x8192.Idx → BitVec 1 :=
  cmpi .sle (broadcastInDim S1x1x8192x8192 ![0, 1, 2, 3] bcast_S1x1x1x8192_S1x1x8192x8192_0_1_2_3 (broadcastInDim S1x1x1x8192 ![3] bcast_S8192_S1x1x1x8192_3 (iotaInDim S8192 32 0))) (broadcastInDim S1x1x8192x8192 ![0, 1, 2, 3] bcast_S1x1x8192x1_S1x1x8192x8192_0_1_2_3 (broadcastInDim S1x1x8192x1 ![2] bcast_S8192_S1x1x8192x1_2 (iotaInDim S8192 32 0)))

/-- The reference's logits. -/
def logits (q k : FVec Ideal S2x8x8192x128 .bf16) : FVec Ideal S2x8x8192x8192 .f32 :=
  select (broadcastInDim S2x8x8192x8192 ![0, 1, 2, 3] bcast_S1x1x8192x8192_S2x8x8192x8192_0_1_2_3 causal) (Host.dotGeneral (F := Ideal) dot_S2x8x8192x128_S2x8x8192x128_S2x8x8192x8192_3_3_2_2_01_01 none (extf (F := Ideal) .f32 q bitsLt_bf16_f32) (extf (F := Ideal) .f32 k bitsLt_bf16_f32)) (broadcastInDim S2x8x8192x8192 ![] bcast_S_S2x8x8192x8192 (id (constant S_ .f32 0xFF800000#32)))

/-- The greatest logit of every row. -/
def most (s : FVec Ideal S2x8x8192x8192 .f32) : FVec Ideal S2x8x8192 .f32 :=
  Host.reduce FloatOps.maximumf s (constant S_ .f32 0xFF800000#32) reducesTo_S2x8x8192x8192_S2x8x8192_d3 h_S_

/-- The reference's weights. -/
def weights (s : FVec Ideal S2x8x8192x8192 .f32) : FVec Ideal S2x8x8192x8192 .f32 :=
  Host.powf (broadcastInDim S2x8x8192x8192 ![] bcast_S_S2x8x8192x8192 (constant S_ .f32 0x40000000#32)) (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (most s))))

/-- The reference's result. -/
def fin (p : FVec Ideal S2x8x8192x8192 .f32) (v : FVec Ideal S2x8x8192x128 .bf16) : FVec Ideal S16384x512 .f32 :=
  shapeCast _ (transpose S2x8192x8x64 [0, 2, 1, 3] (Host.divf (Host.dotGeneral (F := Ideal) dot_S2x8x8192x8192_S2x8x8192x64_S2x8x8192x64_3_2_2_3_01_01 none p (extractStridedSlice S2x8x8192x64 ![0, 0, 0, 0] (extf (F := Ideal) .f32 v bitsLt_bf16_f32) slices_S2x8x8192x128_S2x8x8192x64_0_0_0_0)) (broadcastInDim S2x8x8192x64 ![0, 1, 2, 3] bcast_S2x8x8192x1_S2x8x8192x64_0_1_2_3 (Host.dotGeneral (F := Ideal) dot_S2x8x8192x8192_S2x8x8192x1_S2x8x8192x1_3_2_2_3_01_01 none p (extractStridedSlice S2x8x8192x1 ![0, 0, 0, 64] (extf (F := Ideal) .f32 v bitsLt_bf16_f32) slices_S2x8x8192x128_S2x8x8192x1_0_0_0_64)))) transposes_S2x8x8192x64_S2x8192x8x64_0_2_1_3) shapeCasts_S2x8192x8x64_S16384x512

/-- The mask, entry by entry. -/
theorem causal_eq (y : S1x1x8192x8192.Idx) : causal y = BitVec.ofBool (decide ((y 3).val ≤ (y 2).val)) := by
  have h2 : (y 2).val < 8192 := (y 2).isLt
  have h3 : (y 3).val < 8192 := (y 3).isLt
  refine Eq.trans (b := IntOp.cmpi .sle (BitVec.ofNat 32 (y 3).val) (BitVec.ofNat 32 (y 2).val)) (by pointwise [causal]) ?_
  exact WordCmp.cmpi_sle_ofNat (by norm_num; omega) (by norm_num; omega)

/-- The logits, entry by entry: a query sees the keys up to its own place. -/
theorem logits_eq (q k : FVec Ideal S2x8x8192x128 .bf16) (b : Fin 2) (h : Fin 8) (i j : Fin 8192) :
    logits q k (ix4 b h i j) = if j.val ≤ i.val then ∑ d : Fin 128, q (ix4 b h i d) * k (ix4 b h j d) else (⊥ : EReal) := by
  refine Eq.trans (b := Scalar.select (causal (ix4 0 0 i j)) (∑ d : Fin 128, q (ix4 b h i d) * k (ix4 b h j d)) (Ideal.ofBits FTy.f32 4286578688#32)) (by pointwise [logits]; rfl) ?_
  rw [causal_eq, WordCmp.select_decide, ninf']; rfl

/-- The greatest logit of a row. -/
theorem most_eq (s : FVec Ideal S2x8x8192x8192 .f32) (b : Fin 2) (h : Fin 8) (i : Fin 8192) :
    most s (ix3 b h i) = top fun j : Fin 8192 => s (ix4 b h i j) := by
  refine Eq.trans (b := (Finset.univ : Finset (Fin 8192)).fold max (Ideal.ofBits FTy.f32 4286578688#32) fun j => s (ix4 b h i j)) (by pointwise [most]) ?_
  rw [ninf']; rfl

theorem two : Ideal.ofBits FTy.f32 1073741824#32 = ((2 : ℝ) : EReal) := by
  simp [Ideal.ofBits, Ideal.ieee]
  rw [← EReal.coe_mul]
  norm_num

/-- The weights, entry by entry. -/
theorem weights_eq (s : FVec Ideal S2x8x8192x8192 .f32) (b : Fin 2) (h : Fin 8) (i j : Fin 8192) :
    weights s (ix4 b h i j) = Ideal.exp2 (s (ix4 b h i j) - top fun j : Fin 8192 => s (ix4 b h i j)) := by
  refine Eq.trans (b := Ideal.pow (Ideal.ofBits FTy.f32 1073741824#32) (s (ix4 b h i j) - most s (ix3 b h i))) (by pointwise [weights]) ?_
  rw [two, pow_two, most_eq]

/-- The result, entry by entry. -/
theorem fin_eq (p : FVec Ideal S2x8x8192x8192 .f32) (v : FVec Ideal S2x8x8192x128 .bf16) (i : S16384x512.Idx)
    (hb : (i 0).val / 8192 < 2) (hh : (i 1).val / 64 < 8) (hr : (i 0).val % 8192 < 8192) (hl : (i 1).val % 64 < 128) :
    fin p v i = Ideal.div (∑ j : Fin 8192, p (ix4 ⟨(i 0).val / 8192, hb⟩ ⟨(i 1).val / 64, hh⟩ ⟨(i 0).val % 8192, hr⟩ j) * v (ix4 ⟨(i 0).val / 8192, hb⟩ ⟨(i 1).val / 64, hh⟩ j ⟨(i 1).val % 64, hl⟩))
      (∑ j : Fin 8192, p (ix4 ⟨(i 0).val / 8192, hb⟩ ⟨(i 1).val / 64, hh⟩ ⟨(i 0).val % 8192, hr⟩ j) * v (ix4 ⟨(i 0).val / 8192, hb⟩ ⟨(i 1).val / 64, hh⟩ j 64)) := by
  pointwise [fin]

end Cert.Flash.Ref

namespace Cert.Flash

open Idealize.ShloMosaic Idealize.ShloMosaic.TcCoe Idealize.SL.Sem

/-- The reference's result as a function of its arguments. -/
def refOf (q k v : FVec Ideal Cert.ReferenceIdeal.S2x8x8192x128 .bf16) : FVec Ideal Cert.ReferenceIdeal.S16384x512 .f32 :=
  Ref.fin (Ref.weights (Ref.logits q k)) v

/-- The reference's result is the call's. -/
theorem ref_eq (m : (ℓ : Loc Cert.KernelIdeal.nD Cert.KernelIdeal.τ Cert.KernelIdeal.sig) → Buf (Elt Ideal) ℓ) (c : Dev Cert.KernelIdeal.nD)
    (i : Cert.KernelIdeal.S16384x512.Idx) : refOf (qA m c) (kA m c) (vA m c) i = G m c i := by
  have i0 : (i 0).val < 16384 := (i 0).isLt
  have i1 : (i 1).val < 512 := (i 1).isLt
  have hw : ∀ (b : Fin 2) (h : Fin 8) (r j : Fin 8192), Ref.weights (Ref.logits (qA m c) (kA m c)) (ix4 b h r j) = Ideal.exp2 (lg m c b h r j - top (lg m c b h r)) := fun b h r j => by
    rw [Ref.weights_eq]
    simp only [Ref.logits_eq]
    rfl
  have hA : ∀ (b : Fin 2) (h : Fin 8) (r : Fin 8192) (l : Fin 128),
      (∑ j : Fin 8192, Ref.weights (Ref.logits (qA m c) (kA m c)) (ix4 b h r j) * vA m c (ix4 b h j l)) = att m c b h r l := fun b h r l =>
    Finset.sum_congr rfl fun j _ => congrArg₂ (· * ·) (hw b h r j) rfl
  refine (Ref.fin_eq _ _ i (by omega) (by omega) (by omega) (by omega)).trans ((congrArg₂ Ideal.div (hA _ _ _ _) (hA _ _ _ _)).trans ?_)
  unfold G
  by_cases hl : (i 1).val % 128 < 64
  · refine Eq.trans ?_ (if_pos hl).symm
    refine outRow_congr m c ?_ ?_ ?_ ?_
    · show (i 0).val / 8192 = (i 0).val / 8192 % 2; omega
    · show (i 1).val / 64 = (i 1).val / 128 % 4 * 2 + 0; omega
    · rfl
    · show (i 1).val % 64 = (i 1).val % 128; omega
  · refine Eq.trans ?_ (if_neg hl).symm
    refine outRow_congr m c ?_ ?_ ?_ ?_
    · show (i 0).val / 8192 = (i 0).val / 8192 % 2; omega
    · show (i 1).val / 64 = (i 1).val / 128 % 4 * 2 + 1; omega
    · rfl
    · show (i 1).val % 64 = ((i 1).val % 128 + 128 - 64) % 128; omega

/-- The attention call and its reference give equal results. -/
theorem algebraic : Cert.algebraic_KernelIdeal_ReferenceIdeal := by
  pair_intro
  · run_from Cert.Flash.run m g
  · run_from Cert.ReferenceIdeal.Value.run m' g'
    funext i
    obtain ⟨h0, h1, h2⟩ := hagree c
    have hres : Cert.ReferenceIdeal.Value.res_main_v24 m' c = refOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) := rfl
    rw [hres, h0, h1, h2]
    exact ref_eq m c i

end Cert.Flash

end
-- ==== Proof.LogForget.lean ====
module

public import Idealize.ShloMosaic.Lib.Pipeline.ValueKit

@[expose] public section

noncomputable section

namespace Cert.Gate

open Idealize.ShloMosaic

/-- The logarithm of the sigmoid of `z`: `-(max(-z, 0) + log(1 + exp(-|z|)))`. -/
def lsoft (z : EReal) : EReal := -(max (-z) 0 + Ideal.log (1 + Ideal.exp (-(FloatOps.absf (F := Ideal) (φ := .f32) (-z)))))

/-- The same with the negations spelled as differences from 0. -/
theorem lsoft_sub (z : EReal) :
    (0 : EReal) - (max (0 - z) 0 + Ideal.log (1 + Ideal.exp (0 - FloatOps.absf (F := Ideal) (φ := .f32) (0 - z)))) = lsoft z := by
  simp only [zero_sub]; rfl

/-- The same as the reference spells it, with its test for a value unequal to itself. -/
theorem lsoft_une (z : EReal) :
    (-(if -z ≠ -z then -z else max (-z) 0 + Ideal.log1p (Ideal.exp (-FloatOps.absf (F := Ideal) (φ := .f32) (-z)))) : EReal) = lsoft z := by
  rw [if_neg (not_not.mpr rfl)]; rfl

/-- Lanes 16 to 23 are the gates' lanes. -/
theorem gate_lane (n : ℕ) (h : n < 8) (a b : EReal) :
    Scalar.select (IntOp.andi (IntOp.cmpi CmpIPredicate.sge (BitVec.ofNat 32 (16 + n)) 16#32) (IntOp.cmpi CmpIPredicate.slt (BitVec.ofNat 32 (16 + n)) 24#32)) a b = a := by
  interval_cases n <;> rfl

end Cert.Gate

end
-- ==== Proof.PrepAlg.lean ====
module

public import proofs.«01_k».proof.Defs
public import proofs.«01_k».proof.Proof.LogForget
public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Prep.Ref

open Cert.Reference4Ideal Cert.Reference4Ideal.Gen Idealize.ShloMosaic Idealize.ShloMosaic.TcCoe Idealize.SL.Sem
open Cert.Gate (lsoft lsoft_une)

/-- The reference's logarithm of a sigmoid. -/
def lsig (Z : FVec Ideal S2x8192x8 .f32) : FVec Ideal S2x8192x8 .f32 :=
  Host.negf (select (cmpf .une (subf (Host.negf Z) (broadcastInDim S2x8192x8 ![] bcast_S_S2x8192x8 (constant S_ .f32 0x00000000#32))) (subf (Host.negf Z) (broadcastInDim S2x8192x8 ![] bcast_S_S2x8192x8 (constant S_ .f32 0x00000000#32)))) (addf (Host.negf Z) (broadcastInDim S2x8192x8 ![] bcast_S_S2x8192x8 (constant S_ .f32 0x00000000#32))) (addf (maximumf (Host.negf Z) (broadcastInDim S2x8192x8 ![] bcast_S_S2x8192x8 (constant S_ .f32 0x00000000#32))) (Host.log1p (Host.exp (Host.negf (Host.absf (subf (Host.negf Z) (broadcastInDim S2x8192x8 ![] bcast_S_S2x8192x8 (constant S_ .f32 0x00000000#32)))))))))

/-- The reference's gate logits. -/
def pre (X : FVec Ideal S16384x3840 .f32) (B : FVec Ideal S1x128 .f32) : FVec Ideal S2x8192x8 .f32 :=
  addf (extractStridedSlice S2x8192x8 ![0, 0, 3600] (shapeCast _ X shapeCasts_S16384x3840_S2x8192x3840) slices_S2x8192x3840_S2x8192x8_0_0_3600) (broadcastInDim S2x8192x8 ![0, 1, 2] bcast_S1x1x8_S2x8192x8_0_1_2 (broadcastInDim S1x1x8 ![2] bcast_S8_S1x1x8_2 (shapeCast _ (extractStridedSlice S1x8 ![0, 16] B slices_S1x128_S1x8_0_16) shapeCasts_S1x8_S8)))

/-- The reference's results as functions of its arguments. -/
abbrev REFK (X : FVec Ideal S16384x3840 .f32) : FVec Ideal S2x512x8192 .f32 :=
  transpose S2x512x8192 [0, 2, 1] (extractStridedSlice S2x8192x512 ![0, 0, 2560] (shapeCast _ X shapeCasts_S16384x3840_S2x8192x3840) slices_S2x8192x3840_S2x8192x512_0_0_2560) transposes_S2x8192x512_S2x512x8192_0_2_1
abbrev REFV (X : FVec Ideal S16384x3840 .f32) : FVec Ideal S2x512x8192 .f32 :=
  transpose S2x512x8192 [0, 2, 1] (extractStridedSlice S2x8192x512 ![0, 0, 3072] (shapeCast _ X shapeCasts_S16384x3840_S2x8192x3840) slices_S2x8192x3840_S2x8192x512_0_0_3072) transposes_S2x8192x512_S2x512x8192_0_2_1
abbrev REFF (X : FVec Ideal S16384x3840 .f32) (B : FVec Ideal S1x128 .f32) : FVec Ideal S2x8x8192 .f32 :=
  transpose S2x8x8192 [0, 2, 1] (lsig (pre X B)) transposes_S2x8192x8_S2x8x8192_0_2_1

theorem lsig_eq (Z : FVec Ideal S2x8192x8 .f32) (i : S2x8192x8.Idx) : lsig Z i = lsoft (Z i) := by
  pointwise [lsig]
  exact lsoft_une (Z i)

theorem pre_eq (X : FVec Ideal S16384x3840 .f32) (B : FVec Ideal S1x128 .f32) (b : Fin 2) (s : Fin 8192) (h : Fin 8) (hr : b.val * 8192 + s.val < 16384) (h0 : 3600 + h.val < 3840) (h1 : 16 + h.val < 128) :
    pre X B (ix3 b s h) = X (ix2 ⟨b.val * 8192 + s.val, hr⟩ ⟨3600 + h.val, h0⟩) + B (ix2 0 ⟨16 + h.val, h1⟩) := by
  pointwise [pre]

theorem refK_eq (X : FVec Ideal S16384x3840 .f32) (i : S2x512x8192.Idx) (hr : (i 0).val * 8192 + (i 2).val < 16384) (h0 : 2560 + (i 1).val < 3840) :
    REFK X i = X (ix2 ⟨(i 0).val * 8192 + (i 2).val, hr⟩ ⟨2560 + (i 1).val, h0⟩) := by
  pointwise [REFK]

theorem refV_eq (X : FVec Ideal S16384x3840 .f32) (i : S2x512x8192.Idx) (hr : (i 0).val * 8192 + (i 2).val < 16384) (h0 : 3072 + (i 1).val < 3840) :
    REFV X i = X (ix2 ⟨(i 0).val * 8192 + (i 2).val, hr⟩ ⟨3072 + (i 1).val, h0⟩) := by
  pointwise [REFV]

theorem swap_eq (Z : FVec Ideal S2x8192x8 .f32) (i : S2x8x8192.Idx) : transpose S2x8x8192 [0, 2, 1] Z transposes_S2x8192x8_S2x8x8192_0_2_1 i = Z (ix3 (i 0) (i 2) (i 1)) := by
  pointwise []

theorem refF_eq (X : FVec Ideal S16384x3840 .f32) (B : FVec Ideal S1x128 .f32) (i : S2x8x8192.Idx) (hr : (i 0).val * 8192 + (i 2).val < 16384) (h0 : 3600 + (i 1).val < 3840) (h1 : 16 + (i 1).val < 128) :
    REFF X B i = lsoft (X (ix2 ⟨(i 0).val * 8192 + (i 2).val, hr⟩ ⟨3600 + (i 1).val, h0⟩) + B (ix2 0 ⟨16 + (i 1).val, h1⟩)) := by
  exact (swap_eq _ i).trans ((lsig_eq _ _).trans (congrArg lsoft (pre_eq X B (i 0) (i 2) (i 1) hr h0 h1)))

end Cert.Prep.Ref

namespace Cert.Prep

open Cert.Kernel4Ideal Cert.Kernel4Ideal.Gen Cert.Kernel4Ideal.Value Idealize.ShloMosaic Idealize.ShloMosaic.TcCoe Idealize.SL.Sem
open Idealize.ShloMosaic.Pipeline (Dat)
open Cert.Gate (lsoft lsoft_sub lsoft_une gate_lane)

variable (m : (ℓ : Loc nD τ sig) → Buf (Elt Ideal) ℓ)

/-- The columns and the bias, at launch. -/
def XA (c : Dev nD) : S16384x3840.Idx → EReal := m ((c : Thread nD τ).loc main_arg0)
def BA (c : Dev nD) : S1x128.Idx → EReal := m ((c : Thread nD τ).loc main_arg1)

theorem idx : ∀ t : Fin cfg0.N, win0_0.index t = ![t.val, 4] ∧ win0_1.index t = ![t.val, 5] ∧ win0_2.index t = ![t.val, 6] ∧ win0_3.index t = ![t.val, 28] ∧ win0_4.index t = ![0, 0] :=
  (by decide +kernel : ∀ t : Fin grid0.N, _)

/-- The state's type. -/
abbrev St : Type := Vec Ideal S1x8x512x128 .bf16 × Vec Ideal S1x8x512x128 .bf16 × Vec Ideal S1x8x512x128 .bf16 × Vec Ideal S1x512x512 .f32 × Vec Ideal S1x512x512 .f32 × Vec Ideal S1x8x512 .f32 × Vec Ideal S1x128 .f32

/-- The blocks' entries, as entries of the arguments. -/
theorem k_at (c : Dev nD) (t : Fin cfg0.N) (r : Fin 512) (l : Fin 512) (R : Fin 16384) (C : Fin 3840) (hR : R.val = t.val * 512 + r.val) (hC : C.val = 2560 + l.val) :
    (X0_1 m c t : S512x512.Idx → EReal) (ix2 r l) = XA m c (ix2 R C) := by
  unfold X0_1 Pipeline.Window.fill
  rw [dif_pos (moved0_1 t (ix2 r l))]
  refine (congrFun (V_main_arg0 m c) _).trans ?_
  unfold XA
  blk_point [idx t]

theorem v_at (c : Dev nD) (t : Fin cfg0.N) (r : Fin 512) (l : Fin 512) (R : Fin 16384) (C : Fin 3840) (hR : R.val = t.val * 512 + r.val) (hC : C.val = 3072 + l.val) :
    (X0_2 m c t : S512x512.Idx → EReal) (ix2 r l) = XA m c (ix2 R C) := by
  unfold X0_2 Pipeline.Window.fill
  rw [dif_pos (moved0_2 t (ix2 r l))]
  refine (congrFun (V_main_arg0 m c) _).trans ?_
  unfold XA
  blk_point [idx t]

theorem f_at (c : Dev nD) (t : Fin cfg0.N) (r : Fin 512) (l : Fin 128) (R : Fin 16384) (C : Fin 3840) (hR : R.val = t.val * 512 + r.val) (hC : C.val = 3584 + l.val) :
    (iblk m c 3 t : S512x128.Idx → EReal) (ix2 r l) = XA m c (ix2 R C) := by
  refine (congrFun (V_main_arg0 m c) _).trans ?_
  unfold XA
  blk_point [idx t]

theorem b_at (c : Dev nD) (t : Fin cfg0.N) (l C : Fin 128) (hC : C.val = l.val) :
    (iblk m c 4 t : S1x128.Idx → EReal) (ix2 0 l) = BA m c (ix2 0 C) := by
  refine (congrFun (V_main_arg1 m c) _).trans ?_
  unfold BA
  blk_point [idx t]

/-- The gates a point stores, entry by entry. -/
theorem pay_eq (x : Vec Ideal S512x128 .f32) (b : Vec Ideal S1x128 .f32) (y : S1x8x512.Idx) (h : 16 + (y 1).val < 128) :
    k0_pay4 x b y = lsoft ((x (ix2 (y 2) ⟨16 + (y 1).val, h⟩) : EReal) + b (ix2 0 ⟨16 + (y 1).val, h⟩)) := by
  have h1 : (y 1).val < 8 := (y 1).isLt
  pointwise [k0_pay4, k0_pay3]
  exact (gate_lane _ h1 _ _).trans (lsoft_sub _)

/-- What a point leaves in the transposed keys. -/
theorem stepK (c : Dev nD) (t : Fin cfg0.N) (acc : St) (y : S1x512x512.Idx)
    (R : Fin 16384) (hR : R.val = t.val * 512 + (y 2).val) (C : Fin 3840) (hC : C.val = 2560 + (y 1).val) :
    (stAt0 m c t.val t.isLt acc).2.2.2.1 y = XA m c (ix2 R C) := by
  by_cases ht : t.val % 16 = 0
  · rw [stAt0_A m c t acc ht]
    dsimp only
    frame_out
    canon_tiles x h
    all_goals (open_payloads; pointwise []; exact k_at m c t _ _ R C (by omega) (by dsimp only; omega))
  · rw [stAt0_B m c t acc ht]
    dsimp only
    frame_out
    canon_tiles x h
    all_goals (open_payloads; pointwise []; exact k_at m c t _ _ R C (by omega) (by dsimp only; omega))

/-- What a point leaves in the transposed values. -/
theorem stepV (c : Dev nD) (t : Fin cfg0.N) (acc : St) (y : S1x512x512.Idx)
    (R : Fin 16384) (hR : R.val = t.val * 512 + (y 2).val) (C : Fin 3840) (hC : C.val = 3072 + (y 1).val) :
    (stAt0 m c t.val t.isLt acc).2.2.2.2.1 y = XA m c (ix2 R C) := by
  by_cases ht : t.val % 16 = 0
  · rw [stAt0_A m c t acc ht]
    dsimp only
    frame_out
    canon_tiles x h
    all_goals (open_payloads; pointwise []; exact v_at m c t _ _ R C (by omega) (by dsimp only; omega))
  · rw [stAt0_B m c t acc ht]
    dsimp only
    frame_out
    canon_tiles x h
    all_goals (open_payloads; pointwise []; exact v_at m c t _ _ R C (by omega) (by dsimp only; omega))

/-- What a point leaves in the gates. -/
theorem stepF (c : Dev nD) (t : Fin cfg0.N) (acc : St) (y : S1x8x512.Idx)
    (R : Fin 16384) (hR : R.val = t.val * 512 + (y 2).val) (C : Fin 3840) (hC : C.val = 3600 + (y 1).val) (B : Fin 128) (hB : B.val = 16 + (y 1).val) :
    (stAt0 m c t.val t.isLt acc).2.2.2.2.2.1 y = lsoft (XA m c (ix2 R C) + BA m c (ix2 0 B)) := by
  have y1 : (y 1).val < 8 := (y 1).isLt
  have hp : k0_pay4 (iblk m c 3 t) (iblk m c 4 t) y = lsoft (XA m c (ix2 R C) + BA m c (ix2 0 B)) :=
    (pay_eq _ _ y (by omega)).trans (congrArg lsoft (congrArg₂ (· + ·) (f_at m c t _ _ R C hR (by show C.val = 3584 + (16 + (y 1).val); omega)) (b_at m c t _ B hB)))
  by_cases ht : t.val % 16 = 0
  · rw [stAt0_A m c t acc ht]
    dsimp only
    frame_out
    exact hp
  · rw [stAt0_B m c t acc ht]
    dsimp only
    frame_out
    exact hp

/-- The state after point `n` is that point's step over some state. -/
theorem acc_step (c : Dev nD) : ∀ (n : ℕ) (h : 0 + n < cfg0.N),
    ∃ acc : St, Pipeline.accAt (fun n h => stAt0 m c n h junk0) (stAt0 m c) 0 n h = stAt0 m c (0 + n) h acc
  | 0, h => ⟨_, rfl⟩
  | n + 1, h => ⟨_, Pipeline.accAt_succ _ _ _ _ _⟩

theorem row_lt (b : Fin 2) (s : Fin 8192) : b.val * 8192 + s.val < 16384 := by omega

theorem outK (c : Dev nD) (i : S2x512x8192.Idx) (C : Fin 3840) (hC : C.val = 2560 + (i 1).val) : G9 m c i = XA m c (ix2 ⟨_, row_lt (i 0) (i 2)⟩ C) := by
  have h0 : (i 0).val < 2 := (i 0).isLt
  have h1 : (i 1).val < 512 := (i 1).isLt
  have h2 : (i 2).val < 8192 := (i 2).isLt
  have hp : pt9Of i < cfg0.N := lt_of_lt_of_eq (by show 16 * ((i 0).val / 1 - 0) + 16 * ((i 1).val / 512 - 0) + 1 * ((i 2).val / 512 - 0) < 32; omega) N_0.symm
  unfold G9
  rw [dif_pos hp]
  obtain ⟨acc, ha⟩ := acc_step m c (pt9Of i) (by omega)
  rw [ha]
  refine stepK m c ⟨0 + pt9Of i, by omega⟩ acc (loc9Of i) _ ?_ C ?_
  · show (i 0).val * 8192 + (i 2).val = (0 + (16 * ((i 0).val / 1 - 0) + 16 * ((i 1).val / 512 - 0) + 1 * ((i 2).val / 512 - 0))) * 512 + (i 2).val % 512
    omega
  · show C.val = 2560 + (i 1).val % 512
    omega

theorem outV (c : Dev nD) (i : S2x512x8192.Idx) (C : Fin 3840) (hC : C.val = 3072 + (i 1).val) : G10 m c i = XA m c (ix2 ⟨_, row_lt (i 0) (i 2)⟩ C) := by
  have h0 : (i 0).val < 2 := (i 0).isLt
  have h1 : (i 1).val < 512 := (i 1).isLt
  have h2 : (i 2).val < 8192 := (i 2).isLt
  have hp : pt10Of i < cfg0.N := lt_of_lt_of_eq (by show 16 * ((i 0).val / 1 - 0) + 16 * ((i 1).val / 512 - 0) + 1 * ((i 2).val / 512 - 0) < 32; omega) N_0.symm
  unfold G10
  rw [dif_pos hp]
  obtain ⟨acc, ha⟩ := acc_step m c (pt10Of i) (by omega)
  rw [ha]
  refine stepV m c ⟨0 + pt10Of i, by omega⟩ acc (loc10Of i) _ ?_ C ?_
  · show (i 0).val * 8192 + (i 2).val = (0 + (16 * ((i 0).val / 1 - 0) + 16 * ((i 1).val / 512 - 0) + 1 * ((i 2).val / 512 - 0))) * 512 + (i 2).val % 512
    omega
  · show C.val = 3072 + (i 1).val % 512
    omega

theorem outF (c : Dev nD) (i : S2x8x8192.Idx) (C : Fin 3840) (hC : C.val = 3600 + (i 1).val) (B : Fin 128) (hB : B.val = 16 + (i 1).val) :
    G11 m c i = lsoft (XA m c (ix2 ⟨_, row_lt (i 0) (i 2)⟩ C) + BA m c (ix2 0 B)) := by
  have h0 : (i 0).val < 2 := (i 0).isLt
  have h1 : (i 1).val < 8 := (i 1).isLt
  have h2 : (i 2).val < 8192 := (i 2).isLt
  have hp : pt11Of i < cfg0.N := lt_of_lt_of_eq (by show 16 * ((i 0).val / 1 - 0) + 16 * ((i 1).val / 8 - 0) + 1 * ((i 2).val / 512 - 0) < 32; omega) N_0.symm
  unfold G11
  rw [dif_pos hp]
  obtain ⟨acc, ha⟩ := acc_step m c (pt11Of i) (by omega)
  rw [ha]
  refine stepF m c ⟨0 + pt11Of i, by omega⟩ acc (loc11Of i) _ ?_ C ?_ B ?_
  · show (i 0).val * 8192 + (i 2).val = (0 + (16 * ((i 0).val / 1 - 0) + 16 * ((i 1).val / 8 - 0) + 1 * ((i 2).val / 512 - 0))) * 512 + (i 2).val % 512
    omega
  · show C.val = 3600 + (i 1).val % 8
    omega
  · show B.val = 16 + (i 1).val % 8
    omega

/-- The key, value and gate outputs and their reference are equal. -/
theorem algebraic : Cert.algebraic_Kernel4Ideal_Reference4Ideal := by
  pair_intro
  · run_from Cert.Kernel4Ideal.Value.run m g
  · run_from Cert.Reference4Ideal.Value.run m' g'
    · funext i
      have h1 : (i 1).val < 512 := (i 1).isLt
      exact (Ref.refK_eq _ i (row_lt _ _) (by omega)).trans (outK m c i _ rfl).symm
    · funext i
      have h1 : (i 1).val < 512 := (i 1).isLt
      exact (Ref.refV_eq _ i (row_lt _ _) (by omega)).trans (outV m c i _ rfl).symm
    · funext i
      have h1 : (i 1).val < 8 := (i 1).isLt
      exact (Ref.refF_eq (XA m c) (BA m c) i (row_lt _ _) (by omega) (by omega)).trans (outF m c i _ rfl _ rfl).symm

end Cert.Prep

end
-- ==== Proof.GateAlg.lean ====
module

public import proofs.«01_k».proof.Defs
public import proofs.«01_k».proof.Proof.LogForget
public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.Gate.Ref

open Cert.Reference5Ideal Cert.Reference5Ideal.Gen Idealize.ShloMosaic Idealize.ShloMosaic.TcCoe Idealize.SL.Sem

/-- The reference's logarithm of a sigmoid. -/
def lsig (Z : FVec Ideal S256x8 .f32) : FVec Ideal S256x8 .f32 :=
  Host.negf (select (cmpf .une (subf (Host.negf Z) (broadcastInDim S256x8 ![] bcast_S_S256x8 (constant S_ .f32 0x00000000#32))) (subf (Host.negf Z) (broadcastInDim S256x8 ![] bcast_S_S256x8 (constant S_ .f32 0x00000000#32)))) (addf (Host.negf Z) (broadcastInDim S256x8 ![] bcast_S_S256x8 (constant S_ .f32 0x00000000#32))) (addf (maximumf (Host.negf Z) (broadcastInDim S256x8 ![] bcast_S_S256x8 (constant S_ .f32 0x00000000#32))) (Host.log1p (Host.exp (Host.negf (Host.absf (subf (Host.negf Z) (broadcastInDim S256x8 ![] bcast_S_S256x8 (constant S_ .f32 0x00000000#32)))))))))

/-- The reference's gate logits. -/
def pre (X : FVec Ideal S256x3840 .f32) (B : FVec Ideal S1x128 .f32) : FVec Ideal S256x8 .f32 :=
  addf (extractStridedSlice S256x8 ![0, 3600] X slices_S256x3840_S256x8_0_3600) (broadcastInDim S256x8 ![0, 1] bcast_S1x8_S256x8_0_1 (broadcastInDim S1x8 ![1] bcast_S8_S1x8_1 (shapeCast _ (extractStridedSlice S1x8 ![0, 16] B slices_S1x128_S1x8_0_16) shapeCasts_S1x8_S8)))

theorem lsig_eq (Z : FVec Ideal S256x8 .f32) (i : S256x8.Idx) : lsig Z i = lsoft (Z i) := by
  pointwise [lsig]
  exact lsoft_une (Z i)

theorem pre_eq (X : FVec Ideal S256x3840 .f32) (B : FVec Ideal S1x128 .f32) (i : S256x8.Idx) (h0 : 3600 + (i 1).val < 3840) (h1 : 16 + (i 1).val < 128) :
    pre X B i = X (ix2 (i 0) ⟨3600 + (i 1).val, h0⟩) + B (ix2 0 ⟨16 + (i 1).val, h1⟩) := by
  pointwise [pre]

end Cert.Gate.Ref

namespace Cert.Gate

open Cert.Kernel5Ideal Cert.Kernel5Ideal.Gen Cert.Kernel5Ideal.Value Idealize.ShloMosaic Idealize.ShloMosaic.TcCoe Idealize.SL.Sem
open Idealize.ShloMosaic.Pipeline (Dat)

/-- What the body stores, entry by entry. -/
theorem pay_eq (x : Vec Ideal S256x128 .f32) (b : Vec Ideal S1x128 .f32) (i : S256x8.Idx) (h : 16 + (i 1).val < 128) :
    k0_pay1 x b i = lsoft ((x (ix2 (i 0) ⟨16 + (i 1).val, h⟩) : EReal) + b (ix2 0 ⟨16 + (i 1).val, h⟩)) := by
  have h1 : (i 1).val < 8 := (i 1).isLt
  pointwise [k0_pay1]
  exact (gate_lane _ h1 _ _).trans (lsoft_sub _)

variable (m : (ℓ : Loc nD τ sig) → Buf (Elt Ideal) ℓ)

/-- The columns and the bias, at launch. -/
def XA (c : Dev nD) : S256x3840.Idx → EReal := m ((c : Thread nD τ).loc main_arg0)
def BA (c : Dev nD) : S1x128.Idx → EReal := m ((c : Thread nD τ).loc main_arg1)

/-- The result: the log forget gates of the gate columns. -/
def G (c : Dev nD) (i : S256x8.Idx) : EReal :=
  lsoft (XA m c (ix2 (i 0) ⟨(3600 + (i 1).val) % 3840, Nat.mod_lt _ (by norm_num)⟩) + BA m c (ix2 0 ⟨(16 + (i 1).val) % 128, Nat.mod_lt _ (by norm_num)⟩))

theorem idx : ∀ t : Fin cfg0.N, win0_0.index t = ![0, 28] ∧ win0_1.index t = ![0, 0] ∧ win0_2.index t = ![0, 0] :=
  (by decide +kernel : ∀ t : Fin grid0.N, _)

theorem x_at (c : Dev nD) (t : Fin cfg0.N) (r : Fin 256) (l : Fin 128) (R : Fin 256) (C : Fin 3840) (hR : R.val = r.val) (hC : C.val = 3584 + l.val) :
    (iblk m c 0 t : S256x128.Idx → EReal) (ix2 r l) = XA m c (ix2 R C) := by
  unfold XA
  blk_point [iblk, V, idx t]

theorem b_at (c : Dev nD) (t : Fin cfg0.N) (l C : Fin 128) (hC : C.val = l.val) :
    (iblk m c 1 t : S1x128.Idx → EReal) (ix2 0 l) = BA m c (ix2 0 C) := by
  unfold BA
  blk_point [iblk, V, idx t]

theorem point (c : Dev nD) (t : Fin cfg0.N) (y z : S256x8.Idx) (z0 : (z 0).val = (y 0).val) (z1 : (z 1).val = (y 1).val) :
    k0_pay1 (iblk m c 0 t) (iblk m c 1 t) y = G m c z := by
  have y1 : (y 1).val < 8 := (y 1).isLt
  refine (pay_eq _ _ y (by omega)).trans (congrArg lsoft (congrArg₂ (· + ·) (x_at m c t _ _ _ _ z0 ?_) (b_at m c t _ _ ?_)))
  · show (3600 + (z 1).val) % 3840 = 3584 + (16 + (y 1).val); omega
  · show (16 + (z 1).val) % 128 = 16 + (y 1).val; omega

theorem final (c : Dev nD) : (dats m 0 c).arrAt 2 cfg0.N = G m c := by
  refine (dats m 0 c).arrAt_eq_of_covers 2 _ (by decide +kernel) fun t hf y => ?_
  rw [after0_2]
  frame_out
  refine point m c t _ _ ?_ ?_
  · blk_simp [idx t]
  · blk_simp [idx t]

/-- The gate call and its reference give equal results. -/
theorem algebraic : Cert.algebraic_Kernel5Ideal_Reference5Ideal := by
  pair_intro
  · run_from (run_blocks m g)
  · run_from Cert.Reference5Ideal.Value.run m' g'
    funext i
    have i1 : (i 1).val < 8 := (i 1).isLt
    refine Eq.trans ?_ (congrFun (final m c) i).symm
    refine (Ref.lsig_eq (Ref.pre _ _) i).trans (congrArg lsoft ((Ref.pre_eq _ _ i (by omega) (by omega)).trans ?_))
    refine congrArg₂ (· + ·) (congrArg (XA m c) (congrArg (ix2 (i 0)) (Fin.ext ?_))) (congrArg (BA m c) (congrArg (ix2 0) (Fin.ext ?_)))
    · show 3600 + (i 1).val = (3600 + (i 1).val) % 3840; omega
    · show 16 + (i 1).val = (16 + (i 1).val) % 128; omega

end Cert.Gate

end
-- ==== Proof.ProjSAlg.lean ====
module

public import proofs.«01_k».proof.Defs
public import proofs.«01_k».proof.Proof.ProjValue
public import proofs.«01_k».proof.Proof.Gen.Kernel6Ideal.Value
public import proofs.«01_k».proof.Proof.Gen.Reference6Ideal.Run
public import Idealize.ShloMosaic.Lib.Claim
public import Idealize.ShloMosaic.Lib.Pipeline.ValueKit

@[expose] public section

set_option maxRecDepth 16384

noncomputable section

namespace Cert.ProjS.Ref

open Cert.Reference6Ideal Cert.Reference6Ideal.Gen Idealize.ShloMosaic Idealize.ShloMosaic.TcCoe Idealize.SL.Sem

/-- The reference's result as a function of its arguments. -/
abbrev REF (X : FVec Ideal S256x1024 .f32) (C S : FVec Ideal S1x256x1024 .f32) (G : FVec Ideal S1x1024 .f32) (W : FVec Ideal S1024x3840 .bf16) : FVec Ideal S256x3840 .f32 :=
  Host.dotGeneral dot_S256x1024_S1024x3840_S256x3840_1_0_0_1_n_n none (addf (mulf (mulf (mulf X (broadcastInDim S256x1024 ![0, 1] bcast_S256x1_S256x1024_0_1 (Host.rsqrt (addf (Host.divf (broadcastInDim S256x1 ![0] bcast_S256_S256x1_0 (Host.reduceAdd (mulf X X) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 G)) (addf (broadcastInDim S256x1024 ![] bcast_S_S256x1024 (constant S_ .f32 0x3F800000#32)) (shapeCast _ C shapeCasts_S1x256x1024_S256x1024))) (shapeCast _ S shapeCasts_S1x256x1024_S256x1024)) (extf .f32 W bitsLt_bf16_f32)

/-- The reference's result at an entry: the modulated row times the weights. -/
theorem ref_eq (X : FVec Ideal S256x1024 .f32) (C S : FVec Ideal S1x256x1024 .f32) (G : FVec Ideal S1x1024 .f32) (W : FVec Ideal S1024x3840 .bf16) (i : S256x3840.Idx) :
    REF X C S G W i = ∑ k : Fin 1024, Cert.Proj.modRow (fun k => X (ix2 (i 0) k)) (fun k => G (ix2 0 k)) (fun k => C (ix3 0 (i 0) k)) (fun k => S (ix3 0 (i 0) k)) k * W (ix2 k (i 1)) := by
  pointwise [REF, Cert.Proj.modRow]

end Cert.ProjS.Ref

namespace Cert.ProjS

open Cert.Kernel6Ideal Cert.Kernel6Ideal.Gen Cert.Kernel6Ideal.Value Idealize.ShloMosaic Idealize.ShloMosaic.TcCoe Idealize.SL.Sem
open Idealize.ShloMosaic.Pipeline (Dat)

variable (m : (ℓ : Loc nD τ sig) → Buf (Elt Ideal) ℓ)

/-- The block of each window at point `t`: every row, and columns' block `t`. -/
theorem idx : ∀ t : Fin cfg0.N, win0_0.index t = ![0, 0] ∧ win0_1.index t = ![0, 0, 0] ∧ win0_2.index t = ![0, 0, 0]
    ∧ win0_3.index t = ![0, 0] ∧ win0_4.index t = ![0, t.val] :=
  (by decide +kernel : ∀ t : Fin grid0.N, _)

/-- The modulated activations of row `R`, from the argument arrays: each row has its own scale and shift. -/
def H (c : Dev nD) (R : Fin 256) (k : Fin 1024) : EReal :=
  Cert.Proj.modRow (fun k => m ((c : Thread nD τ).loc main_arg0) (ix2 R k)) (fun k => m ((c : Thread nD τ).loc main_arg3) (ix2 0 k))
    (fun k => m ((c : Thread nD τ).loc main_arg1) (ix3 0 R k)) (fun k => m ((c : Thread nD τ).loc main_arg2) (ix3 0 R k)) k

/-- The first column block's point leaves the modulated rows in the carried scratch. -/
theorem resetH (c : Dev nD) (t : Fin cfg0.N) (acc : Vec Ideal S256x1280 .f32 × Vec Ideal S256x1024 .bf16) (ht : t.val % 3 = 0) (y : S256x1024.Idx)
    (R : Fin 256) (hR : R.val = (y 0).val) :
    (stAt0 m c t.val t.isLt acc).2 y = H m c R (y 1) := by
  have hN : t.val < 3 := lt_of_lt_of_eq t.isLt N_0
  rw [stAt0_A m c t acc ht (by omega)]
  dsimp only
  frame_out
  open_payloads
  pointwise [H, Cert.Proj.modRow]
  blk_point [iblk, V, idx t]

/-- The first column block's point leaves the modulated rows times its block of the weights in the output block. -/
theorem resetO (c : Dev nD) (t : Fin cfg0.N) (acc : Vec Ideal S256x1280 .f32 × Vec Ideal S256x1024 .bf16) (ht : t.val % 3 = 0) (y : S256x1280.Idx)
    (R : Fin 256) (hR : R.val = (y 0).val) (C : Fin 3840) (hC : C.val = t.val * 1280 + (y 1).val) :
    (stAt0 m c t.val t.isLt acc).1 y = ∑ k : Fin 1024, H m c R k * m ((c : Thread nD τ).loc main_arg4) (ix2 k C) := by
  have hN : t.val < 3 := lt_of_lt_of_eq t.isLt N_0
  rw [stAt0_A m c t acc ht (by omega)]
  dsimp only
  frame_out
  open_payloads
  pointwise [H, Cert.Proj.modRow]
  blk_point [iblk, V, idx t]

/-- A later column block's point multiplies the carried rows. -/
theorem stepO (c : Dev nD) (t : Fin cfg0.N) (acc : Vec Ideal S256x1280 .f32 × Vec Ideal S256x1024 .bf16) (ht : ¬t.val % 3 = 0) (y : S256x1280.Idx)
    (C : Fin 3840) (hC : C.val = t.val * 1280 + (y 1).val) :
    (stAt0 m c t.val t.isLt acc).1 y = ∑ k : Fin 1024, acc.2 (ix2 (y 0) k) * m ((c : Thread nD τ).loc main_arg4) (ix2 k C) := by
  have hN : t.val < 3 := lt_of_lt_of_eq t.isLt N_0
  rw [stAt0_B m c t acc ht (by omega)]
  dsimp only
  frame_out
  rw [(Memref.isWhole_whole cc0_scratch0).read_unread]
  pointwise [k0_pay4]
  blk_point [iblk, V, idx t]

/-- A later column block's point keeps the carried rows. -/
theorem stepH (c : Dev nD) (t : Fin cfg0.N) (acc : Vec Ideal S256x1280 .f32 × Vec Ideal S256x1024 .bf16) (ht : ¬t.val % 3 = 0) :
    (stAt0 m c t.val t.isLt acc).2 = acc.2 := by
  have hN : t.val < 3 := lt_of_lt_of_eq t.isLt N_0
  rw [stAt0_B m c t acc ht (by omega)]
  rfl

/-- What a point leaves, given that the point before left the rows of the same row block. -/
def Inv (c : Dev nD) (n : ℕ) (v : Vec Ideal S256x1280 .f32 × Vec Ideal S256x1024 .bf16) : Prop :=
  (∀ (y : S256x1024.Idx) (R : Fin 256), R.val = (y 0).val → v.2 y = H m c R (y 1))
    ∧ ∀ (y : S256x1280.Idx) (R : Fin 256) (C : Fin 3840), R.val = (y 0).val → C.val = n * 1280 + (y 1).val →
      v.1 y = ∑ k : Fin 1024, H m c R k * m ((c : Thread nD τ).loc main_arg4) (ix2 k C)

theorem inv_step (c : Dev nD) (n : ℕ) (hn : n < cfg0.N) (acc : Vec Ideal S256x1280 .f32 × Vec Ideal S256x1024 .bf16)
    (h : ¬n % 3 = 0 → Inv m c (n - 1) acc) : Inv m c n (stAt0 m c n hn acc) := by
  by_cases ht : n % 3 = 0
  · exact ⟨fun y R hR => resetH m c ⟨n, hn⟩ acc ht y R hR, fun y R C hR hC => resetO m c ⟨n, hn⟩ acc ht y R hR C hC⟩
  · have hN : n < 3 := lt_of_lt_of_eq hn N_0
    have ih := (h ht).1
    refine ⟨fun y R hR => ?_, fun y R C hR hC => ?_⟩
    · rw [stepH m c ⟨n, hn⟩ acc ht]; exact ih y R hR
    · rw [stepO m c ⟨n, hn⟩ acc ht y C hC]
      refine Finset.sum_congr rfl fun k _ => ?_
      rw [ih (ix2 (y 0) k) R hR]
      rfl

theorem inv (c : Dev nD) : ∀ (n : ℕ) (h : 0 + n < cfg0.N),
    Inv m c (0 + n) (Pipeline.accAt (fun n h => stAt0 m c n h junk0) (stAt0 m c) 0 n h)
  | 0, h => inv_step m c (0 + 0) h _ fun h => absurd rfl h
  | n + 1, h => by
    rw [Pipeline.accAt_succ]
    exact inv_step m c (0 + (n + 1)) h _ fun _ => inv c n (Nat.lt_of_succ_lt h)

/-- THE RESULT of the projection: each modulated row times the weights. -/
theorem out_eq (c : Dev nD) (i : S256x3840.Idx) :
    G5 m c i = ∑ k : Fin 1024, H m c (i 0) k * m ((c : Thread nD τ).loc main_arg4) (ix2 k (i 1)) := by
  have h0 : (i 0).val < 256 := (i 0).isLt
  have h1 : (i 1).val < 3840 := (i 1).isLt
  have hp : pt5Of i < cfg0.N := lt_of_lt_of_eq (by show 3 * ((i 0).val / 256 - 0) + 1 * ((i 1).val / 1280 - 0) < 3; omega) N_0.symm
  unfold G5
  rw [dif_pos hp]
  refine (inv m c (pt5Of i) (by omega)).2 (loc5Of i) (i 0) (i 1) ?_ ?_
  · show (i 0).val = (i 0).val % 256
    omega
  · show (i 1).val = (0 + (3 * ((i 0).val / 256 - 0) + 1 * ((i 1).val / 1280 - 0))) * 1280 + (i 1).val % 1280
    omega

/-- The projection and its reference give equal results. -/
theorem algebraic : Cert.algebraic_Kernel6Ideal_Reference6Ideal := by
  pair_intro
  · run_from Cert.Kernel6Ideal.Value.run m g
  · run_from Cert.Reference6Ideal.Value.run m' g'
    funext i
    exact (Ref.ref_eq _ _ _ _ _ i).trans (out_eq m c i).symm

end Cert.ProjS

end
-- ==== Proof.GmlpAlg.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

namespace Cert.Gmlp

open Idealize.ShloMosaic

/-- The mean of a row of 512 lanes. -/
def mean (x : Fin 512 → EReal) : EReal := Ideal.div (∑ j : Fin 512, x j) (Ideal.ofBits FTy.f32 1140850688#32)

/-- The layer normalisation of a row with the weights `g` and the bias `b`, at lane `k`. -/
def lnRow (x g b : Fin 512 → EReal) (k : Fin 512) : EReal :=
  (x k - mean x) * Ideal.rsqrt (Ideal.div (∑ j : Fin 512, (x j - mean x) * (x j - mean x)) (Ideal.ofBits FTy.f32 1140850688#32) + Ideal.ofBits FTy.f32 897988541#32) * g k + b k

/-- Equal arguments give equal entries of `lnRow`. -/
theorem lnRow_congr {x x' g g' b b' : Fin 512 → EReal} {k k' : Fin 512} (h0 : ∀ k, x k = x' k) (h1 : ∀ k, g k = g' k) (h2 : ∀ k, b k = b' k) (hk : k = k') :
    lnRow x g b k = lnRow x' g' b' k' := by
  obtain rfl : x = x' := funext h0
  obtain rfl : g = g' := funext h1
  obtain rfl : b = b' := funext h2
  rw [hk]

end Cert.Gmlp

namespace Cert.Gmlp.Ref

open Cert.Reference7Ideal Cert.Reference7Ideal.Gen Idealize.ShloMosaic Idealize.ShloMosaic.TcCoe Idealize.SL.Sem

/-- The reference's row means. -/
def avg (Y : FVec Ideal S256x512 .f32) : FVec Ideal S256x1 .f32 :=
  Host.divf (broadcastInDim S256x1 ![0] bcast_S256_S256x1_0 (Host.reduceAdd Y (constant S_ .f32 0x00000000#32) reducesTo_S256x512_S256_d1 h_S_)) (broadcastInDim S256x1 ![] bcast_S_S256x1 (constant S_ .f32 0x44000000#32))

/-- The reference's rows less their means. -/
def cen (Y : FVec Ideal S256x512 .f32) : FVec Ideal S256x512 .f32 :=
  subf Y (broadcastInDim S256x512 ![0, 1] bcast_S256x1_S256x512_0_1 (avg Y))

/-- The reference's gate columns. -/
def vcol (X : FVec Ideal S256x2816 .f32) : FVec Ideal S256x512 .f32 :=
  extractStridedSlice S256x512 ![0, 2048] X slices_S256x2816_S256x512_0_2048

/-- The reference's result as a function of its arguments. -/
def refOf (X : FVec Ideal S256x2816 .f32) (g b : FVec Ideal S1x512 .f32) : FVec Ideal S256x512 .f32 :=
  addf (mulf (mulf (cen (vcol X)) (broadcastInDim S256x512 ![0, 1] bcast_S256x1_S256x512_0_1 (Host.rsqrt (addf (avg (mulf (cen (vcol X)) (cen (vcol X)))) (broadcastInDim S256x1 ![] bcast_S_S256x1 (constant S_ .f32 0x358637BD#32)))))) (broadcastInDim S256x512 ![0, 1] bcast_S1x512_S256x512_0_1 g)) (broadcastInDim S256x512 ![0, 1] bcast_S1x512_S256x512_0_1 b)

/-- The reference's result, row by row. -/
theorem ref_eq (X : FVec Ideal S256x2816 .f32) (g b : FVec Ideal S1x512 .f32) (r : Fin 256) (k : Fin 512) :
    refOf X g b (ix2 r k) = lnRow (fun l => X (ix2 r ⟨2048 + l.val, by omega⟩)) (fun l => g (ix2 0 l)) (fun l => b (ix2 0 l)) k := by
  pointwise [refOf, cen, avg, vcol, lnRow, mean]

end Cert.Gmlp.Ref

namespace Cert.Gmlp

open Cert.Kernel7Ideal Cert.Kernel7Ideal.Gen Cert.Kernel7Ideal.Value Idealize.ShloMosaic Idealize.ShloMosaic.TcCoe Idealize.SL.Sem
open Idealize.ShloMosaic.Pipeline (Dat)

/-- What the body stores in the normalised rows, row by row. -/
theorem pay_eq (x : Vec Ideal S32x512 .f32) (g b : Vec Ideal S1x512 .f32) (y : S32x512.Idx) :
    k0_pay4 x g b y = lnRow (fun l => x (ix2 (y 0) l)) (fun l => g (ix2 0 l)) (fun l => b (ix2 0 l)) (y 1) := by
  pointwise [k0_pay4, lnRow, mean]

variable (m : (ℓ : Loc nD τ sig) → Buf (Elt Ideal) ℓ)

/-- The columns, the weights and the bias, at launch. -/
def XA (c : Dev nD) : S256x2816.Idx → EReal := m ((c : Thread nD τ).loc main_arg0)
def GA (c : Dev nD) : S1x512.Idx → EReal := m ((c : Thread nD τ).loc main_arg1)
def BA (c : Dev nD) : S1x512.Idx → EReal := m ((c : Thread nD τ).loc main_arg2)

/-- The result: the normalised rows of the gate columns. -/
def G (c : Dev nD) (i : S256x512.Idx) : EReal :=
  lnRow (fun l => XA m c (ix2 (i 0) ⟨2048 + l.val, by omega⟩)) (fun l => GA m c (ix2 0 l)) (fun l => BA m c (ix2 0 l)) (i 1)

theorem idx : ∀ t : Fin cfg0.N, win0_0.index t = ![t.val, 3] ∧ win0_1.index t = ![t.val, 4] ∧ win0_2.index t = ![0, 0] ∧ win0_3.index t = ![0, 0] ∧ win0_7.index t = ![t.val, 0] :=
  (by decide +kernel : ∀ t : Fin grid0.N, _)

/-- The blocks' entries, as entries of the arguments. -/
theorem x_at (c : Dev nD) (t : Fin cfg0.N) (r : Fin 32) (l : Fin 512) (R : Fin 256) (C : Fin 2816) (hR : R.val = t.val * 32 + r.val) (hC : C.val = 2048 + l.val) :
    (X0_1 m c t : S32x512.Idx → EReal) (ix2 r l) = XA m c (ix2 R C) := by
  unfold X0_1 Pipeline.Window.fill
  rw [dif_pos (moved0_1 t (ix2 r l))]
  refine (congrFun (V_main_arg0 m c) _).trans ?_
  unfold XA
  blk_point [idx t]

theorem g_at (c : Dev nD) (t : Fin cfg0.N) (l : Fin 512) : (iblk m c 2 t : S1x512.Idx → EReal) (ix2 0 l) = GA m c (ix2 0 l) := by
  refine (congrFun (V_main_arg1 m c) _).trans ?_
  unfold GA
  blk_point [idx t]

theorem b_at (c : Dev nD) (t : Fin cfg0.N) (l : Fin 512) : (iblk m c 3 t : S1x512.Idx → EReal) (ix2 0 l) = BA m c (ix2 0 l) := by
  refine (congrFun (V_main_arg2 m c) _).trans ?_
  unfold BA
  blk_point [idx t]

theorem point (c : Dev nD) (t : Fin cfg0.N) (y : S32x512.Idx) (z : S256x512.Idx) (z0 : (z 0).val = t.val * 32 + (y 0).val) (z1 : (z 1).val = (y 1).val) :
    k0_pay4 (X0_1 m c t) (iblk m c 2 t) (iblk m c 3 t) y = G m c z := by
  refine (pay_eq _ _ _ y).trans (lnRow_congr (fun l => x_at m c t _ l _ _ z0 rfl) (fun l => g_at m c t l) (fun l => b_at m c t l) (Fin.ext z1.symm))

/-- What a point leaves in the normalised rows' block. -/
theorem left (c : Dev nD) (t : Fin cfg0.N) (y : S32x512.Idx) :
    (outsAt0 m c t).2 y = k0_pay4 (X0_1 m c t) (iblk m c 2 t) (iblk m c 3 t) y := by
  unfold outsAt0
  dsimp only
  frame_out

theorem final (c : Dev nD) : (dats m 0 c).arrAt 7 cfg0.N = G m c := by
  refine (dats m 0 c).arrAt_eq_of_covers 7 _ (by decide +kernel) fun t hf y => ?_
  rw [after0_7]
  refine (left m c t _).trans (point m c t _ _ ?_ ?_)
  · blk_simp [idx t]
  · blk_simp [idx t]

/-- The mixer's normalised rows and their reference are equal. -/
theorem algebraic : Cert.algebraic_Kernel7Ideal_Reference7Ideal := by
  pair_intro
  · run_from (run_blocks m g)
  · run_from Cert.Reference7Ideal.Value.run m' g'
    funext i
    refine Eq.trans ?_ (congrFun (final m c) i).symm
    have hi : i = ix2 (i 0) (i 1) := by funext d; match d with | ⟨0, _⟩ => rfl | ⟨1, _⟩ => rfl
    rw [hi]
    exact Ref.ref_eq _ _ _ (i 0) (i 1)

end Cert.Gmlp

end
-- ==== Proof.MlpSValue.lean ====
module

public import proofs.«01_k».proof.Proof.Gen.Kernel8Ideal.Value
public import proofs.«01_k».proof.Proof.MlpRows
public import Idealize.ShloMosaic.Lib.Pipeline.ValueKit

@[expose] public section

set_option maxRecDepth 16384

noncomputable section

namespace Cert.MlpS

open Cert.Kernel8Ideal Cert.Kernel8Ideal.Gen Cert.Kernel8Ideal.Value Idealize.ShloMosaic Idealize.ShloMosaic.TcCoe Idealize.SL.Sem
open Idealize.ShloMosaic.Pipeline (Dat)
open Cert.Mlp (rmsRow mlpRow x1Row xmRow outRow x1Row_congr xmRow_congr mlpRow_congr outRow_congr)

/-! The layer's second half on the sample: one block of 256 rows, every row with its own modulation, the hidden features in four
    blocks of 1024. The row functions are those of the prompt's call. -/

/-! ## What each stored value is, row by row -/

/-- The residual rows. -/
theorem x1 (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x256x1024 .f32) (v6 : Vec Ideal S1x1024 .f32) (y : S256x1024.Idx) :
    k0_pay6 v0 v1 v2 v3 v4 v5 v6 y = x1Row (fun e => v0 (ix2 (y 0) e)) (fun e k => v1 (ix2 e k)) (fun e => v2 (ix2 (y 0) e)) (fun e k => v3 (ix2 e k)) (fun k => v4 (ix2 (y 0) k)) (fun k => v5 (ix3 0 (y 0) k)) (fun k => v6 (ix2 0 k)) (y 1) := by
  pointwise [k0_pay6, x1Row, rmsRow]

/-- The residual rows, as they are stored. -/
theorem x1s (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x256x1024 .f32) (v6 : Vec Ideal S1x1024 .f32) (y : S256x1024.Idx) : k0_pay7 v0 v1 v2 v3 v4 v5 v6 y = k0_pay6 v0 v1 v2 v3 v4 v5 v6 y := by
  pointwise [k0_pay7]

/-- The modulated rows over the residual rows. -/
theorem xm (v0 : Vec Ideal S256x512 .f32) (v1 : Vec Ideal S512x1024 .bf16) (v2 : Vec Ideal S256x512 .f32) (v3 : Vec Ideal S512x1024 .bf16) (v4 : Vec Ideal S256x1024 .f32) (v5 : Vec Ideal S1x256x1024 .f32) (v6 : Vec Ideal S1x1024 .f32) (g : Vec Ideal S1x1024 .f32) (sc sh : Vec Ideal S1x256x1024 .f32) (y : S256x1024.Idx) :
    k0_pay1 (k0_pay6 v0 v1 v2 v3 v4 v5 v6) g (k0_pay8 v0 v1 v2 v3 v4 v5 v6) sc sh y = xmRow (fun k => k0_pay6 v0 v1 v2 v3 v4 v5 v6 (ix2 (y 0) k)) (fun k => g (ix2 0 k)) (fun k => sc (ix3 0 (y 0) k)) (fun k => sh (ix3 0 (y 0) k)) (y 1) := by
  pointwise [k0_pay1, k0_pay8, xmRow, rmsRow]

/-- The modulated rows, as they are stored. -/
theorem xms (x : FVec Ideal S256x1024 .f32) (s : FVec Ideal S256x1 .f32) (g : Vec Ideal S1x1024 .f32) (sc sh : Vec Ideal S1x256x1024 .f32) (y : S256x1024.Idx) : k0_pay2 x g s sc sh y = k0_pay1 x g s sc sh y := by
  pointwise [k0_pay2]

/-- The first hidden block over the modulated rows. -/
theorem ac (x : FVec Ideal S256x1024 .f32) (s : FVec Ideal S256x1 .f32) (g : Vec Ideal S1x1024 .f32) (sc sh : Vec Ideal S1x256x1024 .f32) (wu wd : Vec Ideal S1x1024x1024 .bf16) (y : S256x1024.Idx) :
    k0_pay3 x g s sc sh wu wd y = mlpRow (n := 1024) (fun e => k0_pay1 x g s sc sh (ix2 (y 0) e)) (fun e f => wu (ix3 0 e f)) (fun f k => wd (ix3 0 f k)) (y 1) := by
  pointwise [k0_pay3, mlpRow]

/-- A middle hidden block is added to what was accumulated. -/
theorem mid (a : Vec Ideal S256x1024 .f32) (x : Vec Ideal S256x1024 .bf16) (wu wd : Vec Ideal S1x1024x1024 .bf16) (y : S256x1024.Idx) :
    k0_pay4 a x wu wd y = a y + mlpRow (n := 1024) (fun e => x (ix2 (y 0) e)) (fun e f => wu (ix3 0 e f)) (fun f k => wd (ix3 0 f k)) (y 1) := by
  pointwise [k0_pay4, mlpRow]

/-- The last hidden block, and the output rows. -/
theorem out (a : Vec Ideal S256x1024 .f32) (x : Vec Ideal S256x1024 .bf16) (wu wd : Vec Ideal S1x1024x1024 .bf16) (x1 : Vec Ideal S256x1024 .f32) (gt : Vec Ideal S1x256x1024 .f32) (g : Vec Ideal S1x1024 .f32) (y : S256x1024.Idx) :
    k0_pay5 a x wu wd x1 gt g y = outRow (fun k => x1 (ix2 (y 0) k)) (fun k => gt (ix3 0 (y 0) k)) (fun k => a (ix2 (y 0) k) + mlpRow (n := 1024) (fun e => x (ix2 (y 0) e)) (fun e f => wu (ix3 0 e f)) (fun f k => wd (ix3 0 f k)) k) (fun k => g (ix2 0 k)) (y 1) := by
  pointwise [k0_pay5, mlpRow, outRow, rmsRow]

/-! ## What the points leave -/

variable (m : (ℓ : Loc nD τ sig) → Buf (Elt Ideal) ℓ)

/-- What a point leaves: the output rows, the residual rows, the modulated rows, the accumulated rows. -/
abbrev St : Type := Vec Ideal S256x1024 .f32 × Vec Ideal S256x1024 .f32 × Vec Ideal S256x1024 .bf16 × Vec Ideal S256x1024 .f32

/-- The block of each window at point `t`: only the hidden features' block, `t % 4`, moves. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0]
    ∧ win0_7.index t = ![0, 0] ∧ win0_8.index t = ![0, 0] ∧ win0_9.index t = ![0, 0] ∧ win0_10.index t = ![0, 0] ∧ win0_11.index t = ![1, 0]
    ∧ win0_12.index t = ![3, 0, t.val % 4] ∧ win0_13.index t = ![3, t.val % 4, 0] :=
  (by decide +kernel : ∀ t : Fin grid0.N, _)

/-- The arguments of the layer. -/
structure Args where
  oa : S256x512.Idx → EReal
  ob : S256x512.Idx → EReal
  x : S256x1024.Idx → EReal
  gt1 : S1x256x1024.Idx → EReal
  sc : S1x256x1024.Idx → EReal
  sh : S1x256x1024.Idx → EReal
  gt2 : S1x256x1024.Idx → EReal
  g1 : S1x1024.Idx → EReal
  g2 : S1x1024.Idx → EReal
  g3 : S1x1024.Idx → EReal
  wo : S1024x1024.Idx → EReal
  wu : S4x1024x4096.Idx → EReal
  wd : S4x4096x1024.Idx → EReal

/-- The arguments at launch. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7), m ((c : Thread nD τ).loc main_arg8), m ((c : Thread nD τ).loc main_arg9),
    m ((c : Thread nD τ).loc main_arg10), m ((c : Thread nD τ).loc main_arg11), m ((c : Thread nD τ).loc main_arg12)⟩

/-- Residual row `R` after the mixer. -/
def X1 (a : Args) (R : Fin 256) : Fin 1024 → EReal :=
  x1Row (fun e => a.oa (ix2 R e)) (fun e k => a.wo (ix2 ⟨e.val, by omega⟩ k)) (fun e => a.ob (ix2 R e)) (fun e k => a.wo (ix2 ⟨512 + e.val, by omega⟩ k))
    (fun k => a.x (ix2 R k)) (fun k => a.gt1 (ix3 0 R k)) (fun k => a.g1 (ix2 0 k))

/-- Modulated row `R`. -/
def XM (a : Args) (R : Fin 256) : Fin 1024 → EReal :=
  xmRow (X1 a R) (fun k => a.g2 (ix2 0 k)) (fun k => a.sc (ix3 0 R k)) (fun k => a.sh (ix3 0 R k))

/-- What the block `b` of 1024 hidden features adds to row `R`. -/
def part (a : Args) (R : Fin 256) (b : Fin 4) : Fin 1024 → EReal :=
  mlpRow (n := 1024) (XM a R) (fun e f => a.wu (ix3 3 e ⟨b.val * 1024 + f.val, by omega⟩)) (fun f k => a.wd (ix3 3 ⟨b.val * 1024 + f.val, by omega⟩ k))

/-- The first hidden block's point leaves the residual rows. -/
theorem resetX1 (c : Dev nD) (t : Fin cfg0.N) (acc : St) (h0 : t.val % 4 = 0) (y : S256x1024.Idx) :
    (stAt0 m c t.val t.isLt acc).2.1 y = X1 (args m c) (y 0) (y 1) := by
  have hN : t.val < 4 := lt_of_lt_of_eq t.isLt N_0
  rw [stAt0_A m c t acc h0 (by omega) (by omega)]
  dsimp only
  frame_out
  rw [x1s, x1]
  refine x1Row_congr ?_ ?_ ?_ ?_ ?_ ?_ ?_ rfl
  all_goals (intros; pointwise [args] <;> blk_point [iblk, V, idx t])

/-- The first hidden block's point leaves the modulated rows. -/
theorem resetXM (c : Dev nD) (t : Fin cfg0.N) (acc : St) (h0 : t.val % 4 = 0) (y : S256x1024.Idx) :
    (stAt0 m c t.val t.isLt acc).2.2.1 y = XM (args m c) (y 0) (y 1) := by
  have hN : t.val < 4 := lt_of_lt_of_eq t.isLt N_0
  rw [stAt0_A m c t acc h0 (by omega) (by omega)]
  dsimp only
  frame_out
  rw [xms, xm]
  refine xmRow_congr (fun k => ?_) ?_ ?_ ?_ rfl
  · rw [x1]
    refine x1Row_congr ?_ ?_ ?_ ?_ ?_ ?_ ?_ rfl
    all_goals (intros; pointwise [args] <;> blk_point [iblk, V, idx t])
  all_goals (intros; pointwise [args] <;> blk_point [iblk, V, idx t])

/-- The first hidden block's point leaves that block's part. -/
theorem resetAcc (c : Dev nD) (t : Fin cfg0.N) (acc : St) (h0 : t.val % 4 = 0) (y : S256x1024.Idx) :
    (stAt0 m c t.val t.isLt acc).2.2.2 y = part (args m c) (y 0) 0 (y 1) := by
  have hN : t.val < 4 := lt_of_lt_of_eq t.isLt N_0
  rw [stAt0_A m c t acc h0 (by omega) (by omega)]
  dsimp only
  frame_out
  rw [ac]
  refine mlpRow_congr (fun k => ?_) ?_ ?_ rfl
  · rw [xm]
    refine xmRow_congr (fun k => ?_) ?_ ?_ ?_ rfl
    · rw [x1]
      refine x1Row_congr ?_ ?_ ?_ ?_ ?_ ?_ ?_ rfl
      all_goals (intros; pointwise [args] <;> blk_point [iblk, V, idx t])
    all_goals (intros; pointwise [args] <;> blk_point [iblk, V, idx t])
  all_goals (intros; pointwise [args] <;> blk_point [iblk, V, idx t])

/-- Later points keep the residual rows. -/
theorem midX1 (c : Dev nD) (t : Fin cfg0.N) (acc : St) (h0 : ¬ t.val % 4 = 0) : (stAt0 m c t.val t.isLt acc).2.1 = acc.2.1 := by
  by_cases h3 : t.val % 4 = 3
  · rw [stAt0_C m c t acc h0 (by omega) h3]; rfl
  · rw [stAt0_B m c t acc h0 (by omega) h3]; rfl

/-- Later points keep the modulated rows. -/
theorem midXM (c : Dev nD) (t : Fin cfg0.N) (acc : St) (h0 : ¬ t.val % 4 = 0) : (stAt0 m c t.val t.isLt acc).2.2.1 = acc.2.2.1 := by
  by_cases h3 : t.val % 4 = 3
  · rw [stAt0_C m c t acc h0 (by omega) h3]; rfl
  · rw [stAt0_B m c t acc h0 (by omega) h3]; rfl

/-- A middle point adds its hidden block's part. -/
theorem midAcc (c : Dev nD) (t : Fin cfg0.N) (acc : St) (h0 : ¬ t.val % 4 = 0) (h3 : ¬ t.val % 4 = 3) (y : S256x1024.Idx)
    (hx : ∀ e : Fin 1024, acc.2.2.1 (ix2 (y 0) e) = XM (args m c) (y 0) e) (b : Fin 4) (hb : b.val = t.val % 4) :
    (stAt0 m c t.val t.isLt acc).2.2.2 y = acc.2.2.2 y + part (args m c) (y 0) b (y 1) := by
  have hN : t.val < 4 := lt_of_lt_of_eq t.isLt N_0
  rw [stAt0_B m c t acc h0 (by omega) h3]
  dsimp only
  frame_out
  rw [mid, (Memref.isWhole_whole cc0_scratch1).read_unread, (Memref.isWhole_whole cc0_scratch2).read_unread]
  refine congrArg₂ (· + ·) rfl (mlpRow_congr hx ?_ ?_ rfl)
  all_goals intros; pointwise [args] <;> blk_point [iblk, V, idx t]

/-- The last point adds its hidden block's part and leaves the output rows. -/
theorem lastOut (c : Dev nD) (t : Fin cfg0.N) (acc : St) (h3 : t.val % 4 = 3) (y : S256x1024.Idx)
    (hx : ∀ e : Fin 1024, acc.2.2.1 (ix2 (y 0) e) = XM (args m c) (y 0) e) (hx1 : ∀ e : Fin 1024, acc.2.1 (ix2 (y 0) e) = X1 (args m c) (y 0) e) :
    (stAt0 m c t.val t.isLt acc).1 y = outRow (X1 (args m c) (y 0)) (fun k => (args m c).gt2 (ix3 0 (y 0) k)) (fun k => acc.2.2.2 (ix2 (y 0) k) + part (args m c) (y 0) 3 k) (fun k => (args m c).g3 (ix2 0 k)) (y 1) := by
  have hN : t.val < 4 := lt_of_lt_of_eq t.isLt N_0
  rw [stAt0_C m c t acc (by omega) (by omega) h3]
  dsimp only
  frame_out
  simp only [(Memref.isWhole_whole cc0_scratch0).read_unread, (Memref.isWhole_whole cc0_scratch1).read_unread, (Memref.isWhole_whole cc0_scratch2).read_unread]
  rw [out]
  refine outRow_congr hx1 ?_ (fun k => congrArg₂ (· + ·) rfl (mlpRow_congr hx ?_ ?_ rfl)) ?_ rfl
  all_goals (intros; pointwise [args] <;> blk_point [iblk, V, idx t])

/-! ## The four points together -/

/-- What row `R` has accumulated after the hidden blocks `0 … q`. -/
def partsTo (a : Args) (R : Fin 256) (q : ℕ) (k : Fin 1024) : EReal :=
  match q with
  | 0 => part a R 0 k
  | 1 => part a R 0 k + part a R 1 k
  | _ => part a R 0 k + part a R 1 k + part a R 2 k

/-- The layer's output row `R`. -/
def OUT (a : Args) (R : Fin 256) : Fin 1024 → EReal :=
  outRow (X1 a R) (fun k => a.gt2 (ix3 0 R k)) (fun k => part a R 0 k + part a R 1 k + part a R 2 k + part a R 3 k) (fun k => a.g3 (ix2 0 k))

/-- What holds after point `n`: the residual and modulated rows, the hidden blocks accumulated so far, and at the last of them the
    output rows. -/
def Inv (c : Dev nD) (n : ℕ) (v : St) : Prop :=
  ∀ y : S256x1024.Idx,
    v.2.1 y = X1 (args m c) (y 0) (y 1) ∧ v.2.2.1 y = XM (args m c) (y 0) (y 1) ∧ (¬ n % 4 = 3 → v.2.2.2 y = partsTo (args m c) (y 0) (n % 4) (y 1))
      ∧ (n % 4 = 3 → v.1 y = OUT (args m c) (y 0) (y 1))

/-- One point keeps the invariant. -/
theorem inv_step (c : Dev nD) (n : ℕ) (hn : n < cfg0.N) (acc : St) (h : ¬n % 4 = 0 → Inv m c (n - 1) acc) : Inv m c n (stAt0 m c n hn acc) := by
  intro y
  by_cases ht : n % 4 = 0
  · refine ⟨resetX1 m c ⟨n, hn⟩ acc ht y, resetXM m c ⟨n, hn⟩ acc ht y, fun _ => ?_, fun h => by omega⟩
    rw [resetAcc m c ⟨n, hn⟩ acc ht y, ht]; rfl
  · have ih := h ht
    have e : ∀ k : Fin 1024, _ := fun k => ih (ix2 (y 0) k)
    have e0 := ih y
    refine ⟨?_, ?_, fun h3 => ?_, fun h3 => ?_⟩
    · rw [midX1 m c ⟨n, hn⟩ acc ht]; exact e0.1
    · rw [midXM m c ⟨n, hn⟩ acc ht]; exact e0.2.1
    · rw [midAcc m c ⟨n, hn⟩ acc ht h3 y (fun k => (e k).2.1) ⟨n % 4, by omega⟩ rfl, e0.2.2.1 (by omega)]
      rcases (by omega : n % 4 = 1 ∨ n % 4 = 2) with h1 | h1
      · simp only [h1, show (n - 1) % 4 = 0 by omega]; rfl
      · simp only [h1, show (n - 1) % 4 = 1 by omega]; rfl
    · rw [lastOut m c ⟨n, hn⟩ acc h3 y (fun k => (e k).2.1) (fun k => (e k).1)]
      refine outRow_congr (fun _ => rfl) (fun _ => rfl) (fun k => ?_) (fun _ => rfl) rfl
      rw [(e k).2.2.1 (by omega), show (n - 1) % 4 = 2 by omega]; rfl

/-- The invariant at every point. -/
theorem inv (c : Dev nD) : ∀ (n : ℕ) (h : 0 + n < cfg0.N),
    Inv m c (0 + n) (Pipeline.accAt (fun n h => stAt0 m c n h junk0) (stAt0 m c) 0 n h)
  | 0, h => inv_step m c (0 + 0) h _ fun h => absurd rfl h
  | n + 1, h => by
    rw [Pipeline.accAt_succ]
    exact inv_step m c (0 + (n + 1)) h _ fun _ => inv c n (Nat.lt_of_succ_lt h)

/-- The kernel's result: every row is the layer's output row. -/
theorem out_eq (c : Dev nD) (i : S256x1024.Idx) : G14 m c i = OUT (args m c) (i 0) (i 1) := by
  have h0 : (i 0).val < 256 := (i 0).isLt
  have h1 : (i 1).val < 1024 := (i 1).isLt
  have hp : pt14Of i < cfg0.N := lt_of_lt_of_eq (by show 4 * (1 * ((i 0).val / 256 - 0) + 1 * ((i 1).val / 1024 - 0)) + 3 < 4; omega) N_0.symm
  unfold G14
  rw [dif_pos hp]
  have e0 : (loc14Of i) 0 = i 0 := Fin.ext (by show (i 0).val % 256 = (i 0).val; omega)
  have e1 : (loc14Of i) 1 = i 1 := Fin.ext (by show (i 1).val % 1024 = (i 1).val; omega)
  rw [← e0, ← e1]
  refine (inv m c (pt14Of i) (by omega) (loc14Of i)).2.2.2 ?_
  show (0 + (4 * (1 * ((i 0).val / 256 - 0) + 1 * ((i 1).val / 1024 - 0)) + 3)) % 4 = 3
  omega

end Cert.MlpS

end
-- ==== Proof.MlpSAlg.lean ====
module

public import proofs.«01_k».proof.Defs
public import proofs.«01_k».proof.Proof.MlpAlg
public import proofs.«01_k».proof.Proof.MlpSValue
public import proofs.«01_k».proof.Proof.Gen.Reference8Ideal.Run
public import Idealize.ShloMosaic.Lib.Claim

@[expose] public section

set_option maxRecDepth 16384

noncomputable section

namespace Cert.MlpS.Ref

open Cert.Reference8Ideal Cert.Reference8Ideal.Gen Idealize.ShloMosaic Idealize.ShloMosaic.TcCoe Idealize.SL.Sem
open Cert.Mlp (rmsRow mlpRow)

/-- Rows of 1024 lanes. -/
abbrev B2 : Type := FVec Ideal S256x1024 .f32

/-- The reference's normalisation over the last axis. -/
def rms (Y : FVec Ideal S256x1024 .f32) (g : FVec Ideal S1x1024 .f32) : B2 :=
  mulf (mulf Y (broadcastInDim S256x1024 ![0, 1] bcast_S256x1_S256x1024_0_1 (Host.rsqrt (addf (Host.divf (broadcastInDim S256x1 ![0] bcast_S256_S256x1_0 (Host.reduceAdd (mulf Y Y) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 g)

/-- The reference's output projection of the two halves of the heads. -/
def proj (oa : FVec Ideal S256x512 .f32) (ob : FVec Ideal S256x512 .f32) (wo : FVec Ideal S1024x1024 .bf16) : B2 :=
  Host.dotGeneral dot_S256x1024_S1024x1024_S256x1024_1_0_0_1_n_n none (concatenate S256x1024 1 [⟨S256x512, oa⟩, ⟨S256x512, ob⟩] concatenates_S256x512_S256x512_S256x1024_d1) (extf .f32 wo bitsLt_bf16_f32)

/-- The reference's gated sum. -/
def res (X : FVec Ideal S256x1024 .f32) (gt : FVec Ideal S1x256x1024 .f32) (Y : FVec Ideal S256x1024 .f32) : B2 :=
  addf X (mulf (shapeCast _ gt shapeCasts_S1x256x1024_S256x1024) Y)

/-- The reference's modulated rows. -/
def modu (Y : FVec Ideal S256x1024 .f32) (sc : FVec Ideal S1x256x1024 .f32) (sh : FVec Ideal S1x256x1024 .f32) : B2 :=
  addf (mulf Y (addf (broadcastInDim S256x1024 ![] bcast_S_S256x1024 (constant S_ .f32 0x3F800000#32)) (shapeCast _ sc shapeCasts_S1x256x1024_S256x1024))) (shapeCast _ sh shapeCasts_S1x256x1024_S256x1024)

/-- The reference's hidden features before squaring. -/
def hid (X : FVec Ideal S256x1024 .f32) (wu : FVec Ideal S4x1024x4096 .bf16) : FVec Ideal S256x4096 .f32 :=
  maximumf (Host.dotGeneral dot_S256x1024_S1024x4096_S256x4096_1_0_0_1_n_n none X (extf .f32 (shapeCast _ (extractStridedSlice S1x1024x4096 ![3, 0, 0] wu slices_S4x1024x4096_S1x1024x4096_3_0_0) shapeCasts_S1x1024x4096_S1024x4096) bitsLt_bf16_f32)) (broadcastInDim S256x4096 ![] bcast_S_S256x4096 (constant S_ .f32 0x00000000#32))

/-- The reference's feed-forward layer. -/
def ffn (X : FVec Ideal S256x1024 .f32) (wu : FVec Ideal S4x1024x4096 .bf16) (wd : FVec Ideal S4x4096x1024 .bf16) : B2 :=
  Host.dotGeneral dot_S256x4096_S4096x1024_S256x1024_1_0_0_1_n_n none (mulf (hid X wu) (hid X wu)) (extf .f32 (shapeCast _ (extractStridedSlice S1x4096x1024 ![3, 0, 0] wd slices_S4x4096x1024_S1x4096x1024_3_0_0) shapeCasts_S1x4096x1024_S4096x1024) bitsLt_bf16_f32)

/-- The normalisation, row by row. -/
theorem rms_eq (Y : FVec Ideal S256x1024 .f32) (g : FVec Ideal S1x1024 .f32) (r : Fin 256) (k : Fin 1024) : rms Y g (ix2 r k) = rmsRow (fun k => Y (ix2 r k)) (fun k => g (ix2 0 k)) k := by
  pointwise [rms, rmsRow]

/-- A row of the output projection: the two halves' sums. -/
theorem proj_eq (oa : FVec Ideal S256x512 .f32) (ob : FVec Ideal S256x512 .f32) (wo : FVec Ideal S1024x1024 .bf16) (r : Fin 256) (k : Fin 1024) :
    proj oa ob wo (ix2 r k) = (∑ e : Fin 512, oa (ix2 r e) * wo (ix2 ⟨e.val, by omega⟩ k)) + ∑ e : Fin 512, ob (ix2 r e) * wo (ix2 ⟨512 + e.val, by omega⟩ k) := by
  have h : proj oa ob wo (ix2 r k) = ∑ e : Fin 1024, (concatenate S256x1024 1 [⟨S256x512, oa⟩, ⟨S256x512, ob⟩] concatenates_S256x512_S256x512_S256x1024_d1 : FVec Ideal S256x1024 .f32) (ix2 r e) * wo (ix2 e k) := by
    pointwise [proj]
  rw [h]
  refine (Fin.sum_univ_add (a := 512) (b := 512) _).trans (congrArg₂ (· + ·) (Finset.sum_congr rfl fun e _ => congrArg₂ (· * ·) ?_ rfl) (Finset.sum_congr rfl fun e _ => congrArg₂ (· * ·) ?_ rfl))
  · pointwise
    rw [dif_pos (show (Fin.castAdd 512 e).val < 512 from e.isLt)]
    rfl
  · pointwise
    rw [dif_neg (show ¬ (Fin.natAdd 512 e).val < 512 by simp)]
    exact congrArg ob (congrArg (ix2 _) (Fin.ext (by simp)))

/-- The gated sum, entry by entry. -/
theorem res_eq (X : FVec Ideal S256x1024 .f32) (gt : FVec Ideal S1x256x1024 .f32) (Y : FVec Ideal S256x1024 .f32) (r : Fin 256) (k : Fin 1024) :
    res X gt Y (ix2 r k) = X (ix2 r k) + gt (ix3 0 r k) * Y (ix2 r k) := by
  pointwise [res]

/-- The modulation, entry by entry. -/
theorem modu_eq (Y : FVec Ideal S256x1024 .f32) (sc : FVec Ideal S1x256x1024 .f32) (sh : FVec Ideal S1x256x1024 .f32) (r : Fin 256) (k : Fin 1024) :
    modu Y sc sh (ix2 r k) = Y (ix2 r k) * (1 + sc (ix3 0 r k)) + sh (ix3 0 r k) := by
  pointwise [modu]

/-- The feed-forward layer, row by row. -/
theorem ffn_eq (X : FVec Ideal S256x1024 .f32) (wu : FVec Ideal S4x1024x4096 .bf16) (wd : FVec Ideal S4x4096x1024 .bf16) (r : Fin 256) (k : Fin 1024) :
    ffn X wu wd (ix2 r k) = mlpRow (n := 4096) (fun k => X (ix2 r k)) (fun e f => wu (ix3 3 e f)) (fun f k => wd (ix3 3 f k)) k := by
  pointwise [ffn, hid, mlpRow]

/-- The reference's arguments at launch. -/
def argsR (m : (ℓ : Loc nD τ sig) → Buf (Elt Ideal) ℓ) (c : Dev nD) : Cert.MlpS.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12)⟩

end Cert.MlpS.Ref

namespace Cert.MlpS

open Idealize.ShloMosaic
open Cert.Mlp (rmsRow mlpRow_congr mlpRow_blocks)

/-- The reference's residual after the mixer, as a function of its arguments. -/
def resOf (a : Args) : Ref.B2 := Ref.res a.x a.gt1 (Ref.rms (Ref.proj a.oa a.ob a.wo) a.g1)

/-- The reference's result as a function of its arguments. -/
def refOf (a : Args) : Ref.B2 :=
  Ref.res (resOf a) a.gt2 (Ref.rms (Ref.ffn (Ref.modu (Ref.rms (resOf a) a.g2) a.sc a.sh) a.wu a.wd) a.g3)

/-- The reference's result at an entry: the layer's output row. -/
theorem ref_eq (a : Args) (R : Fin 256) (k : Fin 1024) : refOf a (ix2 R k) = OUT a R k := by
  have hX : ∀ k : Fin 1024, resOf a (ix2 R k) = X1 a R k := fun k => by
    refine (Ref.res_eq _ _ _ _ _).trans ?_
    rw [Ref.rms_eq]
    simp only [Ref.proj_eq]
    rfl
  have hM : ∀ k : Fin 1024, Ref.modu (Ref.rms (resOf a) a.g2) a.sc a.sh (ix2 R k) = XM a R k := fun k => by
    rw [Ref.modu_eq, Ref.rms_eq, funext hX]
    rfl
  refine (Ref.res_eq _ _ _ _ _).trans ?_
  refine congrArg₂ (· + ·) (hX k) (congrArg₂ (· * ·) rfl ((Ref.rms_eq _ _ _ _).trans ?_))
  refine congrArg (fun y => rmsRow y _ k) (funext fun k => ?_)
  refine (Ref.ffn_eq _ _ _ _ _).trans ((mlpRow_congr hM (fun _ _ => rfl) (fun _ _ => rfl) rfl).trans ((mlpRow_blocks _ _ _ _).trans ?_))
  rfl

/-- The layer's second half on the sample and its reference give equal results. -/
theorem algebraic : Cert.algebraic_Kernel8Ideal_Reference8Ideal := by
  pair_intro
  · run_from Cert.Kernel8Ideal.Value.run m g
  · run_from Cert.Reference8Ideal.Value.run m' g'
    funext i
    have hargs : Ref.argsR m' c = args m c := by
      obtain ⟨h0, h1, h2, h3, h4, h5, h6, h7, h8, h9, h10, h11, h12⟩ := hagree c
      unfold Ref.argsR args
      congr
    have hres : Cert.Reference8Ideal.Value.res_main_v60 m' c = refOf (Ref.argsR m' c) := rfl
    have hi : i = ix2 (i 0) (i 1) := by funext d; match d with | ⟨0, _⟩ => rfl | ⟨1, _⟩ => rfl
    rw [hres, hargs, hi]
    exact (ref_eq (args m c) (i 0) (i 1)).trans (out_eq m c (ix2 (i 0) (i 1))).symm

end Cert.MlpS

end
-- ==== Proof.lean ====
module

public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.AttnFrame
public import proofs.«01_k».proof.Proof.AttnIFrame
public import proofs.«01_k».proof.Proof.ProjAlg
public import proofs.«01_k».proof.Proof.MlpAlg
public import proofs.«01_k».proof.Proof.FlashAlg
public import proofs.«01_k».proof.Proof.PrepAlg
public import proofs.«01_k».proof.Proof.GateAlg
public import proofs.«01_k».proof.Proof.ProjSAlg
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.GmlpAlg
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.MlpSAlg
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, by
  exact ⟨fun m ρ _ => Cert.Kernel.Attn.frame _ m ρ,
    fun m ρ _ => Cert.KernelIdeal.Attn.frame _ m ρ,
    fun m ρ _ => (θ_run _ _ _).mono (fun r h => ⟨fun c => (h c).2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => (θ_run _ _ _).mono (fun r h => ⟨fun c => (h c).2, sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run _ _ _).mono (fun r h => ⟨fun c => (h c).2, sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => (θ_run _ _ _).mono (fun r h => ⟨fun c => (h c).2.2.2, sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => (θ_run _ _ _).mono (fun r h => ⟨fun c => (h c).2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => (θ_run _ _ _).mono (fun r h => ⟨fun c => (h c).2, sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => (θ_run _ _ _).mono (fun r h => ⟨fun c => (h c).2, sem_eq_zero_of_no_sems (by decide) r.2⟩) (Cert.Reference7Ideal.Value.run m ρ),
    fun m ρ _ => Cert.Kernel8.Gen.frame m ρ,
    fun m ρ _ => Cert.Kernel8Ideal.Gen.frame m ρ,
    fun m ρ _ => (θ_run _ _ _).mono (fun r h => ⟨fun c => (h c).2, sem_eq_zero_of_no_sems (by decide) r.2⟩) (Cert.Reference8Ideal.Value.run m ρ),
    trivial,
    Cert.Flash.algebraic,
    trivial,
    Cert.Mlp.algebraic,
    trivial,
    Cert.Proj.algebraic,
    trivial,
    Cert.Prep.algebraic,
    trivial,
    Cert.Gate.algebraic,
    trivial,
    Cert.ProjS.algebraic,
    trivial,
    Cert.Gmlp.algebraic,
    trivial,
    Cert.MlpS.algebraic⟩⟩

end Cert.Proof

end
